-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x16x128 : Shape := ⟨3, ![16, 16, 128]⟩
abbrev S256x128 : Shape := ⟨2, ![256, 128]⟩
abbrev S512x16x256 : Shape := ⟨3, ![512, 16, 256]⟩
abbrev S4x16x2 : Shape := ⟨3, ![4, 16, 2]⟩
abbrev S4096x512 : Shape := ⟨2, ![4096, 512]⟩
abbrev S4096x4 : Shape := ⟨2, ![4096, 4]⟩
abbrev S4096x64 : Shape := ⟨2, ![4096, 64]⟩
abbrev S4x2x16 : Shape := ⟨3, ![4, 2, 16]⟩
abbrev S8x16 : Shape := ⟨2, ![8, 16]⟩
abbrev S4x4096 : Shape := ⟨2, ![4, 4096]⟩
abbrev S64x4096 : Shape := ⟨2, ![64, 4096]⟩
abbrev S10x16x128 : Shape := ⟨3, ![10, 16, 128]⟩
abbrev S10x16 : Shape := ⟨2, ![10, 16]⟩
abbrev S16x512x256 : Shape := ⟨3, ![16, 512, 256]⟩
abbrev S4096x256 : Shape := ⟨2, ![4096, 256]⟩
abbrev S4x256x128 : Shape := ⟨3, ![4, 256, 128]⟩
abbrev S2x256x128 : Shape := ⟨3, ![2, 256, 128]⟩
abbrev S12 : Shape := ⟨1, ![12]⟩
abbrev S1 : Shape := ⟨1, ![1]⟩
abbrev S_ : Shape := ⟨0, ![]⟩
abbrev S16x128 : Shape := ⟨2, ![16, 128]⟩
abbrev S128x1x128 : Shape := ⟨3, ![128, 1, 128]⟩
abbrev S128x128 : Shape := ⟨2, ![128, 128]⟩
abbrev S1x1 : Shape := ⟨2, ![1, 1]⟩
abbrev S1x128x128 : Shape := ⟨3, ![1, 128, 128]⟩
abbrev S4x512 : Shape := ⟨2, ![4, 512]⟩
abbrev S512x4 : Shape := ⟨2, ![512, 4]⟩
abbrev S512x128 : Shape := ⟨2, ![512, 128]⟩
abbrev S512x1 : Shape := ⟨2, ![512, 1]⟩
abbrev S1x512x256 : Shape := ⟨3, ![1, 512, 256]⟩
abbrev S512x256 : Shape := ⟨2, ![512, 256]⟩
abbrev S1x16x128 : Shape := ⟨3, ![1, 16, 128]⟩
abbrev S512x512 : Shape := ⟨2, ![512, 512]⟩
abbrev S4096x128 : Shape := ⟨2, ![4096, 128]⟩
abbrev S16x4096 : Shape := ⟨2, ![16, 4096]⟩
abbrev S16x64 : Shape := ⟨2, ![16, 64]⟩
abbrev S16 : Shape := ⟨1, ![16]⟩
abbrev S16x1 : Shape := ⟨2, ![16, 1]⟩
abbrev S10x128 : Shape := ⟨2, ![10, 128]⟩
abbrev S10x1x128 : Shape := ⟨3, ![10, 1, 128]⟩
abbrev S16x512 : Shape := ⟨2, ![16, 512]⟩

abbrev nBuf : Space → Nat
  | .hbm => 13
  | .vmem => 13
  | .smem => 1
  | _ => 0

abbrev bufTy : (tb : Table) → Fin (tcTables nBuf tb) → BufTy
  | .hbm, ⟨0, _⟩ => ⟨S16x16x128, .bf16⟩
  | .hbm, ⟨1, _⟩ => ⟨S256x128, .f32⟩
  | .hbm, ⟨2, _⟩ => ⟨S512x16x256, .fp8e4m3⟩
  | .hbm, ⟨3, _⟩ => ⟨S4x16x2, .f32⟩
  | .hbm, ⟨4, _⟩ => ⟨S4096x512, .fp8e4m3⟩
  | .hbm, ⟨5, _⟩ => ⟨S4096x4, .f32⟩
  | .hbm, ⟨6, _⟩ => ⟨S4096x64, .bf16⟩
  | .hbm, ⟨7, _⟩ => ⟨S4x2x16, .f32⟩
  | .hbm, ⟨8, _⟩ => ⟨S8x16, .f32⟩
  | .hbm, ⟨9, _⟩ => ⟨S4x4096, .f32⟩
  | .hbm, ⟨10, _⟩ => ⟨S64x4096, .bf16⟩
  | .hbm, ⟨11, _⟩ => ⟨S10x16x128, .f32⟩
  | .hbm, ⟨12, _⟩ => ⟨S10x16, .f32⟩
  | .local _ .vmem, ⟨0, _⟩ => ⟨S16x16x128, .bf16⟩
  | .local _ .vmem, ⟨1, _⟩ => ⟨S256x128, .f32⟩
  | .local _ .vmem, ⟨2, _⟩ => ⟨S10x16x128, .f32⟩
  | .local _ .vmem, ⟨3, _⟩ => ⟨S10x16, .f32⟩
  | .local _ .vmem, ⟨4, _⟩ => ⟨S512x16x256, .fp8e4m3⟩
  | .local _ .vmem, ⟨5, _⟩ => ⟨S4096x512, .fp8e4m3⟩
  | .local _ .vmem, ⟨6, _⟩ => ⟨S4x4096, .f32⟩
  | .local _ .vmem, ⟨7, _⟩ => ⟨S64x4096, .bf16⟩
  | .local _ .vmem, ⟨8, _⟩ => ⟨S16x512x256, .bf16⟩
  | .local _ .vmem, ⟨9, _⟩ => ⟨S4096x512, .bf16⟩
  | .local _ .vmem, ⟨10, _⟩ => ⟨S4096x256, .bf16⟩
  | .local _ .vmem, ⟨11, _⟩ => ⟨S4x256x128, .f32⟩
  | .local _ .vmem, ⟨12, _⟩ => ⟨S2x256x128, .f32⟩
  | .local _ .smem, ⟨0, _⟩ => ⟨S8x16, .f32⟩
  | _, _ => ⟨S16x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v1295 : BitVec 32 := Scalar.addi c0_i32 c8_i32
  let c1_i32_1008 : BitVec 32 := 1#32
  ⟨c0_i32, v1295, c1_i32_1008⟩
def k0_mult1 (k0_t1 : Fin k0_t1_loop.trips) : BitVec 32 :=
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  v1384
def k0_off1 (k0_t1 : Fin k0_t1_loop.trips) : Fin 2 → Nat :=
  let c0_1057 : Index := 0#32
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  let v1385 : BitVec 32 := v1384
  let v1386 : Index := Scalar.indexCast v1385
  ![0, v1386.toNat]
def k0_off2 (k0_t1 : Fin k0_t1_loop.trips) : Fin 2 → Nat :=
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  let v1385 : BitVec 32 := v1384
  let v1389 : Index := Scalar.indexCast v1385
  let c0_1058 : Index := 0#32
  ![v1389.toNat, 0]
def k0_off3 (k0_t1 : Fin k0_t1_loop.trips) : Fin 2 → Nat :=
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  let v1385 : BitVec 32 := v1384
  let v1400 : Index := Scalar.indexCast v1385
  let c128_1060 : Index := 128#32
  ![v1400.toNat, 128]
def k0_off4 (k0_t1 : Fin k0_t1_loop.trips) : Fin 2 → Nat :=
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  let v1385 : BitVec 32 := v1384
  let v1411 : Index := Scalar.indexCast v1385
  let c256_1062 : Index := 256#32
  ![v1411.toNat, 256]
def k0_off5 (k0_t1 : Fin k0_t1_loop.trips) : Fin 2 → Nat :=
  let c0_i32 : BitVec 32 := 0#32
  let c1_i32_1008 : BitVec 32 := 1#32
  let arg19 : BitVec 32 := Scf.iv c0_i32 c1_i32_1008 k0_t1
  let c512_i32 : BitVec 32 := 512#32
  let v1384 : BitVec 32 := Scalar.muli arg19 c512_i32
  let v1385 : BitVec 32 := v1384
  let v1422 : Index := Scalar.indexCast v1385
  let c384_1064 : Index := 384#32
  ![v1422.toNat, 384]
@[reducible] def k0_t2_loop : Scf.Loop 32 :=
  let c0_i32_1011 : BitVec 32 := 0#32
  let c16_i32 : BitVec 32 := 16#32
  let v1298 : BitVec 32 := Scalar.addi c0_i32_1011 c16_i32
  let c1_i32_1012 : BitVec 32 := 1#32
  ⟨c0_i32_1011, v1298, c1_i32_1012⟩
def k0_off6 (k0_t2 : Fin k0_t2_loop.trips) : Fin 3 → Nat :=
  let c0_i32_1011 : BitVec 32 := 0#32
  let c1_i32_1012 : BitVec 32 := 1#32
  let arg19 : BitVec 32 := Scf.iv c0_i32_1011 c1_i32_1012 k0_t2
  let v1384 : Index := Scalar.indexCast arg19
  let c0_1057 : Index := 0#32
  let c0_1058 : Index := 0#32
  ![v1384.toNat, 0, 0]
def k0_off7 (k0_t2 : Fin k0_t2_loop.trips) : Fin 3 → Nat :=
  let c0_i32_1011 : BitVec 32 := 0#32
  let c1_i32_1012 : BitVec 32 := 1#32
  let arg19 : BitVec 32 := Scf.iv c0_i32_1011 c1_i32_1012 k0_t2
  let v1387 : Index := Scalar.indexCast arg19
  let c0_1059 : Index := 0#32
  let c0_1060 : Index := 0#32
  ![v1387.toNat, 0, 0]
@[reducible] def k0_t3_loop : Scf.Loop 32 :=
  let c0_i32_1061 : BitVec 32 := 0#32
  let c8_i32_1062 : BitVec 32 := 8#32
  let v1390 : BitVec 32 := Scalar.addi c0_i32_1061 c8_i32_1062
  let c1_i32_1063 : BitVec 32 := 1#32
  ⟨c0_i32_1061, v1390, c1_i32_1063⟩
def k0_mult2 (k0_t3 : Fin k0_t3_loop.trips) : BitVec 32 :=
  let c0_i32_1061 : BitVec 32 := 0#32
  let c1_i32_1063 : BitVec 32 := 1#32
  let arg20 : BitVec 32 := Scf.iv c0_i32_1061 c1_i32_1063 k0_t3
  let c512_i32 : BitVec 32 := 512#32
  let v1467 : BitVec 32 := Scalar.muli arg20 c512_i32
  v1467
def k0_off8 (k0_t3 : Fin k0_t3_loop.trips) : Fin 2 → Nat :=
  let c0_i32_1061 : BitVec 32 := 0#32
  let c1_i32_1063 : BitVec 32 := 1#32
  let arg20 : BitVec 32 := Scf.iv c0_i32_1061 c1_i32_1063 k0_t3
  let c512_i32 : BitVec 32 := 512#32
  let v1467 : BitVec 32 := Scalar.muli arg20 c512_i32
  let v1468 : BitVec 32 := v1467
  let v1469 : Index := Scalar.indexCast v1468
  let c0_1100 : Index := 0#32
  ![v1469.toNat, 0]
def k0_off9 (k0_t3 : Fin k0_t3_loop.trips) : Fin 2 → Nat :=
  let c0_i32_1061 : BitVec 32 := 0#32
  let c1_i32_1063 : BitVec 32 := 1#32
  let arg20 : BitVec 32 := Scf.iv c0_i32_1061 c1_i32_1063 k0_t3
  let c512_i32 : BitVec 32 := 512#32
  let v1467 : BitVec 32 := Scalar.muli arg20 c512_i32
  let v1468 : BitVec 32 := v1467
  let v1473 : Index := Scalar.indexCast v1468
  let c0_1102 : Index := 0#32
  ![v1473.toNat, 0]
def k0_mult3 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1068 : BitVec 32 := 16#32
  let v1393 : BitVec 32 := Scalar.muli arg19 c16_i32_1068
  v1393
def k0_off10 (k0_t2 : Fin k0_t2_loop.trips) : Fin 2 → Nat :=
  let c0_i32_1011 : BitVec 32 := 0#32
  let c1_i32_1012 : BitVec 32 := 1#32
  let arg19 : BitVec 32 := Scf.iv c0_i32_1011 c1_i32_1012 k0_t2
  let c16_i32_1068 : BitVec 32 := 16#32
  let v1393 : BitVec 32 := Scalar.muli arg19 c16_i32_1068
  let v1394 : BitVec 32 := v1393
  let v1395 : Index := Scalar.indexCast v1394
  let c0_1069 : Index := 0#32
  ![v1395.toNat, 0]
def k0_off11 (k0_t2 : Fin k0_t2_loop.trips) : Fin 3 → Nat :=
  let c0_1080 : Index := 0#32
  let c0_i32_1011 : BitVec 32 := 0#32
  let c1_i32_1012 : BitVec 32 := 1#32
  let arg19 : BitVec 32 := Scf.iv c0_i32_1011 c1_i32_1012 k0_t2
  let v1421 : Index := Scalar.indexCast arg19
  let c0_1081 : Index := 0#32
  ![0, v1421.toNat, 0]
def k0_mult4 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1084 : BitVec 32 := 16#32
  let v1431 : BitVec 32 := Scalar.muli arg19 c16_i32_1084
  v1431
def k0_off12 (k0_t2 : Fin k0_t2_loop.trips) : Fin 3 → Nat :=
  let c0_1085 : Index := 0#32
  let c0_i32_1011 : BitVec 32 := 0#32
  let c1_i32_1012 : BitVec 32 := 1#32
  let arg19 : BitVec 32 := Scf.iv c0_i32_1011 c1_i32_1012 k0_t2
  let c16_i32_1084 : BitVec 32 := 16#32
  let v1431 : BitVec 32 := Scalar.muli arg19 c16_i32_1084
  let v1432 : BitVec 32 := v1431
  let v1433 : Index := Scalar.indexCast v1432
  let c0_1086 : Index := 0#32
  ![0, v1433.toNat, 0]
def k0_mult5 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1088 : BitVec 32 := 16#32
  let v1440 : BitVec 32 := Scalar.muli arg19 c16_i32_1088
  v1440
def k0_off13 (k0_t2 : Fin k0_t2_loop.trips) : Fin 3 → Nat :=
  let c0_1089 : Index := 0#32
  let c0_i32_1011 : BitVec 32 := 0#32
  let c1_i32_1012 : BitVec 32 := 1#32
  let arg19 : BitVec 32 := Scf.iv c0_i32_1011 c1_i32_1012 k0_t2
  let c16_i32_1088 : BitVec 32 := 16#32
  let v1440 : BitVec 32 := Scalar.muli arg19 c16_i32_1088
  let v1441 : BitVec 32 := v1440
  let v1442 : Index := Scalar.indexCast v1441
  let c0_1090 : Index := 0#32
  ![0, v1442.toNat, 0]
def k0_mult6 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1091 : BitVec 32 := 16#32
  let v1447 : BitVec 32 := Scalar.muli arg19 c16_i32_1091
  v1447
def k0_off14 (k0_t2 : Fin k0_t2_loop.trips) : Fin 3 → Nat :=
  let c1_1092 : Index := 1#32
  let c0_i32_1011 : BitVec 32 := 0#32
  let c1_i32_1012 : BitVec 32 := 1#32
  let arg19 : BitVec 32 := Scf.iv c0_i32_1011 c1_i32_1012 k0_t2
  let c16_i32_1091 : BitVec 32 := 16#32
  let v1447 : BitVec 32 := Scalar.muli arg19 c16_i32_1091
  let v1448 : BitVec 32 := v1447
  let v1449 : Index := Scalar.indexCast v1448
  let c0_1093 : Index := 0#32
  ![1, v1449.toNat, 0]
def k0_mult7 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1094 : BitVec 32 := 16#32
  let v1454 : BitVec 32 := Scalar.muli arg19 c16_i32_1094
  v1454
def k0_off15 (k0_t2 : Fin k0_t2_loop.trips) : Fin 3 → Nat :=
  let c2_1095 : Index := 2#32
  let c0_i32_1011 : BitVec 32 := 0#32
  let c1_i32_1012 : BitVec 32 := 1#32
  let arg19 : BitVec 32 := Scf.iv c0_i32_1011 c1_i32_1012 k0_t2
  let c16_i32_1094 : BitVec 32 := 16#32
  let v1454 : BitVec 32 := Scalar.muli arg19 c16_i32_1094
  let v1455 : BitVec 32 := v1454
  let v1456 : Index := Scalar.indexCast v1455
  let c0_1096 : Index := 0#32
  ![2, v1456.toNat, 0]
def k0_mult8 (k0_t2 : Fin k0_t2_loop.trips) : BitVec 32 :=
  let c0_i32_1011 : BitVec 32 := 0#32
  let c1_i32_1012 : BitVec 32 := 1#32
  let arg19 : BitVec 32 := Scf.iv c0_i32_1011 c1_i32_1012 k0_t2
  let c16_i32_1097 : BitVec 32 := 16#32
  let v1461 : BitVec 32 := Scalar.muli arg19 c16_i32_1097
  v1461
def k0_off16 (k0_t2 : Fin k0_t2_loop.trips) : Fin 3 → Nat :=
  let c3_1098 : Index := 3#32
  let c0_i32_1011 : BitVec 32 := 0#32
  let c1_i32_1012 : BitVec 32 := 1#32
  let arg19 : BitVec 32 := Scf.iv c0_i32_1011 c1_i32_1012 k0_t2
  let c16_i32_1097 : BitVec 32 := 16#32
  let v1461 : BitVec 32 := Scalar.muli arg19 c16_i32_1097
  let v1462 : BitVec 32 := v1461
  let v1463 : Index := Scalar.indexCast v1462
  let c0_1099 : Index := 0#32
  ![3, v1463.toNat, 0]
abbrev stage0_0 : Fin 1 → Memref sig .tc .vmem S16x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16x16x128 : Shape := ⟨3, ![16, 16, 128]⟩
abbrev S256x128 : Shape := ⟨2, ![256, 128]⟩
abbrev S512x16x256 : Shape := ⟨3, ![512, 16, 256]⟩
abbrev S4x16x2 : Shape := ⟨3, ![4, 16, 2]⟩
abbrev S4096x512 : Shape := ⟨2, ![4096, 512]⟩
abbrev S4096x4 : Shape := ⟨2, ![4096, 4]⟩
abbrev S4096x64 : Shape := ⟨2, ![4096, 64]⟩
abbrev S16x10x128 : Shape := ⟨3, ![16, 10, 128]⟩
abbrev S10x16x128 : Shape := ⟨3, ![10, 16, 128]⟩
abbrev S16x10x64 : Shape := ⟨3, ![16, 10, 64]⟩
abbrev S10x16x64 : Shape := ⟨3, ![10, 16, 64]⟩
abbrev S4x128x16x2 : Shape := ⟨4, ![4, 128, 16, 2]⟩
abbrev S512x16x2 : Shape := ⟨3, ![512, 16, 2]⟩
abbrev S512x16x2x128 : Shape := ⟨4, ![512, 16, 2, 128]⟩
abbrev S512x16x128 : Shape := ⟨3, ![512, 16, 128]⟩
abbrev S4096x4x128 : Shape := ⟨3, ![4096, 4, 128]⟩
abbrev S16x128x4096 : Shape := ⟨3, ![16, 128, 4096]⟩
abbrev S16x4096x128 : Shape := ⟨3, ![16, 4096, 128]⟩
abbrev S16x4096x10 : Shape := ⟨3, ![16, 4096, 10]⟩
abbrev S10x16x4096 : Shape := ⟨3, ![10, 16, 4096]⟩
abbrev S_ : Shape := ⟨0, ![]⟩
abbrev S10x16 : Shape := ⟨2, ![10, 16]⟩
abbrev S10x16x1 : Shape := ⟨3, ![10, 16, 1]⟩
abbrev S16x128x10 : Shape := ⟨3, ![16, 128, 10]⟩

abbrev nBuf : Space → Nat
  | .hbm => 71
  | .vmem => 4
  | .smem => 0
  | _ => 0

abbrev bufTy : (tb : Table) → Fin (tcTables nBuf tb) → BufTy
  | .hbm, ⟨0, _⟩ => ⟨S16x16x128, .bf16⟩
  | .hbm, ⟨1, _⟩ => ⟨S256x128, .f32⟩
  | .hbm, ⟨2, _⟩ => ⟨S512x16x256, .fp8e4m3⟩
  | .hbm, ⟨3, _⟩ => ⟨S4x16x2, .f32⟩
  | .hbm, ⟨4, _⟩ => ⟨S4096x512, .fp8e4m3⟩
  | .hbm, ⟨5, _⟩ => ⟨S4096x4, .f32⟩
  | .hbm, ⟨6, _⟩ => ⟨S4096x64, .bf16⟩
  | .hbm, ⟨7, _⟩ => ⟨S512x16x256, .bf16⟩
  | .hbm, ⟨8, _⟩ => ⟨S4096x512, .bf16⟩
  | .hbm, ⟨9, _⟩ => ⟨S16x10x128, .bf16⟩
  | .hbm, ⟨10, _⟩ => ⟨S10x16x128, .bf16⟩
  | .hbm, ⟨11, _⟩ => ⟨S16x16x128, .f32⟩
  | .hbm, ⟨12, _⟩ => ⟨S16x10x64, .f32⟩
  | .hbm, ⟨13, _⟩ => ⟨S10x16x64, .f32⟩
  | .hbm, ⟨14, _⟩ => ⟨S10x16x64, .bf16⟩
  | .hbm, ⟨15, _⟩ => ⟨S4x128x16x2, .f32⟩
  | .hbm, ⟨16, _⟩ => ⟨S512x16x2, .f32⟩
  | .hbm, ⟨17, _⟩ => ⟨S512x16x2x128, .f32⟩
  | .hbm, ⟨18, _⟩ => ⟨S512x16x256, .f32⟩
  | .hbm, ⟨19, _⟩ => ⟨S512x16x256, .bf16⟩
  | .hbm, ⟨20, _⟩ => ⟨S512x16x256, .bf16⟩
  | .hbm, ⟨21, _⟩ => ⟨S512x16x128, .bf16⟩
  | .hbm, ⟨22, _⟩ => ⟨S512x16x128, .bf16⟩
  | .hbm, ⟨23, _⟩ => ⟨S4096x4x128, .f32⟩
  | .hbm, ⟨24, _⟩ => ⟨S4096x512, .f32⟩
  | .hbm, ⟨25, _⟩ => ⟨S4096x512, .bf16⟩
  | .hbm, ⟨26, _⟩ => ⟨S4096x512, .bf16⟩
  | .hbm, ⟨27, _⟩ => ⟨S16x128x4096, .f32⟩
  | .hbm, ⟨28, _⟩ => ⟨S16x4096x128, .f32⟩
  | .hbm, ⟨29, _⟩ => ⟨S16x4096x128, .bf16⟩
  | .hbm, ⟨30, _⟩ => ⟨S16x128x4096, .f32⟩
  | .hbm, ⟨31, _⟩ => ⟨S16x4096x128, .f32⟩
  | .hbm, ⟨32, _⟩ => ⟨S16x4096x128, .bf16⟩
  | .hbm, ⟨33, _⟩ => ⟨S16x4096x10, .f32⟩
  | .hbm, ⟨34, _⟩ => ⟨S10x16x4096, .f32⟩
  | .hbm, ⟨35, _⟩ => ⟨S10x16x4096, .f32⟩
  | .hbm, ⟨36, _⟩ => ⟨S10x16x4096, .f32⟩
  | .hbm, ⟨37, _⟩ => ⟨S_, .f32⟩
  | .hbm, ⟨38, _⟩ => ⟨S10x16x4096, .f32⟩
  | .hbm, ⟨39, _⟩ => ⟨S10x16x4096, .f32⟩
  | .hbm, ⟨40, _⟩ => ⟨S_, .f32⟩
  | .hbm, ⟨41, _⟩ => ⟨S10x16x4096, .f32⟩
  | .hbm, ⟨42, _⟩ => ⟨S10x16x4096, .f32⟩
  | .hbm, ⟨43, _⟩ => ⟨S_, .f32⟩
  | .hbm, ⟨44, _⟩ => ⟨S10x16, .f32⟩
  | .hbm, ⟨45, _⟩ => ⟨S10x16, .f32⟩
  | .hbm, ⟨46, _⟩ => ⟨S_, .f32⟩
  | .hbm, ⟨47, _⟩ => ⟨S10x16x4096, .f32⟩
  | .hbm, ⟨48, _⟩ => ⟨S10x16x1, .f32⟩
  | .hbm, ⟨49, _⟩ => ⟨S10x16x4096, .f32⟩
  | .hbm, ⟨50, _⟩ => ⟨S10x16x4096, .f32⟩
  | .hbm, ⟨51, _⟩ => ⟨S10x16x4096, .f32⟩
  | .hbm, ⟨52, _⟩ => ⟨S_, .f32⟩
  | .hbm, ⟨53, _⟩ => ⟨S10x16, .f32⟩
  | .hbm, ⟨54, _⟩ => ⟨S10x16x4096, .bf16⟩
  | .hbm, ⟨55, _⟩ => ⟨S16x128x10, .f32⟩
  | .hbm, ⟨56, _⟩ => ⟨S10x16x128, .f32⟩
  | .hbm, ⟨57, _⟩ => ⟨S10x16x1, .f32⟩
  | .hbm, ⟨58, _⟩ => ⟨S10x16x128, .f32⟩
  | .hbm, ⟨59, _⟩ => ⟨S10x16x128, .f32⟩
  | .hbm, ⟨60, _⟩ => ⟨S10x16, .f32⟩
  | .hbm, ⟨61, _⟩ => ⟨S_, .f32⟩
  | .hbm, ⟨62, _⟩ => ⟨S10x16, .f32⟩
  | .hbm, ⟨63, _⟩ => ⟨S10x16, .f32⟩
  | .hbm, ⟨64, _⟩ => ⟨S10x16, .f32⟩
  | .hbm, ⟨65, _⟩ => ⟨S_, .f32⟩
  | .hbm, ⟨66, _⟩ => ⟨S10x16, .f32⟩
  | .hbm, ⟨67, _⟩ => ⟨S10x16, .f32⟩
  | .hbm, ⟨68, _⟩ => ⟨S_, .f32⟩
  | .hbm, ⟨69, _⟩ => ⟨S10x16, .f32⟩
  | .hbm, ⟨70, _⟩ => ⟨S10x16, .f32⟩
  | .local _ .vmem, ⟨0, _⟩ => ⟨S512x16x256, .fp8e4m3⟩
  | .local _ .vmem, ⟨1, _⟩ => ⟨S4096x512, .fp8e4m3⟩
  | .local _ .vmem, ⟨2, _⟩ => ⟨S512x16x256, .bf16⟩
  | .local _ .vmem, ⟨3, _⟩ => ⟨S4096x512, .bf16⟩
  | _, _ => ⟨S16x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x16x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Kit.lean ====
/- The pieces every run of the kernel's body is stated over: the program's main function up to its one
   region, each window's block at entry, the scratch buffers, the arrays the body copies itself, and the
   kernel's own transfer semaphores. Everything is stated over the resource algebra with a counter per
   semaphore, the one the library's launch theorem for a kernel with transfers of its own asks for. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- One staging buffer of output window 3, through which its contents are stated (`View.read_writes_of_cover`: the
    choice does not matter). -/
abbrev VO0_3 : View sig .tc .vmem S10x16x128 .f32 := (Memref.whole cc0_stg3_0 : Memref sig .tc .vmem S10x16x128 .f32).view
/-- One staging buffer of output window 4, through which its contents are stated (`View.read_writes_of_cover`: the
    choice does not matter). -/
abbrev VO0_4 : View sig .tc .vmem S10x16 .f32 := (Memref.whole cc0_stg4_0 : Memref sig .tc .vmem S10x16 .f32).view
/-- Each window's current staging memref at point `t`, spelled as the pipeline passes it (`bodyAt0`), and its wholeness. -/
abbrev ms0_0 (t : Fin cfg0.N) : Memref sig .tc .vmem S16x16x128 .bf16 := win0_0.stage (cfg0.slots t 0)
abbrev hs0_0 (t : Fin cfg0.N) : (ms0_0 t).IsWhole := hstage0_0 0
abbrev ms0_1 (t : Fin cfg0.N) : Memref sig .tc .vmem S256x128 .f32 := win0_1.stage (cfg0.slots t 1)
abbrev hs0_1 (t : Fin cfg0.N) : (ms0_1 t).IsWhole := hstage0_1 0
abbrev ms0_2 (t : Fin cfg0.N) : Memref sig .tc .smem S8x16 .f32 := win0_2.stage (cfg0.slots t 2)
abbrev hs0_2 (t : Fin cfg0.N) : (ms0_2 t).IsWhole := hstage0_2 0
abbrev ms0_3 (t : Fin cfg0.N) : Memref sig .tc .vmem S10x16x128 .f32 := win0_3.stage (cfg0.slots t 3)
abbrev hs0_3 (t : Fin cfg0.N) : (ms0_3 t).IsWhole := hstage0_3 0
abbrev ms0_4 (t : Fin cfg0.N) : Memref sig .tc .vmem S10x16 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S512x16x256 .fp8e4m3 := Memref.whole cc0_scratch0
abbrev scM0_1 : Memref sig .tc .vmem S4096x512 .fp8e4m3 := Memref.whole cc0_scratch1
abbrev scM0_2 : Memref sig .tc .vmem S4x4096 .f32 := Memref.whole cc0_scratch2
abbrev scM0_3 : Memref sig .tc .vmem S64x4096 .bf16 := Memref.whole cc0_scratch3
abbrev scM0_4 : Memref sig .tc .vmem S16x512x256 .bf16 := Memref.whole cc0_scratch4
abbrev scM0_5 : Memref sig .tc .vmem S4096x512 .bf16 := Memref.whole cc0_scratch5
abbrev scM0_6 : Memref sig .tc .vmem S4096x256 .bf16 := Memref.whole cc0_scratch6
abbrev scM0_7 : Memref sig .tc .vmem S4x256x128 .f32 := Memref.whole cc0_scratch7
abbrev scM0_8 : Memref sig .tc .vmem S2x256x128 .f32 := Memref.whole cc0_scratch8
/-- The operands left in HBM that the body copies into scratch itself, whole. -/
abbrev hbM0_0 : Memref sig .tc .hbm S512x16x256 .fp8e4m3 := Memref.whole main_arg2
abbrev hbM0_1 : Memref sig .tc .hbm S4096x512 .fp8e4m3 := Memref.whole main_arg4
abbrev hbM0_2 : Memref sig .tc .hbm S4x4096 .f32 := Memref.whole main_v2
abbrev hbM0_3 : Memref sig .tc .hbm S64x4096 .bf16 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_arg2, main_arg4, main_v2, main_v3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg4) ∗ hbPt0 c hbM0_2 (V m c main_v2) ∗ hbPt0 c hbM0_3 (V m c main_v3)) := by
  rw [BI.bigSep_eq_bigSepL_of_eq [main_arg2, main_arg4, main_v2, main_v3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2) ∗ hbPt0 c hbM0_1 (V m c main_arg4) ∗ hbPt0 c hbM0_2 (V m c main_v2) ∗ hbPt0 c hbM0_3 (V m c main_v3))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.Kernel.Hand

end
-- ==== Proof.Kernel.Blocks.lean ====
/- The head matrices' preparation: what it leaves in its buffer.  The body writes the 128 blocks of the buffer one
   after another, block `n` being head `n / 8`, rows `128 * (n / 2 % 4)` and columns `128 * (n % 2)`; each is
   the block of codes times one scale.  Here: the blocks, the value of the whole buffer, and the fact
   "the first `n` blocks are in place" with its step. -/
module

public import proofs.«01_k».proof.Proof.Kernel.Kit
public import Idealize.ShloMosaic.Lib.ValueIdxCore

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block of codes of step `n` lies inside the array of codes. -/
theorem wIn_inb (n : ℕ) : ∀ a, (![128 * (n / 2 % 4), n / 8 % 16, 128 * (n % 2)] : Fin 3 → Nat) a + S128x1x128.size a ≤ S512x16x256.size a := by
  intro a
  match a with
  | 0 => show 128 * (n / 2 % 4) + 128 ≤ 512; omega
  | 1 => show n / 8 % 16 + 1 ≤ 16; omega
  | 2 => show 128 * (n % 2) + 128 ≤ 256; omega

/-- The scale of step `n` lies inside the table of scales. -/
theorem wSc_inb (n : ℕ) : ∀ a, (![n % 8, n / 8 % 16] : Fin 2 → Nat) a + S1x1.size a ≤ S8x16.size a := by
  intro a
  match a with
  | 0 => show n % 8 + 1 ≤ 8; omega
  | 1 => show n / 8 % 16 + 1 ≤ 16; omega

/-- The block written at step `n` lies inside the buffer. -/
theorem wOut_inb (n : ℕ) : ∀ a, (![n / 8 % 16, 128 * (n / 2 % 4), 128 * (n % 2)] : Fin 3 → Nat) a + S1x128x128.size a ≤ S16x512x256.size a := by
  intro a
  match a with
  | 0 => show n / 8 % 16 + 1 ≤ 16; omega
  | 1 => show 128 * (n / 2 % 4) + 128 ≤ 512; omega
  | 2 => show 128 * (n % 2) + 128 ≤ 256; omega

/-- The codes read at step `n`. -/
def wIn {arg9 : Memref sig .tc .vmem S512x16x256 .fp8e4m3} (X9 : BufTy.Contents (Elt F) arg9.view.ty) (n : ℕ) : Vec F S128x1x128 .fp8e4m3 :=
  arg9.view.readAt (Elt F) (Rect.unit (s := S512x16x256) ![128 * (n / 2 % 4), n / 8 % 16, 128 * (n % 2)] S128x1x128.size (wIn_inb n)).toLoadRect X9

/-- The scale read at step `n`. -/
def wSc {arg3 : Memref sig .tc .smem S8x16 .f32} (X3 : BufTy.Contents (Elt F) arg3.view.ty) (n : ℕ) : Elt F .f32 :=
  (arg3.access (Rect.unit (s := S8x16) ![n % 8, n / 8 % 16] S1x1.size (wSc_inb n))).read (Elt F) X3 (Shape.Idx.first (numel1_S1x1.symm ▸ Nat.one_pos))

/-- The block written at step `n`. -/
def wBlk {arg9 : Memref sig .tc .vmem S512x16x256 .fp8e4m3} {arg3 : Memref sig .tc .smem S8x16 .f32}
    (X9 : BufTy.Contents (Elt F) arg9.view.ty) (X3 : BufTy.Contents (Elt F) arg3.view.ty) (n : ℕ) : Vec F S1x128x128 .bf16 :=
  k0_pay21 (wIn X9 n) (wSc X3 n)

/-- Step `n`'s write. -/
def wPiece {arg9 : Memref sig .tc .vmem S512x16x256 .fp8e4m3} {arg3 : Memref sig .tc .smem S8x16 .f32}
    (X9 : BufTy.Contents (Elt F) arg9.view.ty) (X3 : BufTy.Contents (Elt F) arg3.view.ty) (n : ℕ) : View.Piece (Elt F) S16x512x256 .bf16 :=
  ⟨Rect.unit (s := S16x512x256) ![n / 8 % 16, 128 * (n / 2 % 4), 128 * (n % 2)] S1x128x128.size (wOut_inb n), wBlk X9 X3 n⟩

/-- The step that writes the place `y`. -/
def wNum (y : S16x512x256.Idx) : ℕ := (y 0).val * 8 + (y 1).val / 128 * 2 + (y 2).val / 128

theorem wNum_lt (y : S16x512x256.Idx) : wNum y < 128 := by
  have h0 : (y 0).val < 16 := (y 0).isLt
  have h1 : (y 1).val < 512 := (y 1).isLt
  have h2 : (y 2).val < 256 := (y 2).isLt
  unfold wNum; omega

/-- The place of `y` within its block. -/
def wLoc (y : S16x512x256.Idx) : S1x128x128.Idx :=
  ValueIdx.ix3 (0 : Fin 1) (⟨(y 1).val % 128, Nat.mod_lt _ (by decide)⟩ : Fin 128) (⟨(y 2).val % 128, Nat.mod_lt _ (by decide)⟩ : Fin 128)

/-- What the preparation leaves at each place of the buffer. -/
def wVal {arg9 : Memref sig .tc .vmem S512x16x256 .fp8e4m3} {arg3 : Memref sig .tc .smem S8x16 .f32}
    (X9 : BufTy.Contents (Elt F) arg9.view.ty) (X3 : BufTy.Contents (Elt F) arg3.view.ty) : Vec F S16x512x256 .bf16 :=
  fun y => wBlk X9 X3 (wNum y) (wLoc y)

/-- The first `n` blocks of the buffer are in place. -/
def WDone {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (n : ℕ) (g : BufTy.Contents (Elt F) arg13.view.ty) : Prop :=
  ∀ y, wNum y < n → arg13.view.read (Elt F) g y = wVal X9 X3 y

theorem wdone_zero {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (g : BufTy.Contents (Elt F) arg13.view.ty) : WDone X9 X3 0 g :=
  fun _ h => absurd h (Nat.not_lt_zero _)

/-- One more block. -/
theorem wdone_step {arg9 : Memref sig .tc .vmem S512x16x256 .fp8e4m3} {arg3 : Memref sig .tc .smem S8x16 .f32} {arg13 : Memref sig .tc .vmem S16x512x256 .bf16}
    {X9 : BufTy.Contents (Elt F) arg9.view.ty} {X3 : BufTy.Contents (Elt F) arg3.view.ty} {g : BufTy.Contents (Elt F) arg13.view.ty}
    {L : List (View.Piece (Elt F) S16x512x256 .bf16)} (n : ℕ) (h : WDone X9 X3 n (arg13.view.writes (Elt F) g L)) (hn : n < 128 := by decide) :
    WDone X9 X3 (n + 1) (arg13.view.writes (Elt F) g (wPiece X9 X3 n :: L)) := by
  intro y hy
  have h0 : (y 0).val < 16 := (y 0).isLt
  have h1 : (y 1).val < 512 := (y 1).isLt
  have h2 : (y 2).val < 256 := (y 2).isLt
  rcases Nat.lt_or_ge (wNum y) n with hlt | hge
  · rw [← h y hlt]
    have hw : wNum y = (y 0).val * 8 + (y 1).val / 128 * 2 + (y 2).val / 128 := rfl
    by_cases c0 : (y 0).val = n / 8 % 16
    · by_cases c1 : (y 1).val / 128 = n / 2 % 4
      · have c2 : (y 2).val / 128 ≠ n % 2 := by omega
        exact View.read_writes_cons_miss_of_axis _ _ _ _ y 2 (128 * (n % 2)) 128 rfl rfl rfl (by omega)
      · exact View.read_writes_cons_miss_of_axis _ _ _ _ y 1 (128 * (n / 2 % 4)) 128 rfl rfl rfl (by omega)
    · exact View.read_writes_cons_miss_of_axis _ _ _ _ y 0 (n / 8 % 16) 1 rfl rfl rfl (by omega)
  · have he : wNum y = n := by omega
    have hw : wNum y = (y 0).val * 8 + (y 1).val / 128 * 2 + (y 2).val / 128 := rfl
    have hv : wVal X9 X3 y = wBlk X9 X3 n (wLoc y) := by unfold wVal; rw [he]
    rw [hv]
    refine View.read_writes_cons_hit_of_coords arg13.view g (Rect.unit (s := S16x512x256) ![n / 8 % 16, 128 * (n / 2 % 4), 128 * (n % 2)] S1x128x128.size (wOut_inb n)) (wBlk X9 X3 n) L (wLoc y) y ?_
    have e0 : (y 0).val = n / 8 % 16 + 1 * (wLoc y 0).val := by
      have : (wLoc y 0).val = 0 := rfl
      omega
    have e1 : (y 1).val = 128 * (n / 2 % 4) + 1 * (wLoc y 1).val := by
      have : (wLoc y 1).val = (y 1).val % 128 := rfl
      omega
    have e2 : (y 2).val = 128 * (n % 2) + 1 * (wLoc y 2).val := by
      have : (wLoc y 2).val = (y 2).val % 128 := rfl
      omega
    intro a
    match a with
    | 0 => exact e0
    | 1 => exact e1
    | 2 => exact e2

/-- All 128 blocks in place: the buffer holds the whole value. -/
theorem wdone_all {arg9 : Memref sig .tc .vmem S512x16x256 .fp8e4m3} {arg3 : Memref sig .tc .smem S8x16 .f32} {arg13 : Memref sig .tc .vmem S16x512x256 .bf16}
    (harg13 : arg13.IsWhole) {X9 : BufTy.Contents (Elt F) arg9.view.ty} {X3 : BufTy.Contents (Elt F) arg3.view.ty} {g : BufTy.Contents (Elt F) arg13.view.ty}
    (h : WDone X9 X3 128 g) : g = harg13.unread (wVal X9 X3) :=
  harg13.eq_unread (funext fun y => h y (wNum_lt y))

/-- The buffer with its first `n` blocks in place. -/
def W13 (c : Dev nD) {arg9 : Memref sig .tc .vmem S512x16x256 .fp8e4m3} {arg3 : Memref sig .tc .smem S8x16 .f32} (arg13 : Memref sig .tc .vmem S16x512x256 .bf16)
    (X9 : BufTy.Contents (Elt F) arg9.view.ty) (X3 : BufTy.Contents (Elt F) arg3.view.ty) (n : ℕ) : sProp 𝕄 :=
  iprop(∃ g, (arg13.view.loc (c : Thread nD τ) ↦[arg13.view.set]{fullShare} g) ∗ ⌜WDone X9 X3 n g⌝)

end Cert.Kernel.Hand

end
-- ==== Proof.Kernel.Parts1.lean ====
/- The head matrices' preparation, printed parts 5 to 14 of the body: each part, from the buffer with the blocks
   before it in place, leaves its own blocks in place too, and hands on the values the next part uses. -/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part5_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 2)
      ⊢ (wp frame (wpE (defs₀ (F := F)) 𝒱 (c : Thread nD τ) bd) E (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 5 ∗ ⌜r = (wIn X9 5)⌝)) : sProp 𝕄) := by
  rw [k0_part5_eq_skeleton]
  unfold k0_part5_skel W13
  iintro ⟨H9, H3, ⟨%g, H13, %hD⟩⟩
  have hD0 : WDone X9 X3 2 (arg13.view.writes (Elt F) g []) := hD
  sl_exec
  sl_step
  isplitl [H9]; · iexact H9
  isplitl [H3]; · iexact H3
  isplitl [H13]
  · iexists _; isplitl [H13]; · iexact H13
    ipureintro; exact (wdone_step 4 (wdone_step 3 (wdone_step 2 hD0)))
  ipureintro; rfl

theorem part6_run (X9 : BufTy.Contents (Elt F) arg9.view.ty) (X3 : BufTy.Contents (Elt F) arg3.view.ty) (v61 : Vec F S128x1x128 .fp8e4m3) (hv61 : v61 = (wIn X9 5)) :
    iprop((arg9.view.loc (c : Thread nD τ) ↦[arg9.view.set]{fullShare} X9) ∗ (arg3.view.loc (c : Thread nD τ) ↦[arg3.view.set]{fullShare} X3) ∗ W13 c arg13 X9 X3 5)
      ⊢ (wp frame (wpE (defs₀ (F := F)) 𝒱 (c : Thread nD τ) bd) E (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v61)
          (fun r => iprop((arg9.view.loc (c : Thread nD τ) ↦[arg9.view.set]{fullShare} X9) ∗ (arg3.view.loc (c : Thread nD τ) ↦[arg3.view.set]{fullShare} X3) ∗ W13 c arg13 X9 X3 8 ∗ ⌜r = (k0_pay29 (wIn X9 8))⌝)) : sProp 𝕄) := by
  subst hv61
  rw [k0_part6_eq_skeleton]
  unfold k0_part6_skel W13
  iintro ⟨H9, H3, ⟨%g, H13, %hD⟩⟩
  have hD0 : WDone X9 X3 5 (arg13.view.writes (Elt F) g []) := hD
  sl_exec
  sl_step
  isplitl [H9]; · iexact H9
  isplitl [H3]; · iexact H3
  isplitl [H13]
  · iexists _; isplitl [H13]; · iexact H13
    ipureintro; exact (wdone_step 7 (wdone_step 6 (wdone_step 5 hD0)))
  ipureintro; rfl

theorem part7_run (X9 : BufTy.Contents (Elt F) arg9.view.ty) (X3 : BufTy.Contents (Elt F) arg3.view.ty) (v93 : FVec F S128x128 .f32) (hv93 : v93 = (k0_pay29 (wIn X9 8))) :
    iprop((arg9.view.loc (c : Thread nD τ) ↦[arg9.view.set]{fullShare} X9) ∗ (arg3.view.loc (c : Thread nD τ) ↦[arg3.view.set]{fullShare} X3) ∗ W13 c arg13 X9 X3 8)
      ⊢ (wp frame (wpE (defs₀ (F := F)) 𝒱 (c : Thread nD τ) bd) E (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v93)
          (fun r => iprop((arg9.view.loc (c : Thread nD τ) ↦[arg9.view.set]{fullShare} X9) ∗ (arg3.view.loc (c : Thread nD τ) ↦[arg3.view.set]{fullShare} X3) ∗ W13 c arg13 X9 X3 11 ∗ ⌜r.1 = k0_pay33 (wIn X9 11)⌝ ∗ ⌜r.2 = k0_pay34 (wSc X3 11)⌝)) : sProp 𝕄) := by
  subst hv93
  rw [k0_part7_eq_skeleton]
  unfold k0_part7_skel W13
  iintro ⟨H9, H3, ⟨%g, H13, %hD⟩⟩
  have hD0 : WDone X9 X3 8 (arg13.view.writes (Elt F) g []) := hD
  sl_exec
  sl_step
  isplitl [H9]; · iexact H9
  isplitl [H3]; · iexact H3
  isplitl [H13]
  · iexists _; isplitl [H13]; · iexact H13
    ipureintro; exact (wdone_step 10 (wdone_step 9 (wdone_step 8 hD0)))
  isplitr; · ipureintro; rfl
  ipureintro; rfl

theorem part8_run (X9 : BufTy.Contents (Elt F) arg9.view.ty) (X3 : BufTy.Contents (Elt F) arg3.view.ty) (v123 : FVec F S128x128 .f32) (v125 : FVec F S128x128 .f32) (hv123 : v123 = (k0_pay33 (wIn X9 11))) (hv125 : v125 = (k0_pay34 (wSc X3 11))) :
    iprop((arg9.view.loc (c : Thread nD τ) ↦[arg9.view.set]{fullShare} X9) ∗ (arg3.view.loc (c : Thread nD τ) ↦[arg3.view.set]{fullShare} X3) ∗ W13 c arg13 X9 X3 11)
      ⊢ (wp frame (wpE (defs₀ (F := F)) 𝒱 (c : Thread nD τ) bd) E (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v123 v125)
          (fun r => iprop((arg9.view.loc (c : Thread nD τ) ↦[arg9.view.set]{fullShare} X9) ∗ (arg3.view.loc (c : Thread nD τ) ↦[arg3.view.set]{fullShare} X3) ∗ W13 c arg13 X9 X3 14 ∗ ⌜r = (k0_pay38 (wIn X9 14) (wSc X3 14))⌝)) : sProp 𝕄) := by
  subst hv123
  subst hv125
  rw [k0_part8_eq_skeleton]
  unfold k0_part8_skel W13
  iintro ⟨H9, H3, ⟨%g, H13, %hD⟩⟩
  have hD0 : WDone X9 X3 11 (arg13.view.writes (Elt F) g []) := hD
  sl_exec
  sl_step
  isplitl [H9]; · iexact H9
  isplitl [H3]; · iexact H3
  isplitl [H13]
  · iexists _; isplitl [H13]; · iexact H13
    ipureintro; exact (wdone_step 13 (wdone_step 12 (wdone_step 11 hD0)))
  ipureintro; rfl

theorem part9_run (X9 : BufTy.Contents (Elt F) arg9.view.ty) (X3 : BufTy.Contents (Elt F) arg3.view.ty) (v157 : FVec F S128x128 .bf16) (hv157 : v157 = (k0_pay38 (wIn X9 14) (wSc X3 14))) :
    iprop((arg9.view.loc (c : Thread nD τ) ↦[arg9.view.set]{fullShare} X9) ∗ (arg3.view.loc (c : Thread nD τ) ↦[arg3.view.set]{fullShare} X3) ∗ W13 c arg13 X9 X3 14)
      ⊢ (wp frame (wpE (defs₀ (F := F)) 𝒱 (c : Thread nD τ) bd) E (k0_part9 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v157)
          (fun r => iprop((arg9.view.loc (c : Thread nD τ) ↦[arg9.view.set]{fullShare} X9) ∗ (arg3.view.loc (c : Thread nD τ) ↦[arg3.view.set]{fullShare} X3) ∗ W13 c arg13 X9 X3 17 ∗ ⌜r.1 = k0_pay42 (wIn X9 17) (wSc X3 17)⌝)) : sProp 𝕄) := by
  subst hv157
  rw [k0_part9_eq_skeleton]
  unfold k0_part9_skel W13
  iintro ⟨H9, H3, ⟨%g, H13, %hD⟩⟩
  have hD0 : WDone X9 X3 14 (arg13.view.writes (Elt F) g []) := hD
  sl_exec
  sl_step
  isplitl [H9]; · iexact H9
  isplitl [H3]; · iexact H3
  isplitl [H13]
  · iexists _; isplitl [H13]; · iexact H13
    ipureintro; exact (wdone_step 16 (wdone_step 15 (wdone_step 14 hD0)))
  ipureintro; rfl

theorem part10_run (X9 : BufTy.Contents (Elt F) arg9.view.ty) (X3 : BufTy.Contents (Elt F) arg3.view.ty) (v187 : FVec F S128x128 .bf16) (v188 : Vec F S1x128x128 .bf16) (hv187 : v187 = (k0_pay42 (wIn X9 17) (wSc X3 17))) :
    iprop((arg9.view.loc (c : Thread nD τ) ↦[arg9.view.set]{fullShare} X9) ∗ (arg3.view.loc (c : Thread nD τ) ↦[arg3.view.set]{fullShare} X3) ∗ W13 c arg13 X9 X3 17)
      ⊢ (wp frame (wpE (defs₀ (F := F)) 𝒱 (c : Thread nD τ) bd) E (k0_part10 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v187 v188)
          (fun r => iprop((arg9.view.loc (c : Thread nD τ) ↦[arg9.view.set]{fullShare} X9) ∗ (arg3.view.loc (c : Thread nD τ) ↦[arg3.view.set]{fullShare} X3) ∗ W13 c arg13 X9 X3 21)) : sProp 𝕄) := by
  subst hv187
  rw [k0_part10_eq_skeleton]
  unfold k0_part10_skel W13
  iintro ⟨H9, H3, ⟨%g, H13, %hD⟩⟩
  have hD0 : WDone X9 X3 17 (arg13.view.writes (Elt F) g []) := hD
  sl_exec
  sl_step
  isplitl [H9]; · iexact H9
  isplitl [H3]; · iexact H3
  iexists _; isplitl [H13]; · iexact H13
  ipureintro; exact (wdone_step 20 (wdone_step 19 (wdone_step 18 (wdone_step 17 hD0))))

theorem part11_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 21)
      ⊢ (wp frame (wpE (defs₀ (F := F)) 𝒱 (c : Thread nD τ) bd) E (k0_part11 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 24)) : sProp 𝕄) := by
  rw [k0_part11_eq_skeleton]
  unfold k0_part11_skel W13
  iintro ⟨H9, H3, ⟨%g, H13, %hD⟩⟩
  have hD0 : WDone X9 X3 21 (arg13.view.writes (Elt F) g []) := hD
  sl_exec
  sl_step
  isplitl [H9]; · iexact H9
  isplitl [H3]; · iexact H3
  iexists _; isplitl [H13]; · iexact H13
  ipureintro; exact (wdone_step 23 (wdone_step 22 (wdone_step 21 hD0)))

theorem part12_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 24)
      ⊢ (wp frame (wpE (defs₀ (F := F)) 𝒱 (c : Thread nD τ) bd) E (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 27 ∗ ⌜r = (k0_pay53 (wIn X9 27))⌝)) : sProp 𝕄) := by
  rw [k0_part12_eq_skeleton]
  unfold k0_part12_skel W13
  iintro ⟨H9, H3, ⟨%g, H13, %hD⟩⟩
  have hD0 : WDone X9 X3 24 (arg13.view.writes (Elt F) g []) := hD
  sl_exec
  sl_step
  isplitl [H9]; · iexact H9
  isplitl [H3]; · iexact H3
  isplitl [H13]
  · iexists _; isplitl [H13]; · iexact H13
    ipureintro; exact (wdone_step 26 (wdone_step 25 (wdone_step 24 hD0)))
  ipureintro; rfl

theorem part13_run (X9 : BufTy.Contents (Elt F) arg9.view.ty) (X3 : BufTy.Contents (Elt F) arg3.view.ty) (v283 : FVec F S128x128 .f32) (hv283 : v283 = (k0_pay53 (wIn X9 27))) :
    iprop((arg9.view.loc (c : Thread nD τ) ↦[arg9.view.set]{fullShare} X9) ∗ (arg3.view.loc (c : Thread nD τ) ↦[arg3.view.set]{fullShare} X3) ∗ W13 c arg13 X9 X3 27)
      ⊢ (wp frame (wpE (defs₀ (F := F)) 𝒱 (c : Thread nD τ) bd) E (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v283)
          (fun r => iprop((arg9.view.loc (c : Thread nD τ) ↦[arg9.view.set]{fullShare} X9) ∗ (arg3.view.loc (c : Thread nD τ) ↦[arg3.view.set]{fullShare} X3) ∗ W13 c arg13 X9 X3 30 ∗ ⌜r.1 = k0_pay57 (wIn X9 30)⌝ ∗ ⌜r.2 = (wSc X3 30)⌝)) : sProp 𝕄) := by
  subst hv283
  rw [k0_part13_eq_skeleton]
  unfold k0_part13_skel W13
  iintro ⟨H9, H3, ⟨%g, H13, %hD⟩⟩
  have hD0 : WDone X9 X3 27 (arg13.view.writes (Elt F) g []) := hD
  sl_exec
  sl_step
  isplitl [H9]; · iexact H9
  isplitl [H3]; · iexact H3
  isplitl [H13]
  · iexists _; isplitl [H13]; · iexact H13
    ipureintro; exact (wdone_step 29 (wdone_step 28 (wdone_step 27 hD0)))
  isplitr; · ipureintro; rfl
  ipureintro; rfl

theorem part14_run (X9 : BufTy.Contents (Elt F) arg9.view.ty) (X3 : BufTy.Contents (Elt F) arg3.view.ty) (v313 : FVec F S128x128 .f32) (v314 : Elt F .f32) (hv313 : v313 = (k0_pay57 (wIn X9 30))) (hv314 : v314 = (wSc X3 30)) :
    iprop((arg9.view.loc (c : Thread nD τ) ↦[arg9.view.set]{fullShare} X9) ∗ (arg3.view.loc (c : Thread nD τ) ↦[arg3.view.set]{fullShare} X3) ∗ W13 c arg13 X9 X3 30)
      ⊢ (wp frame (wpE (defs₀ (F := F)) 𝒱 (c : Thread nD τ) bd) E (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v313 v314)
          (fun r => iprop((arg9.view.loc (c : Thread nD τ) ↦[arg9.view.set]{fullShare} X9) ∗ (arg3.view.loc (c : Thread nD τ) ↦[arg3.view.set]{fullShare} X3) ∗ W13 c arg13 X9 X3 33 ∗ ⌜r = (k0_pay61 (wIn X9 33) (wSc X3 33))⌝)) : sProp 𝕄) := by
  subst hv313
  subst hv314
  rw [k0_part14_eq_skeleton]
  unfold k0_part14_skel W13
  iintro ⟨H9, H3, ⟨%g, H13, %hD⟩⟩
  have hD0 : WDone X9 X3 30 (arg13.view.writes (Elt F) g []) := hD
  sl_exec
  sl_step
  isplitl [H9]; · iexact H9
  isplitl [H3]; · iexact H3
  isplitl [H13]
  · iexists _; isplitl [H13]; · iexact H13
    ipureintro; exact (wdone_step 32 (wdone_step 31 (wdone_step 30 hD0)))
  ipureintro; rfl

end Cert.Kernel.Hand

end
-- ==== Proof.Kernel.Parts2.lean ====
/- The head matrices' preparation, printed parts 15 to 24 of the body: each part, from the buffer with the blocks
   before it in place, leaves its own blocks in place too, and hands on the values the next part uses. -/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part15_run (X9 : BufTy.Contents (Elt F) arg9.view.ty) (X3 : BufTy.Contents (Elt F) arg3.view.ty) (v347 : FVec F S128x128 .bf16) (hv347 : v347 = (k0_pay61 (wIn X9 33) (wSc X3 33))) :
    iprop((arg9.view.loc (c : Thread nD τ) ↦[arg9.view.set]{fullShare} X9) ∗ (arg3.view.loc (c : Thread nD τ) ↦[arg3.view.set]{fullShare} X3) ∗ W13 c arg13 X9 X3 33)
      ⊢ (wp frame (wpE (defs₀ (F := F)) 𝒱 (c : Thread nD τ) bd) E (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v347)
          (fun r => iprop((arg9.view.loc (c : Thread nD τ) ↦[arg9.view.set]{fullShare} X9) ∗ (arg3.view.loc (c : Thread nD τ) ↦[arg3.view.set]{fullShare} X3) ∗ W13 c arg13 X9 X3 36 ∗ ⌜r = (k0_pay65 (wIn X9 36) (wSc X3 36))⌝)) : sProp 𝕄) := by
  subst hv347
  rw [k0_part15_eq_skeleton]
  unfold k0_part15_skel W13
  iintro ⟨H9, H3, ⟨%g, H13, %hD⟩⟩
  have hD0 : WDone X9 X3 33 (arg13.view.writes (Elt F) g []) := hD
  sl_exec
  sl_step
  isplitl [H9]; · iexact H9
  isplitl [H3]; · iexact H3
  isplitl [H13]
  · iexists _; isplitl [H13]; · iexact H13
    ipureintro; exact (wdone_step 35 (wdone_step 34 (wdone_step 33 hD0)))
  ipureintro; rfl

theorem part16_run (X9 : BufTy.Contents (Elt F) arg9.view.ty) (X3 : BufTy.Contents (Elt F) arg3.view.ty) (v377 : FVec F S128x128 .bf16) (hv377 : v377 = (k0_pay65 (wIn X9 36) (wSc X3 36))) :
    iprop((arg9.view.loc (c : Thread nD τ) ↦[arg9.view.set]{fullShare} X9) ∗ (arg3.view.loc (c : Thread nD τ) ↦[arg3.view.set]{fullShare} X3) ∗ W13 c arg13 X9 X3 36)
      ⊢ (wp frame (wpE (defs₀ (F := F)) 𝒱 (c : Thread nD τ) bd) E (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v377)
          (fun r => iprop((arg9.view.loc (c : Thread nD τ) ↦[arg9.view.set]{fullShare} X9) ∗ (arg3.view.loc (c : Thread nD τ) ↦[arg3.view.set]{fullShare} X3) ∗ W13 c arg13 X9 X3 39 ∗ ⌜r = (k0_pay69 (wIn X9 39) (wSc X3 39))⌝)) : sProp 𝕄) := by
  subst hv377
  rw [k0_part16_eq_skeleton]
  unfold k0_part16_skel W13
  iintro ⟨H9, H3, ⟨%g, H13, %hD⟩⟩
  have hD0 : WDone X9 X3 36 (arg13.view.writes (Elt F) g []) := hD
  sl_exec
  sl_step
  isplitl [H9]; · iexact H9
  isplitl [H3]; · iexact H3
  isplitl [H13]
  · iexists _; isplitl [H13]; · iexact H13
    ipureintro; exact (wdone_step 38 (wdone_step 37 (wdone_step 36 hD0)))
  ipureintro; rfl

theorem part17_run (X9 : BufTy.Contents (Elt F) arg9.view.ty) (X3 : BufTy.Contents (Elt F) arg3.view.ty) (v410 : FVec F S1x128x128 .bf16) (hv410 : v410 = (k0_pay69 (wIn X9 39) (wSc X3 39))) :
    iprop((arg9.view.loc (c : Thread nD τ) ↦[arg9.view.set]{fullShare} X9) ∗ (arg3.view.loc (c : Thread nD τ) ↦[arg3.view.set]{fullShare} X3) ∗ W13 c arg13 X9 X3 39)
      ⊢ (wp frame (wpE (defs₀ (F := F)) 𝒱 (c : Thread nD τ) bd) E (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v410)
          (fun r => iprop((arg9.view.loc (c : Thread nD τ) ↦[arg9.view.set]{fullShare} X9) ∗ (arg3.view.loc (c : Thread nD τ) ↦[arg3.view.set]{fullShare} X3) ∗ W13 c arg13 X9 X3 43)) : sProp 𝕄) := by
  subst hv410
  rw [k0_part17_eq_skeleton]
  unfold k0_part17_skel W13
  iintro ⟨H9, H3, ⟨%g, H13, %hD⟩⟩
  have hD0 : WDone X9 X3 39 (arg13.view.writes (Elt F) g []) := hD
  sl_exec
  sl_step
  isplitl [H9]; · iexact H9
  isplitl [H3]; · iexact H3
  iexists _; isplitl [H13]; · iexact H13
  ipureintro; exact (wdone_step 42 (wdone_step 41 (wdone_step 40 (wdone_step 39 hD0))))

theorem part18_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 43)
      ⊢ (wp frame (wpE (defs₀ (F := F)) 𝒱 (c : Thread nD τ) bd) E (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 46 ∗ ⌜r = (k0_pay76 (wIn X9 46))⌝)) : sProp 𝕄) := by
  rw [k0_part18_eq_skeleton]
  unfold k0_part18_skel W13
  iintro ⟨H9, H3, ⟨%g, H13, %hD⟩⟩
  have hD0 : WDone X9 X3 43 (arg13.view.writes (Elt F) g []) := hD
  sl_exec
  sl_step
  isplitl [H9]; · iexact H9
  isplitl [H3]; · iexact H3
  isplitl [H13]
  · iexists _; isplitl [H13]; · iexact H13
    ipureintro; exact (wdone_step 45 (wdone_step 44 (wdone_step 43 hD0)))
  ipureintro; rfl

theorem part19_run (X9 : BufTy.Contents (Elt F) arg9.view.ty) (X3 : BufTy.Contents (Elt F) arg3.view.ty) (v472 : FVec F S128x128 .fp8e4m3) (hv472 : v472 = (k0_pay76 (wIn X9 46))) :
    iprop((arg9.view.loc (c : Thread nD τ) ↦[arg9.view.set]{fullShare} X9) ∗ (arg3.view.loc (c : Thread nD τ) ↦[arg3.view.set]{fullShare} X3) ∗ W13 c arg13 X9 X3 46)
      ⊢ (wp frame (wpE (defs₀ (F := F)) 𝒱 (c : Thread nD τ) bd) E (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v472)
          (fun r => iprop((arg9.view.loc (c : Thread nD τ) ↦[arg9.view.set]{fullShare} X9) ∗ (arg3.view.loc (c : Thread nD τ) ↦[arg3.view.set]{fullShare} X3) ∗ W13 c arg13 X9 X3 49 ∗ ⌜r = (k0_pay80 (wIn X9 49))⌝)) : sProp 𝕄) := by
  subst hv472
  rw [k0_part19_eq_skeleton]
  unfold k0_part19_skel W13
  iintro ⟨H9, H3, ⟨%g, H13, %hD⟩⟩
  have hD0 : WDone X9 X3 46 (arg13.view.writes (Elt F) g []) := hD
  sl_exec
  sl_step
  isplitl [H9]; · iexact H9
  isplitl [H3]; · iexact H3
  isplitl [H13]
  · iexists _; isplitl [H13]; · iexact H13
    ipureintro; exact (wdone_step 48 (wdone_step 47 (wdone_step 46 hD0)))
  ipureintro; rfl

theorem part20_run (X9 : BufTy.Contents (Elt F) arg9.view.ty) (X3 : BufTy.Contents (Elt F) arg3.view.ty) (v503 : FVec F S128x128 .f32) (hv503 : v503 = (k0_pay80 (wIn X9 49))) :
    iprop((arg9.view.loc (c : Thread nD τ) ↦[arg9.view.set]{fullShare} X9) ∗ (arg3.view.loc (c : Thread nD τ) ↦[arg3.view.set]{fullShare} X3) ∗ W13 c arg13 X9 X3 49)
      ⊢ (wp frame (wpE (defs₀ (F := F)) 𝒱 (c : Thread nD τ) bd) E (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v503)
          (fun r => iprop((arg9.view.loc (c : Thread nD τ) ↦[arg9.view.set]{fullShare} X9) ∗ (arg3.view.loc (c : Thread nD τ) ↦[arg3.view.set]{fullShare} X3) ∗ W13 c arg13 X9 X3 52 ∗ ⌜r = (k0_pay84 (wIn X9 52) (wSc X3 52))⌝)) : sProp 𝕄) := by
  subst hv503
  rw [k0_part20_eq_skeleton]
  unfold k0_part20_skel W13
  iintro ⟨H9, H3, ⟨%g, H13, %hD⟩⟩
  have hD0 : WDone X9 X3 49 (arg13.view.writes (Elt F) g []) := hD
  sl_exec
  sl_step
  isplitl [H9]; · iexact H9
  isplitl [H3]; · iexact H3
  isplitl [H13]
  · iexists _; isplitl [H13]; · iexact H13
    ipureintro; exact (wdone_step 51 (wdone_step 50 (wdone_step 49 hD0)))
  ipureintro; rfl

theorem part21_run (X9 : BufTy.Contents (Elt F) arg9.view.ty) (X3 : BufTy.Contents (Elt F) arg3.view.ty) (v536 : FVec F S128x128 .f32) (hv536 : v536 = (k0_pay84 (wIn X9 52) (wSc X3 52))) :
    iprop((arg9.view.loc (c : Thread nD τ) ↦[arg9.view.set]{fullShare} X9) ∗ (arg3.view.loc (c : Thread nD τ) ↦[arg3.view.set]{fullShare} X3) ∗ W13 c arg13 X9 X3 52)
      ⊢ (wp frame (wpE (defs₀ (F := F)) 𝒱 (c : Thread nD τ) bd) E (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v536)
          (fun r => iprop((arg9.view.loc (c : Thread nD τ) ↦[arg9.view.set]{fullShare} X9) ∗ (arg3.view.loc (c : Thread nD τ) ↦[arg3.view.set]{fullShare} X3) ∗ W13 c arg13 X9 X3 55 ∗ ⌜r = (k0_pay88 (wIn X9 55) (wSc X3 55))⌝)) : sProp 𝕄) := by
  subst hv536
  rw [k0_part21_eq_skeleton]
  unfold k0_part21_skel W13
  iintro ⟨H9, H3, ⟨%g, H13, %hD⟩⟩
  have hD0 : WDone X9 X3 52 (arg13.view.writes (Elt F) g []) := hD
  sl_exec
  sl_step
  isplitl [H9]; · iexact H9
  isplitl [H3]; · iexact H3
  isplitl [H13]
  · iexists _; isplitl [H13]; · iexact H13
    ipureintro; exact (wdone_step 54 (wdone_step 53 (wdone_step 52 hD0)))
  ipureintro; rfl

theorem part22_run (X9 : BufTy.Contents (Elt F) arg9.view.ty) (X3 : BufTy.Contents (Elt F) arg3.view.ty) (v567 : FVec F S128x128 .bf16) (hv567 : v567 = (k0_pay88 (wIn X9 55) (wSc X3 55))) :
    iprop((arg9.view.loc (c : Thread nD τ) ↦[arg9.view.set]{fullShare} X9) ∗ (arg3.view.loc (c : Thread nD τ) ↦[arg3.view.set]{fullShare} X3) ∗ W13 c arg13 X9 X3 55)
      ⊢ (wp frame (wpE (defs₀ (F := F)) 𝒱 (c : Thread nD τ) bd) E (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v567)
          (fun r => iprop((arg9.view.loc (c : Thread nD τ) ↦[arg9.view.set]{fullShare} X9) ∗ (arg3.view.loc (c : Thread nD τ) ↦[arg3.view.set]{fullShare} X3) ∗ W13 c arg13 X9 X3 58 ∗ ⌜r = (k0_pay92 (wIn X9 58) (wSc X3 58))⌝)) : sProp 𝕄) := by
  subst hv567
  rw [k0_part22_eq_skeleton]
  unfold k0_part22_skel W13
  iintro ⟨H9, H3, ⟨%g, H13, %hD⟩⟩
  have hD0 : WDone X9 X3 55 (arg13.view.writes (Elt F) g []) := hD
  sl_exec
  sl_step
  isplitl [H9]; · iexact H9
  isplitl [H3]; · iexact H3
  isplitl [H13]
  · iexists _; isplitl [H13]; · iexact H13
    ipureintro; exact (wdone_step 57 (wdone_step 56 (wdone_step 55 hD0)))
  ipureintro; rfl

theorem part23_run (X9 : BufTy.Contents (Elt F) arg9.view.ty) (X3 : BufTy.Contents (Elt F) arg3.view.ty) (v597 : FVec F S128x128 .bf16) (hv597 : v597 = (k0_pay92 (wIn X9 58) (wSc X3 58))) :
    iprop((arg9.view.loc (c : Thread nD τ) ↦[arg9.view.set]{fullShare} X9) ∗ (arg3.view.loc (c : Thread nD τ) ↦[arg3.view.set]{fullShare} X3) ∗ W13 c arg13 X9 X3 58)
      ⊢ (wp frame (wpE (defs₀ (F := F)) 𝒱 (c : Thread nD τ) bd) E (k0_part23 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v597)
          (fun r => iprop((arg9.view.loc (c : Thread nD τ) ↦[arg9.view.set]{fullShare} X9) ∗ (arg3.view.loc (c : Thread nD τ) ↦[arg3.view.set]{fullShare} X3) ∗ W13 c arg13 X9 X3 62)) : sProp 𝕄) := by
  subst hv597
  rw [k0_part23_eq_skeleton]
  unfold k0_part23_skel W13
  iintro ⟨H9, H3, ⟨%g, H13, %hD⟩⟩
  have hD0 : WDone X9 X3 58 (arg13.view.writes (Elt F) g []) := hD
  sl_exec
  sl_step
  isplitl [H9]; · iexact H9
  isplitl [H3]; · iexact H3
  iexists _; isplitl [H13]; · iexact H13
  ipureintro; exact (wdone_step 61 (wdone_step 60 (wdone_step 59 (wdone_step 58 hD0))))

theorem part24_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 62)
      ⊢ (wp frame (wpE (defs₀ (F := F)) 𝒱 (c : Thread nD τ) bd) E (k0_part24 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 65 ∗ ⌜r = (wIn X9 65)⌝)) : sProp 𝕄) := by
  rw [k0_part24_eq_skeleton]
  unfold k0_part24_skel W13
  iintro ⟨H9, H3, ⟨%g, H13, %hD⟩⟩
  have hD0 : WDone X9 X3 62 (arg13.view.writes (Elt F) g []) := hD
  sl_exec
  sl_step
  isplitl [H9]; · iexact H9
  isplitl [H3]; · iexact H3
  isplitl [H13]
  · iexists _; isplitl [H13]; · iexact H13
    ipureintro; exact (wdone_step 64 (wdone_step 63 (wdone_step 62 hD0)))
  ipureintro; rfl

end Cert.Kernel.Hand

end
-- ==== Proof.Kernel.Parts3.lean ====
/- The head matrices' preparation, printed parts 25 to 34 of the body: each part, from the buffer with the blocks
   before it in place, leaves its own blocks in place too, and hands on the values the next part uses. -/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part25_run (X9 : BufTy.Contents (Elt F) arg9.view.ty) (X3 : BufTy.Contents (Elt F) arg3.view.ty) (v661 : Vec F S128x1x128 .fp8e4m3) (hv661 : v661 = (wIn X9 65)) :
    iprop((arg9.view.loc (c : Thread nD τ) ↦[arg9.view.set]{fullShare} X9) ∗ (arg3.view.loc (c : Thread nD τ) ↦[arg3.view.set]{fullShare} X3) ∗ W13 c arg13 X9 X3 65)
      ⊢ (wp frame (wpE (defs₀ (F := F)) 𝒱 (c : Thread nD τ) bd) E (k0_part25 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v661)
          (fun r => iprop((arg9.view.loc (c : Thread nD τ) ↦[arg9.view.set]{fullShare} X9) ∗ (arg3.view.loc (c : Thread nD τ) ↦[arg3.view.set]{fullShare} X3) ∗ W13 c arg13 X9 X3 68 ∗ ⌜r = (k0_pay103 (wIn X9 68))⌝)) : sProp 𝕄) := by
  subst hv661
  rw [k0_part25_eq_skeleton]
  unfold k0_part25_skel W13
  iintro ⟨H9, H3, ⟨%g, H13, %hD⟩⟩
  have hD0 : WDone X9 X3 65 (arg13.view.writes (Elt F) g []) := hD
  sl_exec
  sl_step
  isplitl [H9]; · iexact H9
  isplitl [H3]; · iexact H3
  isplitl [H13]
  · iexists _; isplitl [H13]; · iexact H13
    ipureintro; exact (wdone_step 67 (wdone_step 66 (wdone_step 65 hD0)))
  ipureintro; rfl

theorem part26_run (X9 : BufTy.Contents (Elt F) arg9.view.ty) (X3 : BufTy.Contents (Elt F) arg3.view.ty) (v693 : FVec F S128x128 .f32) (hv693 : v693 = (k0_pay103 (wIn X9 68))) :
    iprop((arg9.view.loc (c : Thread nD τ) ↦[arg9.view.set]{fullShare} X9) ∗ (arg3.view.loc (c : Thread nD τ) ↦[arg3.view.set]{fullShare} X3) ∗ W13 c arg13 X9 X3 68)
      ⊢ (wp frame (wpE (defs₀ (F := F)) 𝒱 (c : Thread nD τ) bd) E (k0_part26 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v693)
          (fun r => iprop((arg9.view.loc (c : Thread nD τ) ↦[arg9.view.set]{fullShare} X9) ∗ (arg3.view.loc (c : Thread nD τ) ↦[arg3.view.set]{fullShare} X3) ∗ W13 c arg13 X9 X3 71 ∗ ⌜r.1 = k0_pay107 (wIn X9 71)⌝ ∗ ⌜r.2 = k0_pay108 (wSc X3 71)⌝)) : sProp 𝕄) := by
  subst hv693
  rw [k0_part26_eq_skeleton]
  unfold k0_part26_skel W13
  iintro ⟨H9, H3, ⟨%g, H13, %hD⟩⟩
  have hD0 : WDone X9 X3 68 (arg13.view.writes (Elt F) g []) := hD
  sl_exec
  sl_step
  isplitl [H9]; · iexact H9
  isplitl [H3]; · iexact H3
  isplitl [H13]
  · iexists _; isplitl [H13]; · iexact H13
    ipureintro; exact (wdone_step 70 (wdone_step 69 (wdone_step 68 hD0)))
  isplitr; · ipureintro; rfl
  ipureintro; rfl

theorem part27_run (X9 : BufTy.Contents (Elt F) arg9.view.ty) (X3 : BufTy.Contents (Elt F) arg3.view.ty) (v723 : FVec F S128x128 .f32) (v725 : FVec F S128x128 .f32) (hv723 : v723 = (k0_pay107 (wIn X9 71))) (hv725 : v725 = (k0_pay108 (wSc X3 71))) :
    iprop((arg9.view.loc (c : Thread nD τ) ↦[arg9.view.set]{fullShare} X9) ∗ (arg3.view.loc (c : Thread nD τ) ↦[arg3.view.set]{fullShare} X3) ∗ W13 c arg13 X9 X3 71)
      ⊢ (wp frame (wpE (defs₀ (F := F)) 𝒱 (c : Thread nD τ) bd) E (k0_part27 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v723 v725)
          (fun r => iprop((arg9.view.loc (c : Thread nD τ) ↦[arg9.view.set]{fullShare} X9) ∗ (arg3.view.loc (c : Thread nD τ) ↦[arg3.view.set]{fullShare} X3) ∗ W13 c arg13 X9 X3 74 ∗ ⌜r = (k0_pay112 (wIn X9 74) (wSc X3 74))⌝)) : sProp 𝕄) := by
  subst hv723
  subst hv725
  rw [k0_part27_eq_skeleton]
  unfold k0_part27_skel W13
  iintro ⟨H9, H3, ⟨%g, H13, %hD⟩⟩
  have hD0 : WDone X9 X3 71 (arg13.view.writes (Elt F) g []) := hD
  sl_exec
  sl_step
  isplitl [H9]; · iexact H9
  isplitl [H3]; · iexact H3
  isplitl [H13]
  · iexists _; isplitl [H13]; · iexact H13
    ipureintro; exact (wdone_step 73 (wdone_step 72 (wdone_step 71 hD0)))
  ipureintro; rfl

theorem part28_run (X9 : BufTy.Contents (Elt F) arg9.view.ty) (X3 : BufTy.Contents (Elt F) arg3.view.ty) (v757 : FVec F S128x128 .bf16) (hv757 : v757 = (k0_pay112 (wIn X9 74) (wSc X3 74))) :
    iprop((arg9.view.loc (c : Thread nD τ) ↦[arg9.view.set]{fullShare} X9) ∗ (arg3.view.loc (c : Thread nD τ) ↦[arg3.view.set]{fullShare} X3) ∗ W13 c arg13 X9 X3 74)
      ⊢ (wp frame (wpE (defs₀ (F := F)) 𝒱 (c : Thread nD τ) bd) E (k0_part28 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v757)
          (fun r => iprop((arg9.view.loc (c : Thread nD τ) ↦[arg9.view.set]{fullShare} X9) ∗ (arg3.view.loc (c : Thread nD τ) ↦[arg3.view.set]{fullShare} X3) ∗ W13 c arg13 X9 X3 77 ∗ ⌜r.1 = k0_pay116 (wIn X9 77) (wSc X3 77)⌝)) : sProp 𝕄) := by
  subst hv757
  rw [k0_part28_eq_skeleton]
  unfold k0_part28_skel W13
  iintro ⟨H9, H3, ⟨%g, H13, %hD⟩⟩
  have hD0 : WDone X9 X3 74 (arg13.view.writes (Elt F) g []) := hD
  sl_exec
  sl_step
  isplitl [H9]; · iexact H9
  isplitl [H3]; · iexact H3
  isplitl [H13]
  · iexists _; isplitl [H13]; · iexact H13
    ipureintro; exact (wdone_step 76 (wdone_step 75 (wdone_step 74 hD0)))
  ipureintro; rfl

theorem part29_run (X9 : BufTy.Contents (Elt F) arg9.view.ty) (X3 : BufTy.Contents (Elt F) arg3.view.ty) (v787 : FVec F S128x128 .bf16) (v788 : Vec F S1x128x128 .bf16) (hv787 : v787 = (k0_pay116 (wIn X9 77) (wSc X3 77))) :
    iprop((arg9.view.loc (c : Thread nD τ) ↦[arg9.view.set]{fullShare} X9) ∗ (arg3.view.loc (c : Thread nD τ) ↦[arg3.view.set]{fullShare} X3) ∗ W13 c arg13 X9 X3 77)
      ⊢ (wp frame (wpE (defs₀ (F := F)) 𝒱 (c : Thread nD τ) bd) E (k0_part29 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v787 v788)
          (fun r => iprop((arg9.view.loc (c : Thread nD τ) ↦[arg9.view.set]{fullShare} X9) ∗ (arg3.view.loc (c : Thread nD τ) ↦[arg3.view.set]{fullShare} X3) ∗ W13 c arg13 X9 X3 81)) : sProp 𝕄) := by
  subst hv787
  rw [k0_part29_eq_skeleton]
  unfold k0_part29_skel W13
  iintro ⟨H9, H3, ⟨%g, H13, %hD⟩⟩
  have hD0 : WDone X9 X3 77 (arg13.view.writes (Elt F) g []) := hD
  sl_exec
  sl_step
  isplitl [H9]; · iexact H9
  isplitl [H3]; · iexact H3
  iexists _; isplitl [H13]; · iexact H13
  ipureintro; exact (wdone_step 80 (wdone_step 79 (wdone_step 78 (wdone_step 77 hD0))))

theorem part30_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 81)
      ⊢ (wp frame (wpE (defs₀ (F := F)) 𝒱 (c : Thread nD τ) bd) E (k0_part30 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 84)) : sProp 𝕄) := by
  rw [k0_part30_eq_skeleton]
  unfold k0_part30_skel W13
  iintro ⟨H9, H3, ⟨%g, H13, %hD⟩⟩
  have hD0 : WDone X9 X3 81 (arg13.view.writes (Elt F) g []) := hD
  sl_exec
  sl_step
  isplitl [H9]; · iexact H9
  isplitl [H3]; · iexact H3
  iexists _; isplitl [H13]; · iexact H13
  ipureintro; exact (wdone_step 83 (wdone_step 82 (wdone_step 81 hD0)))

theorem part31_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 84)
      ⊢ (wp frame (wpE (defs₀ (F := F)) 𝒱 (c : Thread nD τ) bd) E (k0_part31 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 87 ∗ ⌜r = (k0_pay127 (wIn X9 87))⌝)) : sProp 𝕄) := by
  rw [k0_part31_eq_skeleton]
  unfold k0_part31_skel W13
  iintro ⟨H9, H3, ⟨%g, H13, %hD⟩⟩
  have hD0 : WDone X9 X3 84 (arg13.view.writes (Elt F) g []) := hD
  sl_exec
  sl_step
  isplitl [H9]; · iexact H9
  isplitl [H3]; · iexact H3
  isplitl [H13]
  · iexists _; isplitl [H13]; · iexact H13
    ipureintro; exact (wdone_step 86 (wdone_step 85 (wdone_step 84 hD0)))
  ipureintro; rfl

theorem part32_run (X9 : BufTy.Contents (Elt F) arg9.view.ty) (X3 : BufTy.Contents (Elt F) arg3.view.ty) (v883 : FVec F S128x128 .f32) (hv883 : v883 = (k0_pay127 (wIn X9 87))) :
    iprop((arg9.view.loc (c : Thread nD τ) ↦[arg9.view.set]{fullShare} X9) ∗ (arg3.view.loc (c : Thread nD τ) ↦[arg3.view.set]{fullShare} X3) ∗ W13 c arg13 X9 X3 87)
      ⊢ (wp frame (wpE (defs₀ (F := F)) 𝒱 (c : Thread nD τ) bd) E (k0_part32 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v883)
          (fun r => iprop((arg9.view.loc (c : Thread nD τ) ↦[arg9.view.set]{fullShare} X9) ∗ (arg3.view.loc (c : Thread nD τ) ↦[arg3.view.set]{fullShare} X3) ∗ W13 c arg13 X9 X3 90 ∗ ⌜r.1 = k0_pay131 (wIn X9 90)⌝ ∗ ⌜r.2 = (wSc X3 90)⌝)) : sProp 𝕄) := by
  subst hv883
  rw [k0_part32_eq_skeleton]
  unfold k0_part32_skel W13
  iintro ⟨H9, H3, ⟨%g, H13, %hD⟩⟩
  have hD0 : WDone X9 X3 87 (arg13.view.writes (Elt F) g []) := hD
  sl_exec
  sl_step
  isplitl [H9]; · iexact H9
  isplitl [H3]; · iexact H3
  isplitl [H13]
  · iexists _; isplitl [H13]; · iexact H13
    ipureintro; exact (wdone_step 89 (wdone_step 88 (wdone_step 87 hD0)))
  isplitr; · ipureintro; rfl
  ipureintro; rfl

theorem part33_run (X9 : BufTy.Contents (Elt F) arg9.view.ty) (X3 : BufTy.Contents (Elt F) arg3.view.ty) (v913 : FVec F S128x128 .f32) (v914 : Elt F .f32) (hv913 : v913 = (k0_pay131 (wIn X9 90))) (hv914 : v914 = (wSc X3 90)) :
    iprop((arg9.view.loc (c : Thread nD τ) ↦[arg9.view.set]{fullShare} X9) ∗ (arg3.view.loc (c : Thread nD τ) ↦[arg3.view.set]{fullShare} X3) ∗ W13 c arg13 X9 X3 90)
      ⊢ (wp frame (wpE (defs₀ (F := F)) 𝒱 (c : Thread nD τ) bd) E (k0_part33 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v913 v914)
          (fun r => iprop((arg9.view.loc (c : Thread nD τ) ↦[arg9.view.set]{fullShare} X9) ∗ (arg3.view.loc (c : Thread nD τ) ↦[arg3.view.set]{fullShare} X3) ∗ W13 c arg13 X9 X3 93 ∗ ⌜r = (k0_pay135 (wIn X9 93) (wSc X3 93))⌝)) : sProp 𝕄) := by
  subst hv913
  subst hv914
  rw [k0_part33_eq_skeleton]
  unfold k0_part33_skel W13
  iintro ⟨H9, H3, ⟨%g, H13, %hD⟩⟩
  have hD0 : WDone X9 X3 90 (arg13.view.writes (Elt F) g []) := hD
  sl_exec
  sl_step
  isplitl [H9]; · iexact H9
  isplitl [H3]; · iexact H3
  isplitl [H13]
  · iexists _; isplitl [H13]; · iexact H13
    ipureintro; exact (wdone_step 92 (wdone_step 91 (wdone_step 90 hD0)))
  ipureintro; rfl

theorem part34_run (X9 : BufTy.Contents (Elt F) arg9.view.ty) (X3 : BufTy.Contents (Elt F) arg3.view.ty) (v947 : FVec F S128x128 .bf16) (hv947 : v947 = (k0_pay135 (wIn X9 93) (wSc X3 93))) :
    iprop((arg9.view.loc (c : Thread nD τ) ↦[arg9.view.set]{fullShare} X9) ∗ (arg3.view.loc (c : Thread nD τ) ↦[arg3.view.set]{fullShare} X3) ∗ W13 c arg13 X9 X3 93)
      ⊢ (wp frame (wpE (defs₀ (F := F)) 𝒱 (c : Thread nD τ) bd) E (k0_part34 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v947)
          (fun r => iprop((arg9.view.loc (c : Thread nD τ) ↦[arg9.view.set]{fullShare} X9) ∗ (arg3.view.loc (c : Thread nD τ) ↦[arg3.view.set]{fullShare} X3) ∗ W13 c arg13 X9 X3 96 ∗ ⌜r = (k0_pay139 (wIn X9 96) (wSc X3 96))⌝)) : sProp 𝕄) := by
  subst hv947
  rw [k0_part34_eq_skeleton]
  unfold k0_part34_skel W13
  iintro ⟨H9, H3, ⟨%g, H13, %hD⟩⟩
  have hD0 : WDone X9 X3 93 (arg13.view.writes (Elt F) g []) := hD
  sl_exec
  sl_step
  isplitl [H9]; · iexact H9
  isplitl [H3]; · iexact H3
  isplitl [H13]
  · iexists _; isplitl [H13]; · iexact H13
    ipureintro; exact (wdone_step 95 (wdone_step 94 (wdone_step 93 hD0)))
  ipureintro; rfl

end Cert.Kernel.Hand

end
-- ==== Proof.Kernel.Parts4.lean ====
/- The head matrices' preparation, printed parts 35 to 43 of the body: each part, from the buffer with the blocks
   before it in place, leaves its own blocks in place too, and hands on the values the next part uses. -/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part35_run (X9 : BufTy.Contents (Elt F) arg9.view.ty) (X3 : BufTy.Contents (Elt F) arg3.view.ty) (v977 : FVec F S128x128 .bf16) (hv977 : v977 = (k0_pay139 (wIn X9 96) (wSc X3 96))) :
    iprop((arg9.view.loc (c : Thread nD τ) ↦[arg9.view.set]{fullShare} X9) ∗ (arg3.view.loc (c : Thread nD τ) ↦[arg3.view.set]{fullShare} X3) ∗ W13 c arg13 X9 X3 96)
      ⊢ (wp frame (wpE (defs₀ (F := F)) 𝒱 (c : Thread nD τ) bd) E (k0_part35 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v977)
          (fun r => iprop((arg9.view.loc (c : Thread nD τ) ↦[arg9.view.set]{fullShare} X9) ∗ (arg3.view.loc (c : Thread nD τ) ↦[arg3.view.set]{fullShare} X3) ∗ W13 c arg13 X9 X3 99 ∗ ⌜r = (k0_pay143 (wIn X9 99) (wSc X3 99))⌝)) : sProp 𝕄) := by
  subst hv977
  rw [k0_part35_eq_skeleton]
  unfold k0_part35_skel W13
  iintro ⟨H9, H3, ⟨%g, H13, %hD⟩⟩
  have hD0 : WDone X9 X3 96 (arg13.view.writes (Elt F) g []) := hD
  sl_exec
  sl_step
  isplitl [H9]; · iexact H9
  isplitl [H3]; · iexact H3
  isplitl [H13]
  · iexists _; isplitl [H13]; · iexact H13
    ipureintro; exact (wdone_step 98 (wdone_step 97 (wdone_step 96 hD0)))
  ipureintro; rfl

theorem part36_run (X9 : BufTy.Contents (Elt F) arg9.view.ty) (X3 : BufTy.Contents (Elt F) arg3.view.ty) (v1010 : FVec F S1x128x128 .bf16) (hv1010 : v1010 = (k0_pay143 (wIn X9 99) (wSc X3 99))) :
    iprop((arg9.view.loc (c : Thread nD τ) ↦[arg9.view.set]{fullShare} X9) ∗ (arg3.view.loc (c : Thread nD τ) ↦[arg3.view.set]{fullShare} X3) ∗ W13 c arg13 X9 X3 99)
      ⊢ (wp frame (wpE (defs₀ (F := F)) 𝒱 (c : Thread nD τ) bd) E (k0_part36 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1010)
          (fun r => iprop((arg9.view.loc (c : Thread nD τ) ↦[arg9.view.set]{fullShare} X9) ∗ (arg3.view.loc (c : Thread nD τ) ↦[arg3.view.set]{fullShare} X3) ∗ W13 c arg13 X9 X3 103)) : sProp 𝕄) := by
  subst hv1010
  rw [k0_part36_eq_skeleton]
  unfold k0_part36_skel W13
  iintro ⟨H9, H3, ⟨%g, H13, %hD⟩⟩
  have hD0 : WDone X9 X3 99 (arg13.view.writes (Elt F) g []) := hD
  sl_exec
  sl_step
  isplitl [H9]; · iexact H9
  isplitl [H3]; · iexact H3
  iexists _; isplitl [H13]; · iexact H13
  ipureintro; exact (wdone_step 102 (wdone_step 101 (wdone_step 100 (wdone_step 99 hD0))))

theorem part37_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 103)
      ⊢ (wp frame (wpE (defs₀ (F := F)) 𝒱 (c : Thread nD τ) bd) E (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 106 ∗ ⌜r = (k0_pay150 (wIn X9 106))⌝)) : sProp 𝕄) := by
  rw [k0_part37_eq_skeleton]
  unfold k0_part37_skel W13
  iintro ⟨H9, H3, ⟨%g, H13, %hD⟩⟩
  have hD0 : WDone X9 X3 103 (arg13.view.writes (Elt F) g []) := hD
  sl_exec
  sl_step
  isplitl [H9]; · iexact H9
  isplitl [H3]; · iexact H3
  isplitl [H13]
  · iexists _; isplitl [H13]; · iexact H13
    ipureintro; exact (wdone_step 105 (wdone_step 104 (wdone_step 103 hD0)))
  ipureintro; rfl

theorem part38_run (X9 : BufTy.Contents (Elt F) arg9.view.ty) (X3 : BufTy.Contents (Elt F) arg3.view.ty) (v1072 : FVec F S128x128 .fp8e4m3) (hv1072 : v1072 = (k0_pay150 (wIn X9 106))) :
    iprop((arg9.view.loc (c : Thread nD τ) ↦[arg9.view.set]{fullShare} X9) ∗ (arg3.view.loc (c : Thread nD τ) ↦[arg3.view.set]{fullShare} X3) ∗ W13 c arg13 X9 X3 106)
      ⊢ (wp frame (wpE (defs₀ (F := F)) 𝒱 (c : Thread nD τ) bd) E (k0_part38 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1072)
          (fun r => iprop((arg9.view.loc (c : Thread nD τ) ↦[arg9.view.set]{fullShare} X9) ∗ (arg3.view.loc (c : Thread nD τ) ↦[arg3.view.set]{fullShare} X3) ∗ W13 c arg13 X9 X3 109 ∗ ⌜r = (k0_pay154 (wIn X9 109))⌝)) : sProp 𝕄) := by
  subst hv1072
  rw [k0_part38_eq_skeleton]
  unfold k0_part38_skel W13
  iintro ⟨H9, H3, ⟨%g, H13, %hD⟩⟩
  have hD0 : WDone X9 X3 106 (arg13.view.writes (Elt F) g []) := hD
  sl_exec
  sl_step
  isplitl [H9]; · iexact H9
  isplitl [H3]; · iexact H3
  isplitl [H13]
  · iexists _; isplitl [H13]; · iexact H13
    ipureintro; exact (wdone_step 108 (wdone_step 107 (wdone_step 106 hD0)))
  ipureintro; rfl

theorem part39_run (X9 : BufTy.Contents (Elt F) arg9.view.ty) (X3 : BufTy.Contents (Elt F) arg3.view.ty) (v1103 : FVec F S128x128 .f32) (hv1103 : v1103 = (k0_pay154 (wIn X9 109))) :
    iprop((arg9.view.loc (c : Thread nD τ) ↦[arg9.view.set]{fullShare} X9) ∗ (arg3.view.loc (c : Thread nD τ) ↦[arg3.view.set]{fullShare} X3) ∗ W13 c arg13 X9 X3 109)
      ⊢ (wp frame (wpE (defs₀ (F := F)) 𝒱 (c : Thread nD τ) bd) E (k0_part39 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1103)
          (fun r => iprop((arg9.view.loc (c : Thread nD τ) ↦[arg9.view.set]{fullShare} X9) ∗ (arg3.view.loc (c : Thread nD τ) ↦[arg3.view.set]{fullShare} X3) ∗ W13 c arg13 X9 X3 112 ∗ ⌜r = (k0_pay158 (wIn X9 112) (wSc X3 112))⌝)) : sProp 𝕄) := by
  subst hv1103
  rw [k0_part39_eq_skeleton]
  unfold k0_part39_skel W13
  iintro ⟨H9, H3, ⟨%g, H13, %hD⟩⟩
  have hD0 : WDone X9 X3 109 (arg13.view.writes (Elt F) g []) := hD
  sl_exec
  sl_step
  isplitl [H9]; · iexact H9
  isplitl [H3]; · iexact H3
  isplitl [H13]
  · iexists _; isplitl [H13]; · iexact H13
    ipureintro; exact (wdone_step 111 (wdone_step 110 (wdone_step 109 hD0)))
  ipureintro; rfl

theorem part40_run (X9 : BufTy.Contents (Elt F) arg9.view.ty) (X3 : BufTy.Contents (Elt F) arg3.view.ty) (v1136 : FVec F S128x128 .f32) (hv1136 : v1136 = (k0_pay158 (wIn X9 112) (wSc X3 112))) :
    iprop((arg9.view.loc (c : Thread nD τ) ↦[arg9.view.set]{fullShare} X9) ∗ (arg3.view.loc (c : Thread nD τ) ↦[arg3.view.set]{fullShare} X3) ∗ W13 c arg13 X9 X3 112)
      ⊢ (wp frame (wpE (defs₀ (F := F)) 𝒱 (c : Thread nD τ) bd) E (k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1136)
          (fun r => iprop((arg9.view.loc (c : Thread nD τ) ↦[arg9.view.set]{fullShare} X9) ∗ (arg3.view.loc (c : Thread nD τ) ↦[arg3.view.set]{fullShare} X3) ∗ W13 c arg13 X9 X3 115 ∗ ⌜r = (k0_pay162 (wIn X9 115) (wSc X3 115))⌝)) : sProp 𝕄) := by
  subst hv1136
  rw [k0_part40_eq_skeleton]
  unfold k0_part40_skel W13
  iintro ⟨H9, H3, ⟨%g, H13, %hD⟩⟩
  have hD0 : WDone X9 X3 112 (arg13.view.writes (Elt F) g []) := hD
  sl_exec
  sl_step
  isplitl [H9]; · iexact H9
  isplitl [H3]; · iexact H3
  isplitl [H13]
  · iexists _; isplitl [H13]; · iexact H13
    ipureintro; exact (wdone_step 114 (wdone_step 113 (wdone_step 112 hD0)))
  ipureintro; rfl

theorem part41_run (X9 : BufTy.Contents (Elt F) arg9.view.ty) (X3 : BufTy.Contents (Elt F) arg3.view.ty) (v1167 : FVec F S128x128 .bf16) (hv1167 : v1167 = (k0_pay162 (wIn X9 115) (wSc X3 115))) :
    iprop((arg9.view.loc (c : Thread nD τ) ↦[arg9.view.set]{fullShare} X9) ∗ (arg3.view.loc (c : Thread nD τ) ↦[arg3.view.set]{fullShare} X3) ∗ W13 c arg13 X9 X3 115)
      ⊢ (wp frame (wpE (defs₀ (F := F)) 𝒱 (c : Thread nD τ) bd) E (k0_part41 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1167)
          (fun r => iprop((arg9.view.loc (c : Thread nD τ) ↦[arg9.view.set]{fullShare} X9) ∗ (arg3.view.loc (c : Thread nD τ) ↦[arg3.view.set]{fullShare} X3) ∗ W13 c arg13 X9 X3 118 ∗ ⌜r = (k0_pay166 (wIn X9 118) (wSc X3 118))⌝)) : sProp 𝕄) := by
  subst hv1167
  rw [k0_part41_eq_skeleton]
  unfold k0_part41_skel W13
  iintro ⟨H9, H3, ⟨%g, H13, %hD⟩⟩
  have hD0 : WDone X9 X3 115 (arg13.view.writes (Elt F) g []) := hD
  sl_exec
  sl_step
  isplitl [H9]; · iexact H9
  isplitl [H3]; · iexact H3
  isplitl [H13]
  · iexists _; isplitl [H13]; · iexact H13
    ipureintro; exact (wdone_step 117 (wdone_step 116 (wdone_step 115 hD0)))
  ipureintro; rfl

theorem part42_run (X9 : BufTy.Contents (Elt F) arg9.view.ty) (X3 : BufTy.Contents (Elt F) arg3.view.ty) (v1197 : FVec F S128x128 .bf16) (hv1197 : v1197 = (k0_pay166 (wIn X9 118) (wSc X3 118))) :
    iprop((arg9.view.loc (c : Thread nD τ) ↦[arg9.view.set]{fullShare} X9) ∗ (arg3.view.loc (c : Thread nD τ) ↦[arg3.view.set]{fullShare} X3) ∗ W13 c arg13 X9 X3 118)
      ⊢ (wp frame (wpE (defs₀ (F := F)) 𝒱 (c : Thread nD τ) bd) E (k0_part42 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1197)
          (fun r => iprop((arg9.view.loc (c : Thread nD τ) ↦[arg9.view.set]{fullShare} X9) ∗ (arg3.view.loc (c : Thread nD τ) ↦[arg3.view.set]{fullShare} X3) ∗ W13 c arg13 X9 X3 122)) : sProp 𝕄) := by
  subst hv1197
  rw [k0_part42_eq_skeleton]
  unfold k0_part42_skel W13
  iintro ⟨H9, H3, ⟨%g, H13, %hD⟩⟩
  have hD0 : WDone X9 X3 118 (arg13.view.writes (Elt F) g []) := hD
  sl_exec
  sl_step
  isplitl [H9]; · iexact H9
  isplitl [H3]; · iexact H3
  iexists _; isplitl [H13]; · iexact H13
  ipureintro; exact (wdone_step 121 (wdone_step 120 (wdone_step 119 (wdone_step 118 hD0))))

theorem part43_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 122)
      ⊢ (wp frame (wpE (defs₀ (F := F)) 𝒱 (c : Thread nD τ) bd) E (k0_part43 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 125 ∗ ⌜r = (wIn X9 125)⌝)) : sProp 𝕄) := by
  rw [k0_part43_eq_skeleton]
  unfold k0_part43_skel W13
  iintro ⟨H9, H3, ⟨%g, H13, %hD⟩⟩
  have hD0 : WDone X9 X3 122 (arg13.view.writes (Elt F) g []) := hD
  sl_exec
  sl_step
  isplitl [H9]; · iexact H9
  isplitl [H3]; · iexact H3
  isplitl [H13]
  · iexists _; isplitl [H13]; · iexact H13
    ipureintro; exact (wdone_step 124 (wdone_step 123 (wdone_step 122 hD0)))
  ipureintro; rfl

end Cert.Kernel.Hand

end
-- ==== Proof.Kernel.Inner.lean ====
/- The two inner loops of the kernel's body, each by an invariant that names exactly what has been written:
   the dequantising loop (one trip turns 512 rows of the prefix codes into numbers, group by group of 128
   columns) and the expansion loop of one head (one trip multiplies 512 dequantised rows by the head's
   matrix).  The contents are stated as a list of writes over what the buffer held at entry. -/
module

public import proofs.«01_k».proof.Proof.Kernel.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What one trip of the dequantising loop writes: four column groups of 512 rows, last written first. -/
def deqTrip {arg10 : Memref sig .tc .vmem S4096x512 .fp8e4m3} {arg11 : Memref sig .tc .vmem S4x4096 .f32}
    (X10 : BufTy.Contents (Elt F) arg10.view.ty) (X11 : BufTy.Contents (Elt F) arg11.view.ty) (k : Fin k0_t1_loop.trips) :
    List (View.Piece (Elt F) S4096x512 .bf16) :=
  let s := arg11.view.readAt (Elt F) (Rect.unit (s := S4x4096) (k0_off1 k) S4x512.size (k0_off1_inb k)).toLoadRect X11
  [⟨Rect.unit (s := S4096x512) (k0_off5 k) S512x128.size (k0_off5_inb k), k0_pay177 (k0_pay6 s (arg10.view.readAt (Elt F) (Rect.unit (s := S4096x512) (k0_off5 k) S512x128.size (k0_off5_inb k)).toLoadRect X10))⟩,
   ⟨Rect.unit (s := S4096x512) (k0_off4 k) S512x128.size (k0_off4_inb k), k0_pay5 s (arg10.view.readAt (Elt F) (Rect.unit (s := S4096x512) (k0_off4 k) S512x128.size (k0_off4_inb k)).toLoadRect X10)⟩,
   ⟨Rect.unit (s := S4096x512) (k0_off3 k) S512x128.size (k0_off3_inb k), k0_pay4 s (arg10.view.readAt (Elt F) (Rect.unit (s := S4096x512) (k0_off3 k) S512x128.size (k0_off3_inb k)).toLoadRect X10)⟩,
   ⟨Rect.unit (s := S4096x512) (k0_off2 k) S512x128.size (k0_off2_inb k), k0_pay3 s (arg10.view.readAt (Elt F) (Rect.unit (s := S4096x512) (k0_off2 k) S512x128.size (k0_off2_inb k)).toLoadRect X10)⟩]

/-- The writes of the trips before `k`, last first. -/
def deqPieces {arg10 : Memref sig .tc .vmem S4096x512 .fp8e4m3} {arg11 : Memref sig .tc .vmem S4x4096 .f32}
    (X10 : BufTy.Contents (Elt F) arg10.view.ty) (X11 : BufTy.Contents (Elt F) arg11.view.ty) :
    ℕ → List (View.Piece (Elt F) S4096x512 .bf16)
  | 0 => []
  | k + 1 => if h : k < k0_t1_loop.trips then deqTrip X10 X11 ⟨k, h⟩ ++ deqPieces X10 X11 k else deqPieces X10 X11 k

theorem deqPieces_succ {arg10 : Memref sig .tc .vmem S4096x512 .fp8e4m3} {arg11 : Memref sig .tc .vmem S4x4096 .f32}
    (X10 : BufTy.Contents (Elt F) arg10.view.ty) (X11 : BufTy.Contents (Elt F) arg11.view.ty) (k : Fin k0_t1_loop.trips) :
    deqPieces X10 X11 (k.val + 1) = deqTrip X10 X11 k ++ deqPieces X10 X11 k.val := by
  rw [deqPieces]; exact dif_pos k.isLt

/-- What one trip of a head's expansion loop writes: 512 rows. -/
def expTrip {arg14 : Memref sig .tc .vmem S4096x512 .bf16} (v1385 : Vec F S1x512x256 .bf16)
    (X14 : BufTy.Contents (Elt F) arg14.view.ty) (k : Fin k0_t3_loop.trips) : List (View.Piece (Elt F) S4096x256 .bf16) :=
  [⟨Rect.unit (s := S4096x256) (k0_off9 k) S512x256.size (k0_off9_inb k), k0_pay9 v1385 (arg14.view.readAt (Elt F) (Rect.unit (s := S4096x512) (k0_off8 k) S512x512.size (k0_off8_inb k)).toLoadRect X14)⟩]

/-- The writes of the trips before `k`, last first. -/
def expPieces {arg14 : Memref sig .tc .vmem S4096x512 .bf16} (v1385 : Vec F S1x512x256 .bf16)
    (X14 : BufTy.Contents (Elt F) arg14.view.ty) : ℕ → List (View.Piece (Elt F) S4096x256 .bf16)
  | 0 => []
  | k + 1 => if h : k < k0_t3_loop.trips then expTrip v1385 X14 ⟨k, h⟩ ++ expPieces v1385 X14 k else expPieces v1385 X14 k

theorem expPieces_succ {arg14 : Memref sig .tc .vmem S4096x512 .bf16} (v1385 : Vec F S1x512x256 .bf16)
    (X14 : BufTy.Contents (Elt F) arg14.view.ty) (k : Fin k0_t3_loop.trips) :
    expPieces v1385 X14 (k.val + 1) = expTrip v1385 X14 k ++ expPieces v1385 X14 k.val := by
  rw [expPieces]; exact dif_pos k.isLt

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- One trip of the expansion loop. -/
theorem expTrip_run (c0 c1 : BitVec 32) (t2 : Fin k0_t2_loop.trips) (v1385 : Vec F S1x512x256 .bf16)
    (X14 : BufTy.Contents (Elt F) arg14.view.ty) (f15 : BufTy.Contents (Elt F) arg15.view.ty) (k : Fin k0_t3_loop.trips) :
    iprop((arg14.view.loc (c : Thread nD τ) ↦[arg14.view.set]{fullShare} X14) ∗ (arg15.view.loc (c : Thread nD τ) ↦[arg15.view.set]{fullShare} f15))
      ⊢ (wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 k PUnit.unit)
          (fun _ => iprop((arg14.view.loc (c : Thread nD τ) ↦[arg14.view.set]{fullShare} X14) ∗ (arg15.view.loc (c : Thread nD τ) ↦[arg15.view.set]{fullShare} arg15.view.writes (Elt F) f15 (expTrip v1385 X14 k)))) : sProp 𝕄) := by
  have hk : k.val < 8 := Nat.lt_of_lt_of_le k.isLt k0_t3_abs.2.1
  unfold k0_t3_body
  iintro ⟨H14, H15⟩
  sl_exec
  sl_step
  sl_close

/-- One trip of the dequantising loop. -/
theorem deqTrip_run (v8 : IVec S16x128 32)
    (X10 : BufTy.Contents (Elt F) arg10.view.ty) (X11 : BufTy.Contents (Elt F) arg11.view.ty) (f14 : BufTy.Contents (Elt F) arg14.view.ty) (k : Fin k0_t1_loop.trips) :
    iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} f14))
      ⊢ (wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 k PUnit.unit)
          (fun _ => iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} arg14.view.writes (Elt F) f14 (deqTrip X10 X11 k)))) : sProp 𝕄) := by
  have hk : k.val < 8 := Nat.lt_of_lt_of_le k.isLt k0_t1_abs.2.1
  unfold k0_t1_body
  simp only [k0_part1_eq_skeleton]
  iintro ⟨H10, H11, H14⟩
  sl_exec
  sl_step
  sl_close

set_option warn.classDefReducibility false in
/-- The expansion loop of one head by its invariant. -/
@[sl_loop] def loopExp (c0 c1 : BitVec 32) (t2 : Fin k0_t2_loop.trips) (v1385 : Vec F S1x512x256 .bf16)
    (X14 : BufTy.Contents (Elt F) arg14.view.ty) (G15 : BufTy.Contents (Elt F) arg15.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 where
  inv k _ := iprop((arg14.view.loc (c : Thread nD τ) ↦[arg14.view.set]{fullShare} X14)
    ∗ (∃ f, (arg15.view.loc (c : Thread nD τ) ↦[arg15.view.set]{fullShare} f) ∗ ⌜f = arg15.view.writes (Elt F) G15 (expPieces v1385 X14 k)⌝))
  step k acc := by
    iintro ⟨H14, ⟨%f, H15, %hf⟩⟩
    iapply (wp_wand_r frame (wpE (defs₀ (F := F)) 𝒱 (c : Thread nD τ) bd) E)
    isplitl [H14 H15]
    · iapply (expTrip_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 X14 f k)
      isplitl [H14]; · iexact H14
      iexact H15
    · iintro %_ ⟨H14, H15⟩
      isplitl [H14]; · iexact H14
      rw [expPieces_succ]
      iexists _; isplitl [H15]; · iexact H15
      ipureintro; rw [hf, ← View.writes_append]

set_option warn.classDefReducibility false in
/-- The dequantising loop by its invariant. -/
@[sl_loop] def loopDeq (v8 : IVec S16x128 32)
    (X10 : BufTy.Contents (Elt F) arg10.view.ty) (X11 : BufTy.Contents (Elt F) arg11.view.ty) (G14 : BufTy.Contents (Elt F) arg14.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 where
  inv k _ := iprop((arg10.view.loc (c : Thread nD τ) ↦[arg10.view.set]{fullShare} X10) ∗ (arg11.view.loc (c : Thread nD τ) ↦[arg11.view.set]{fullShare} X11)
    ∗ (∃ f, (arg14.view.loc (c : Thread nD τ) ↦[arg14.view.set]{fullShare} f) ∗ ⌜f = arg14.view.writes (Elt F) G14 (deqPieces X10 X11 k)⌝))
  step k acc := by
    iintro ⟨H10, H11, ⟨%f, H14, %hf⟩⟩
    iapply (wp_wand_r frame (wpE (defs₀ (F := F)) 𝒱 (c : Thread nD τ) bd) E)
    isplitl [H10 H11 H14]
    · iapply (deqTrip_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X10 X11 f k)
      isplitl [H10]; · iexact H10
      isplitl [H11]; · iexact H11
      iexact H14
    · iintro %_ ⟨H10, H11, H14⟩
      isplitl [H10]; · iexact H10
      isplitl [H11]; · iexact H11
      rw [deqPieces_succ]
      iexists _; isplitl [H14]; · iexact H14
      ipureintro; rw [hf, ← View.writes_append]

end Cert.Kernel.Hand

end
-- ==== Proof.Kernel.Exits.lean ====
/- What the two inner loops leave: after its last trip the dequantising loop has filled the whole buffer of prefix
   numbers, and the expansion loop of one head the whole buffer of that head's keys and values, whatever the
   buffers held before. -/
module

public import proofs.«01_k».proof.Proof.Kernel.Inner
public import Idealize.ShloMosaic.Lib.ValueIdxCore

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem trips1 : k0_t1_loop.trips = 8 := by decide
theorem trips2 : k0_t2_loop.trips = 16 := by decide
theorem trips3 : k0_t3_loop.trips = 8 := by decide

/-- A number as a trip of the dequantising loop. -/
def t1Of (n : ℕ) : Fin k0_t1_loop.trips := ⟨n % 8, by rw [trips1]; exact Nat.mod_lt _ (by decide)⟩
/-- A number as a head. -/
def t2Of (n : ℕ) : Fin k0_t2_loop.trips := ⟨n % 16, by rw [trips2]; exact Nat.mod_lt _ (by decide)⟩
/-- A number as a trip of the expansion loop. -/
def t3Of (n : ℕ) : Fin k0_t3_loop.trips := ⟨n % 8, by rw [trips3]; exact Nat.mod_lt _ (by decide)⟩
theorem t1Of_val (k : Fin k0_t1_loop.trips) : t1Of k.val = k :=
  Fin.ext (Nat.mod_eq_of_lt (Nat.lt_of_lt_of_le k.isLt (le_of_eq trips1)))
theorem t2Of_val (k : Fin k0_t2_loop.trips) : t2Of k.val = k :=
  Fin.ext (Nat.mod_eq_of_lt (Nat.lt_of_lt_of_le k.isLt (le_of_eq trips2)))
theorem t3Of_val (k : Fin k0_t3_loop.trips) : t3Of k.val = k :=
  Fin.ext (Nat.mod_eq_of_lt (Nat.lt_of_lt_of_le k.isLt (le_of_eq trips3)))

/-- The scales one trip of the dequantising loop reads. -/
def deqS {arg11 : Memref sig .tc .vmem S4x4096 .f32} (X11 : BufTy.Contents (Elt F) arg11.view.ty) (k : Fin k0_t1_loop.trips) : Vec F S4x512 .f32 :=
  arg11.view.readAt (Elt F) (Rect.unit (s := S4x4096) (k0_off1 k) S4x512.size (k0_off1_inb k)).toLoadRect X11

/-- The block trip `k` writes at column group `g`. -/
def deqBlk {arg10 : Memref sig .tc .vmem S4096x512 .fp8e4m3} {arg11 : Memref sig .tc .vmem S4x4096 .f32} (X10 : BufTy.Contents (Elt F) arg10.view.ty) (X11 : BufTy.Contents (Elt F) arg11.view.ty) (k : Fin k0_t1_loop.trips) : ℕ → Vec F S512x128 .bf16
  | 0 => k0_pay3 (deqS X11 k) (arg10.view.readAt (Elt F) (Rect.unit (s := S4096x512) (k0_off2 k) S512x128.size (k0_off2_inb k)).toLoadRect X10)
  | 1 => k0_pay4 (deqS X11 k) (arg10.view.readAt (Elt F) (Rect.unit (s := S4096x512) (k0_off3 k) S512x128.size (k0_off3_inb k)).toLoadRect X10)
  | 2 => k0_pay5 (deqS X11 k) (arg10.view.readAt (Elt F) (Rect.unit (s := S4096x512) (k0_off4 k) S512x128.size (k0_off4_inb k)).toLoadRect X10)
  | _ => k0_pay177 (k0_pay6 (deqS X11 k) (arg10.view.readAt (Elt F) (Rect.unit (s := S4096x512) (k0_off5 k) S512x128.size (k0_off5_inb k)).toLoadRect X10))

/-- The dequantised prefix, entry by entry. -/
def deqVal {arg10 : Memref sig .tc .vmem S4096x512 .fp8e4m3} {arg11 : Memref sig .tc .vmem S4x4096 .f32} (X10 : BufTy.Contents (Elt F) arg10.view.ty) (X11 : BufTy.Contents (Elt F) arg11.view.ty) : Vec F S4096x512 .bf16 := fun y =>
  deqBlk X10 X11 (t1Of ((y 0).val / 512)) ((y 1).val / 128)
    (ValueIdx.ix2 (⟨(y 0).val % 512, Nat.mod_lt _ (by decide)⟩ : Fin 512) (⟨(y 1).val % 128, Nat.mod_lt _ (by decide)⟩ : Fin 128))

/-- The writes of one trip, by its blocks. -/
theorem deqTrip_eq {arg10 : Memref sig .tc .vmem S4096x512 .fp8e4m3} {arg11 : Memref sig .tc .vmem S4x4096 .f32} (X10 : BufTy.Contents (Elt F) arg10.view.ty) (X11 : BufTy.Contents (Elt F) arg11.view.ty) (k : Fin k0_t1_loop.trips) :
    deqTrip X10 X11 k = [⟨Rect.unit (s := S4096x512) (k0_off5 k) S512x128.size (k0_off5_inb k), deqBlk X10 X11 k 3⟩,
      ⟨Rect.unit (s := S4096x512) (k0_off4 k) S512x128.size (k0_off4_inb k), deqBlk X10 X11 k 2⟩,
      ⟨Rect.unit (s := S4096x512) (k0_off3 k) S512x128.size (k0_off3_inb k), deqBlk X10 X11 k 1⟩,
      ⟨Rect.unit (s := S4096x512) (k0_off2 k) S512x128.size (k0_off2_inb k), deqBlk X10 X11 k 0⟩] := rfl

/-- One trip of the dequantising loop leaves the rows of the other trips alone. -/
theorem deq_miss {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val < 512 * k.val) :
    arg14.view.read (Elt F) (arg14.view.writes (Elt F) G (deqTrip X10 X11 k ++ L)) y = arg14.view.read (Elt F) (arg14.view.writes (Elt F) G L) y := by
  have f2 : k0_off2 k 0 = 512 * k.val := by rw [k0_off2_eq]; rfl
  have f3 : k0_off3 k 0 = 512 * k.val := by rw [k0_off3_eq]; rfl
  have f4 : k0_off4 k 0 = 512 * k.val := by rw [k0_off4_eq]; rfl
  have f5 : k0_off5 k 0 = 512 * k.val := by rw [k0_off5_eq]; rfl
  rw [deqTrip_eq]
  simp only [List.cons_append, List.nil_append]
  refine (View.read_writes_cons_miss_of_axis _ _ _ _ y 0 (512 * k.val) 512 f5 rfl rfl (Or.inl hy)).trans ?_
  refine (View.read_writes_cons_miss_of_axis _ _ _ _ y 0 (512 * k.val) 512 f4 rfl rfl (Or.inl hy)).trans ?_
  refine (View.read_writes_cons_miss_of_axis _ _ _ _ y 0 (512 * k.val) 512 f3 rfl rfl (Or.inl hy)).trans ?_
  exact View.read_writes_cons_miss_of_axis _ _ _ _ y 0 (512 * k.val) 512 f2 rfl rfl (Or.inl hy)

/-- One trip fills column group 0 of its rows. -/
theorem deq_hit0 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 0) :
    arg14.view.read (Elt F) (arg14.view.writes (Elt F) G (deqTrip X10 X11 k ++ L)) y = deqBlk X10 X11 k 0
      (ValueIdx.ix2 (⟨(y 0).val % 512, Nat.mod_lt _ (by decide)⟩ : Fin 512) (⟨(y 1).val % 128, Nat.mod_lt _ (by decide)⟩ : Fin 128)) := by
  have h0 : k0_off2 k 0 = 512 * k.val := by rw [k0_off2_eq]; rfl
  have h1 : k0_off2 k 1 = 0 := by rw [k0_off2_eq]; rfl
  have f5 : k0_off5 k 1 = 384 := by rw [k0_off5_eq]; rfl
  have f4 : k0_off4 k 1 = 256 := by rw [k0_off4_eq]; rfl
  have f3 : k0_off3 k 1 = 128 := by rw [k0_off3_eq]; rfl
  rw [deqTrip_eq]
  simp only [List.cons_append, List.nil_append]
  refine (View.read_writes_cons_miss_of_axis _ _ _ _ y 1 384 128 f5 rfl rfl (Or.inl (by omega))).trans ?_
  refine (View.read_writes_cons_miss_of_axis _ _ _ _ y 1 256 128 f4 rfl rfl (Or.inl (by omega))).trans ?_
  refine (View.read_writes_cons_miss_of_axis _ _ _ _ y 1 128 128 f3 rfl rfl (Or.inl (by omega))).trans ?_
  refine View.read_writes_cons_hit_of_coords _ _ (Rect.unit (s := S4096x512) (k0_off2 k) S512x128.size (k0_off2_inb k)) (deqBlk X10 X11 k 0) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off2 k 0 + 1 * ((y 0).val % 512); omega
  | 1 => show (y 1).val = k0_off2 k 1 + 1 * ((y 1).val % 128); omega

/-- One trip fills column group 1 of its rows. -/
theorem deq_hit1 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 1) :
    arg14.view.read (Elt F) (arg14.view.writes (Elt F) G (deqTrip X10 X11 k ++ L)) y = deqBlk X10 X11 k 1
      (ValueIdx.ix2 (⟨(y 0).val % 512, Nat.mod_lt _ (by decide)⟩ : Fin 512) (⟨(y 1).val % 128, Nat.mod_lt _ (by decide)⟩ : Fin 128)) := by
  have h0 : k0_off3 k 0 = 512 * k.val := by rw [k0_off3_eq]; rfl
  have h1 : k0_off3 k 1 = 128 := by rw [k0_off3_eq]; rfl
  have f5 : k0_off5 k 1 = 384 := by rw [k0_off5_eq]; rfl
  have f4 : k0_off4 k 1 = 256 := by rw [k0_off4_eq]; rfl
  rw [deqTrip_eq]
  simp only [List.cons_append, List.nil_append]
  refine (View.read_writes_cons_miss_of_axis _ _ _ _ y 1 384 128 f5 rfl rfl (Or.inl (by omega))).trans ?_
  refine (View.read_writes_cons_miss_of_axis _ _ _ _ y 1 256 128 f4 rfl rfl (Or.inl (by omega))).trans ?_
  refine View.read_writes_cons_hit_of_coords _ _ (Rect.unit (s := S4096x512) (k0_off3 k) S512x128.size (k0_off3_inb k)) (deqBlk X10 X11 k 1) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off3 k 0 + 1 * ((y 0).val % 512); omega
  | 1 => show (y 1).val = k0_off3 k 1 + 1 * ((y 1).val % 128); omega

/-- One trip fills column group 2 of its rows. -/
theorem deq_hit2 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 2) :
    arg14.view.read (Elt F) (arg14.view.writes (Elt F) G (deqTrip X10 X11 k ++ L)) y = deqBlk X10 X11 k 2
      (ValueIdx.ix2 (⟨(y 0).val % 512, Nat.mod_lt _ (by decide)⟩ : Fin 512) (⟨(y 1).val % 128, Nat.mod_lt _ (by decide)⟩ : Fin 128)) := by
  have h0 : k0_off4 k 0 = 512 * k.val := by rw [k0_off4_eq]; rfl
  have h1 : k0_off4 k 1 = 256 := by rw [k0_off4_eq]; rfl
  have f5 : k0_off5 k 1 = 384 := by rw [k0_off5_eq]; rfl
  rw [deqTrip_eq]
  simp only [List.cons_append, List.nil_append]
  refine (View.read_writes_cons_miss_of_axis _ _ _ _ y 1 384 128 f5 rfl rfl (Or.inl (by omega))).trans ?_
  refine View.read_writes_cons_hit_of_coords _ _ (Rect.unit (s := S4096x512) (k0_off4 k) S512x128.size (k0_off4_inb k)) (deqBlk X10 X11 k 2) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off4 k 0 + 1 * ((y 0).val % 512); omega
  | 1 => show (y 1).val = k0_off4 k 1 + 1 * ((y 1).val % 128); omega

/-- One trip fills column group 3 of its rows. -/
theorem deq_hit3 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 3) :
    arg14.view.read (Elt F) (arg14.view.writes (Elt F) G (deqTrip X10 X11 k ++ L)) y = deqBlk X10 X11 k 3
      (ValueIdx.ix2 (⟨(y 0).val % 512, Nat.mod_lt _ (by decide)⟩ : Fin 512) (⟨(y 1).val % 128, Nat.mod_lt _ (by decide)⟩ : Fin 128)) := by
  have h0 : k0_off5 k 0 = 512 * k.val := by rw [k0_off5_eq]; rfl
  have h1 : k0_off5 k 1 = 384 := by rw [k0_off5_eq]; rfl
  rw [deqTrip_eq]
  simp only [List.cons_append, List.nil_append]
  refine View.read_writes_cons_hit_of_coords _ _ (Rect.unit (s := S4096x512) (k0_off5 k) S512x128.size (k0_off5_inb k)) (deqBlk X10 X11 k 3) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off5 k 0 + 1 * ((y 0).val % 512); omega
  | 1 => show (y 1).val = k0_off5 k 1 + 1 * ((y 1).val % 128); omega

/-- The rows written by the trips before `n` hold the dequantised prefix. -/
theorem deq_done {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty) (n : ℕ) (hn : n ≤ 8)
    (y : S4096x512.Idx) (hy : (y 0).val / 512 < n) :
    arg14.view.read (Elt F) (arg14.view.writes (Elt F) G (deqPieces X10 X11 n)) y = deqVal X10 X11 y := by
  induction n with
  | zero => exact absurd hy (Nat.not_lt_zero _)
  | succ n ih =>
    have hk : n < k0_t1_loop.trips := by rw [trips1]; omega
    have h1 : (y 1).val < 512 := (y 1).isLt
    rw [deqPieces_succ X10 X11 ⟨n, hk⟩]
    rcases Nat.lt_or_ge ((y 0).val / 512) n with hlt | hge
    · rw [← ih (by omega) hlt]
      exact deq_miss X10 X11 G ⟨n, hk⟩ _ y (by show (y 0).val < 512 * n; omega)
    · have he : (y 0).val / 512 = n := by omega
      have ht : t1Of ((y 0).val / 512) = ⟨n, hk⟩ := by rw [he]; exact t1Of_val ⟨n, hk⟩
      unfold deqVal
      rw [ht]
      have hc : (y 1).val / 128 = 0 ∨ (y 1).val / 128 = 1 ∨ (y 1).val / 128 = 2 ∨ (y 1).val / 128 = 3 := by omega
      rcases hc with hc | hc | hc | hc
      · rw [hc]; exact deq_hit0 X10 X11 G ⟨n, hk⟩ _ y he hc
      · rw [hc]; exact deq_hit1 X10 X11 G ⟨n, hk⟩ _ y he hc
      · rw [hc]; exact deq_hit2 X10 X11 G ⟨n, hk⟩ _ y he hc
      · rw [hc]; exact deq_hit3 X10 X11 G ⟨n, hk⟩ _ y he hc

/-- The rows trip `k` of a head's expansion loop writes. -/
def expBlk {arg14 : Memref sig .tc .vmem S4096x512 .bf16} (v1385 : Vec F S1x512x256 .bf16) (X14 : BufTy.Contents (Elt F) arg14.view.ty) (k : Fin k0_t3_loop.trips) : Vec F S512x256 .bf16 :=
  k0_pay9 v1385 (arg14.view.readAt (Elt F) (Rect.unit (s := S4096x512) (k0_off8 k) S512x512.size (k0_off8_inb k)).toLoadRect X14)

/-- The keys and values of one head, entry by entry, from the head's matrix and the dequantised prefix. -/
def expVal {arg14 : Memref sig .tc .vmem S4096x512 .bf16} (v1385 : Vec F S1x512x256 .bf16) (X14 : BufTy.Contents (Elt F) arg14.view.ty) : Vec F S4096x256 .bf16 := fun y =>
  expBlk v1385 X14 (t3Of ((y 0).val / 512))
    (ValueIdx.ix2 (⟨(y 0).val % 512, Nat.mod_lt _ (by decide)⟩ : Fin 512) (⟨(y 1).val, (y 1).isLt⟩ : Fin 256))

/-- The rows written by the trips before `n` hold the head's keys and values. -/
theorem exp_done {arg14 : Memref sig .tc .vmem S4096x512 .bf16} {arg15 : Memref sig .tc .vmem S4096x256 .bf16} (v1385 : Vec F S1x512x256 .bf16) (X14 : BufTy.Contents (Elt F) arg14.view.ty) (G : BufTy.Contents (Elt F) arg15.view.ty) (n : ℕ) (hn : n ≤ 8)
    (y : S4096x256.Idx) (hy : (y 0).val / 512 < n) :
    arg15.view.read (Elt F) (arg15.view.writes (Elt F) G (expPieces v1385 X14 n)) y = expVal v1385 X14 y := by
  induction n with
  | zero => exact absurd hy (Nat.not_lt_zero _)
  | succ n ih =>
    have hk : n < k0_t3_loop.trips := by rw [trips3]; omega
    rw [expPieces_succ v1385 X14 ⟨n, hk⟩]
    have o9 := k0_off9_eq ⟨n, hk⟩
    have f0 : k0_off9 ⟨n, hk⟩ 0 = 512 * n := by rw [o9]; rfl
    have f1 : k0_off9 ⟨n, hk⟩ 1 = 0 := by rw [o9]; rfl
    unfold expTrip
    simp only [List.cons_append, List.nil_append]
    rcases Nat.lt_or_ge ((y 0).val / 512) n with hlt | hge
    · rw [← ih (by omega) hlt]
      exact View.read_writes_cons_miss_of_axis _ _ _ _ y 0 (512 * n) 512 f0 rfl rfl (by omega)
    · have he : (y 0).val / 512 = n := by omega
      have ht : t3Of ((y 0).val / 512) = ⟨n, hk⟩ := by rw [he]; exact t3Of_val ⟨n, hk⟩
      unfold expVal
      rw [ht]
      refine View.read_writes_cons_hit_of_coords _ _ (Rect.unit (s := S4096x256) (k0_off9 ⟨n, hk⟩) S512x256.size (k0_off9_inb ⟨n, hk⟩)) (expBlk v1385 X14 ⟨n, hk⟩) _ (ValueIdx.ix2 (⟨(y 0).val % 512, Nat.mod_lt _ (by decide)⟩ : Fin 512) (⟨(y 1).val, (y 1).isLt⟩ : Fin 256)) y (fun a => ?_)
      match a with
      | 0 => show (y 0).val = k0_off9 ⟨n, hk⟩ 0 + 1 * ((y 0).val % 512); omega
      | 1 => show (y 1).val = k0_off9 ⟨n, hk⟩ 1 + 1 * ((y 1).val); omega

/-- After the dequantising loop the whole buffer is the dequantised prefix. -/
theorem deq_all {arg10 : Memref sig .tc .vmem S4096x512 .fp8e4m3} {arg11 : Memref sig .tc .vmem S4x4096 .f32} {arg14 : Memref sig .tc .vmem S4096x512 .bf16} (harg14 : arg14.IsWhole) (X10 : BufTy.Contents (Elt F) arg10.view.ty) (X11 : BufTy.Contents (Elt F) arg11.view.ty) (G : BufTy.Contents (Elt F) arg14.view.ty) :
    arg14.view.writes (Elt F) G (deqPieces X10 X11 k0_t1_loop.trips) = harg14.unread (deqVal X10 X11) :=
  harg14.eq_unread (funext fun y => deq_done X10 X11 G _ (le_of_eq trips1) y (by
    rw [trips1]; have h : (y 0).val < 4096 := (y 0).isLt
    omega))

/-- After a head's expansion loop the whole buffer is that head's keys and values. -/
theorem exp_all {arg14 : Memref sig .tc .vmem S4096x512 .bf16} {arg15 : Memref sig .tc .vmem S4096x256 .bf16} (harg15 : arg15.IsWhole) (v1385 : Vec F S1x512x256 .bf16) (X14 : BufTy.Contents (Elt F) arg14.view.ty) (G : BufTy.Contents (Elt F) arg15.view.ty) :
    arg15.view.writes (Elt F) G (expPieces v1385 X14 k0_t3_loop.trips) = harg15.unread (expVal v1385 X14) :=
  harg15.eq_unread (funext fun y => exp_done v1385 X14 G _ (le_of_eq trips3) y (by
    rw [trips3]; have h : (y 0).val < 4096 := (y 0).isLt
    omega))

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- The expansion loop's end, the buffer stated whole. -/
instance exitExp (c0 c1 : BitVec 32) (t2 : Fin k0_t2_loop.trips) (v1385 : Vec F S1x512x256 .bf16)
    (X14 : BufTy.Contents (Elt F) arg14.view.ty) (G15 : BufTy.Contents (Elt F) arg15.view.ty) :
    LoopExit (loopExp 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 X14 G15) where
  post _ := iprop((arg14.view.loc (c : Thread nD τ) ↦[arg14.view.set]{fullShare} X14) ∗ (arg15.view.loc (c : Thread nD τ) ↦[arg15.view.set]{fullShare} harg15.unread (expVal v1385 X14)))
  exit acc := by
    show iprop((arg14.view.loc (c : Thread nD τ) ↦[arg14.view.set]{fullShare} X14) ∗ (∃ f, (arg15.view.loc (c : Thread nD τ) ↦[arg15.view.set]{fullShare} f) ∗ ⌜f = arg15.view.writes (Elt F) G15 (expPieces v1385 X14 k0_t3_loop.trips)⌝)) ⊢ _
    iintro ⟨H14, ⟨%f, H15, %hf⟩⟩
    rw [hf, exp_all harg15]
    isplitl [H14]; · iexact H14
    iexact H15

/-- The dequantising loop's end, the buffer stated whole. -/
instance exitDeq (v8 : IVec S16x128 32)
    (X10 : BufTy.Contents (Elt F) arg10.view.ty) (X11 : BufTy.Contents (Elt F) arg11.view.ty) (G14 : BufTy.Contents (Elt F) arg14.view.ty) :
    LoopExit (loopDeq 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X10 X11 G14) where
  post _ := iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} harg14.unread (deqVal X10 X11)))
  exit acc := by
    show iprop((arg10.view.loc (c : Thread nD τ) ↦[arg10.view.set]{fullShare} X10) ∗ (arg11.view.loc (c : Thread nD τ) ↦[arg11.view.set]{fullShare} X11) ∗ (∃ f, (arg14.view.loc (c : Thread nD τ) ↦[arg14.view.set]{fullShare} f) ∗ ⌜f = arg14.view.writes (Elt F) G14 (deqPieces X10 X11 k0_t1_loop.trips)⌝)) ⊢ _
    iintro ⟨H10, H11, ⟨%f, H14, %hf⟩⟩
    rw [hf, deq_all harg14]
    isplitl [H10]; · iexact H10
    isplitl [H11]; · iexact H11
    iexact H14

end Cert.Kernel.Hand

end
-- ==== Proof.Kernel.Head.lean ====
/- One trip of the loop over heads: what it reads, what it writes into the two results, and the loop's invariant. -/
module

public import proofs.«01_k».proof.Proof.Kernel.Exits

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The head's rows of the dequantised matrix. -/
def h1385 {arg13 : Memref sig .tc .vmem S16x512x256 .bf16} (X13 : BufTy.Contents (Elt F) arg13.view.ty) (k : Fin k0_t2_loop.trips) : Vec F S1x512x256 .bf16 := arg13.view.readAt (Elt F) (Rect.unit (s := S16x512x256) (k0_off6 k) S1x512x256.size (k0_off6_inb k)).toLoadRect X13
/-- The head's queries. -/
def h1388 {arg0 : Memref sig .tc .vmem S16x16x128 .bf16} (X0 : BufTy.Contents (Elt F) arg0.view.ty) (k : Fin k0_t2_loop.trips) : Vec F S1x16x128 .bf16 := arg0.view.readAt (Elt F) (Rect.unit (s := S16x16x128) (k0_off7 k) S1x16x128.size (k0_off7_inb k)).toLoadRect X0
/-- The head's rotated queries. -/
def h1396 {arg1 : Memref sig .tc .vmem S256x128 .f32} (X1 : BufTy.Contents (Elt F) arg1.view.ty) (k : Fin k0_t2_loop.trips) : Vec F S16x128 .f32 := arg1.view.readAt (Elt F) (Rect.unit (s := S256x128) (k0_off10 k) S16x128.size (k0_off10_inb k)).toLoadRect X1
/-- The rotated keys. -/
def h1399 {arg12 : Memref sig .tc .vmem S64x4096 .bf16} (X12 : BufTy.Contents (Elt F) arg12.view.ty) : Vec F S64x4096 .bf16 := arg12.view.readAt (Elt F) (Rect.unit (s := S64x4096) (![0, 0]) S64x4096.size (by decide)).toLoadRect X12
/-- The head's keys: the left half of the expanded prefix. -/
def hLo {arg13 : Memref sig .tc .vmem S16x512x256 .bf16} {arg14 : Memref sig .tc .vmem S4096x512 .bf16} (arg15 : Memref sig .tc .vmem S4096x256 .bf16) (harg15 : arg15.IsWhole) (X13 : BufTy.Contents (Elt F) arg13.view.ty) (X14 : BufTy.Contents (Elt F) arg14.view.ty) (k : Fin k0_t2_loop.trips) : Vec F S4096x128 .bf16 :=
  arg15.view.readAt (Elt F) (Rect.unit (s := S4096x256) (![0, 0]) S4096x128.size (by decide)).toLoadRect (harg15.unread (expVal (h1385 X13 k) X14))
/-- The head's values: the right half of the expanded prefix. -/
def hHi {arg13 : Memref sig .tc .vmem S16x512x256 .bf16} {arg14 : Memref sig .tc .vmem S4096x512 .bf16} (arg15 : Memref sig .tc .vmem S4096x256 .bf16) (harg15 : arg15.IsWhole) (X13 : BufTy.Contents (Elt F) arg13.view.ty) (X14 : BufTy.Contents (Elt F) arg14.view.ty) (k : Fin k0_t2_loop.trips) : Vec F S4096x128 .bf16 :=
  arg15.view.readAt (Elt F) (Rect.unit (s := S4096x256) (![0, 128]) S4096x128.size (by decide)).toLoadRect (harg15.unread (expVal (h1385 X13 k) X14))

/-- The head's attention over the prefix, the first ten lanes. -/
def hO {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) : Vec F S10x1x128 .f32 :=
  k0_pay15 (k0_pay14 (h1388 X0 k) (hLo arg15 harg15 X13 X14 k) (h1396 X1 k) (h1399 X12) (hHi arg15 harg15 X13 X14 k))
/-- The head's log of the weights' sum, broadcast along the last axis. -/
def hL {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) : Vec F S1x16x128 .f32 :=
  k0_pay16 (k0_pay11 (h1388 X0 k) (hLo arg15 harg15 X13 X14 k) (h1396 X1 k) (h1399 X12)) (k0_pay13 (h1388 X0 k) (hLo arg15 harg15 X13 X14 k) (h1396 X1 k) (h1399 X12))

/-- The writes into the first result by the heads before `k`, last first. -/
def pieces7 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : ℕ → List (View.Piece (Elt F) S10x16x128 .f32)
  | 0 => []
  | k + 1 => if h : k < k0_t2_loop.trips then ⟨Rect.unit (s := S10x16x128) (k0_off11 ⟨k, h⟩) S10x1x128.size (k0_off11_inb ⟨k, h⟩), hO arg15 harg15 X0 X1 X12 X13 X14 ⟨k, h⟩⟩ :: pieces7 arg15 harg15 X0 X1 X12 X13 X14 k else pieces7 arg15 harg15 X0 X1 X12 X13 X14 k
/-- The writes into the buffer of logs by the heads before `k`, last first. -/
def pieces17 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : ℕ → List (View.Piece (Elt F) S2x256x128 .f32)
  | 0 => []
  | k + 1 => if h : k < k0_t2_loop.trips then ⟨Rect.unit (s := S2x256x128) (k0_off12 ⟨k, h⟩) S1x16x128.size (k0_off12_inb ⟨k, h⟩), hL arg15 harg15 X0 X1 X12 X13 X14 ⟨k, h⟩⟩ :: pieces17 arg15 harg15 X0 X1 X12 X13 X14 k else pieces17 arg15 harg15 X0 X1 X12 X13 X14 k
theorem pieces7_succ {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) :
    pieces7 arg15 harg15 X0 X1 X12 X13 X14 (k.val + 1) = ⟨Rect.unit (s := S10x16x128) (k0_off11 k) S10x1x128.size (k0_off11_inb k), hO arg15 harg15 X0 X1 X12 X13 X14 k⟩ :: pieces7 arg15 harg15 X0 X1 X12 X13 X14 k.val := by
  rw [pieces7]; exact dif_pos k.isLt
theorem pieces17_succ {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) :
    pieces17 arg15 harg15 X0 X1 X12 X13 X14 (k.val + 1) = ⟨Rect.unit (s := S2x256x128) (k0_off12 k) S1x16x128.size (k0_off12_inb k), hL arg15 harg15 X0 X1 X12 X13 X14 k⟩ :: pieces17 arg15 harg15 X0 X1 X12 X13 X14 k.val := by
  rw [pieces17]; exact dif_pos k.isLt

/-- The first result, entry by entry. -/
def out7 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : Vec F S10x16x128 .f32 := fun y =>
  hO arg15 harg15 X0 X1 X12 X13 X14 (t2Of (y 1).val) (ValueIdx.ix3 (⟨(y 0).val, (y 0).isLt⟩ : Fin 10) (0 : Fin 1) (⟨(y 2).val, (y 2).isLt⟩ : Fin 128))

/-- The buffer of logs, entry by entry. -/
def out17 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : Vec F S2x256x128 .f32 := fun y =>
  hL arg15 harg15 X0 X1 X12 X13 X14 (t2Of ((y 1).val / 16)) (ValueIdx.ix3 (0 : Fin 1) (⟨(y 1).val % 16, Nat.mod_lt _ (by decide)⟩ : Fin 16) (⟨(y 2).val, (y 2).isLt⟩ : Fin 128))

/-- The columns written by the heads before `n` hold the first result. -/
theorem done7 {arg7 : Memref sig .tc .vmem S10x16x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg7.view.ty) (n : ℕ) (hn : n ≤ 16) (y : S10x16x128.Idx) (hy : (y 1).val < n) :
    arg7.view.read (Elt F) (arg7.view.writes (Elt F) G (pieces7 arg15 harg15 X0 X1 X12 X13 X14 n)) y = out7 arg15 harg15 X0 X1 X12 X13 X14 y := by
  induction n with
  | zero => exact absurd hy (Nat.not_lt_zero _)
  | succ n ih =>
    have hk : n < k0_t2_loop.trips := by rw [trips2]; omega
    rw [pieces7_succ arg15 harg15 X0 X1 X12 X13 X14 ⟨n, hk⟩]
    have f0 : k0_off11 ⟨n, hk⟩ 0 = 0 := by rw [k0_off11_eq]; rfl
    have f1 : k0_off11 ⟨n, hk⟩ 1 = n := by rw [k0_off11_eq]; rfl
    have f2 : k0_off11 ⟨n, hk⟩ 2 = 0 := by rw [k0_off11_eq]; rfl
    rcases Nat.lt_or_ge (y 1).val n with hlt | hge
    · rw [← ih (by omega) hlt]
      exact View.read_writes_cons_miss_of_axis _ _ _ _ y 1 n 1 f1 rfl rfl (Or.inl hlt)
    · have he : (y 1).val = n := by omega
      have ht : t2Of (y 1).val = ⟨n, hk⟩ := by rw [he]; exact t2Of_val ⟨n, hk⟩
      unfold out7
      rw [ht]
      refine View.read_writes_cons_hit_of_coords _ _ (Rect.unit (s := S10x16x128) (k0_off11 ⟨n, hk⟩) S10x1x128.size (k0_off11_inb ⟨n, hk⟩)) (hO arg15 harg15 X0 X1 X12 X13 X14 ⟨n, hk⟩) _
        (ValueIdx.ix3 (⟨(y 0).val, (y 0).isLt⟩ : Fin 10) (0 : Fin 1) (⟨(y 2).val, (y 2).isLt⟩ : Fin 128)) y (fun a => ?_)
      match a with
      | 0 => show (y 0).val = k0_off11 ⟨n, hk⟩ 0 + 1 * (y 0).val; omega
      | 1 => show (y 1).val = k0_off11 ⟨n, hk⟩ 1 + 1 * 0; omega
      | 2 => show (y 2).val = k0_off11 ⟨n, hk⟩ 2 + 1 * (y 2).val; omega

/-- The rows written by the heads before `n` hold the logs. -/
theorem done17 {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg17.view.ty) (n : ℕ) (hn : n ≤ 16) (y : S2x256x128.Idx) (h0 : (y 0).val = 0) (hy : (y 1).val / 16 < n) :
    arg17.view.read (Elt F) (arg17.view.writes (Elt F) G (pieces17 arg15 harg15 X0 X1 X12 X13 X14 n)) y = out17 arg15 harg15 X0 X1 X12 X13 X14 y := by
  induction n with
  | zero => exact absurd hy (Nat.not_lt_zero _)
  | succ n ih =>
    have hk : n < k0_t2_loop.trips := by rw [trips2]; omega
    rw [pieces17_succ arg15 harg15 X0 X1 X12 X13 X14 ⟨n, hk⟩]
    have f0 : k0_off12 ⟨n, hk⟩ 0 = 0 := by rw [k0_off12_eq]; rfl
    have f1 : k0_off12 ⟨n, hk⟩ 1 = 16 * n := by rw [k0_off12_eq]; rfl
    have f2 : k0_off12 ⟨n, hk⟩ 2 = 0 := by rw [k0_off12_eq]; rfl
    rcases Nat.lt_or_ge ((y 1).val / 16) n with hlt | hge
    · rw [← ih (by omega) hlt]
      exact View.read_writes_cons_miss_of_axis _ _ _ _ y 1 (16 * n) 16 f1 rfl rfl (Or.inl (by omega))
    · have he : (y 1).val / 16 = n := by omega
      have ht : t2Of ((y 1).val / 16) = ⟨n, hk⟩ := by rw [he]; exact t2Of_val ⟨n, hk⟩
      unfold out17
      rw [ht]
      refine View.read_writes_cons_hit_of_coords _ _ (Rect.unit (s := S2x256x128) (k0_off12 ⟨n, hk⟩) S1x16x128.size (k0_off12_inb ⟨n, hk⟩)) (hL arg15 harg15 X0 X1 X12 X13 X14 ⟨n, hk⟩) _
        (ValueIdx.ix3 (0 : Fin 1) (⟨(y 1).val % 16, Nat.mod_lt _ (by decide)⟩ : Fin 16) (⟨(y 2).val, (y 2).isLt⟩ : Fin 128)) y (fun a => ?_)
      match a with
      | 0 => show (y 0).val = k0_off12 ⟨n, hk⟩ 0 + 1 * 0; omega
      | 1 => show (y 1).val = k0_off12 ⟨n, hk⟩ 1 + 1 * ((y 1).val % 16); omega
      | 2 => show (y 2).val = k0_off12 ⟨n, hk⟩ 2 + 1 * (y 2).val; omega

/-- After the last head the first result is complete. -/
theorem all7 {arg7 : Memref sig .tc .vmem S10x16x128 .f32} (harg7 : arg7.IsWhole) {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg7.view.ty) :
    arg7.view.writes (Elt F) G (pieces7 arg15 harg15 X0 X1 X12 X13 X14 k0_t2_loop.trips) = harg7.unread (out7 arg15 harg15 X0 X1 X12 X13 X14) :=
  harg7.eq_unread (funext fun y => done7 arg15 harg15 X0 X1 X12 X13 X14 G _ (le_of_eq trips2) y (by
    rw [trips2]; exact (y 1).isLt))
/-- After the last head the first half of the buffer of logs is complete. -/
theorem all17 {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg17.view.ty) (y : S2x256x128.Idx) (h0 : (y 0).val = 0) :
    arg17.view.read (Elt F) (arg17.view.writes (Elt F) G (pieces17 arg15 harg15 X0 X1 X12 X13 X14 k0_t2_loop.trips)) y = out17 arg15 harg15 X0 X1 X12 X13 X14 y :=
  done17 arg15 harg15 X0 X1 X12 X13 X14 G _ (le_of_eq trips2) y h0 (by
    rw [trips2]; have h : (y 1).val < 256 := (y 1).isLt
    omega)

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- One head. -/
theorem head_run (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty)
    (f7 : BufTy.Contents (Elt F) arg7.view.ty) (f17 : BufTy.Contents (Elt F) arg17.view.ty) (k : Fin k0_t2_loop.trips) :
    iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} f15) ∗ (arg16.view.loc (c : Thread nD τ) ↦[arg16.view.set]{fullShare} f16) ∗ (arg7.view.loc (c : Thread nD τ) ↦[arg7.view.set]{fullShare} f7) ∗ (arg17.view.loc (c : Thread nD τ) ↦[arg17.view.set]{fullShare} f17))
      ⊢ (wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 k PUnit.unit)
          (fun _ => iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
            ∗ (arg7.view.loc (c : Thread nD τ) ↦[arg7.view.set]{fullShare} arg7.view.writes (Elt F) f7 [⟨Rect.unit (s := S10x16x128) (k0_off11 k) S10x1x128.size (k0_off11_inb k), hO arg15 harg15 X0 X1 X12 X13 X14 k⟩])
            ∗ (arg17.view.loc (c : Thread nD τ) ↦[arg17.view.set]{fullShare} arg17.view.writes (Elt F) f17 [⟨Rect.unit (s := S2x256x128) (k0_off12 k) S1x16x128.size (k0_off12_inb k), hL arg15 harg15 X0 X1 X12 X13 X14 k⟩]))) : sProp 𝕄) := by
  have hk : k.val < 16 := Nat.lt_of_lt_of_le k.isLt k0_t2_abs.2.1
  unfold k0_t2_body
  simp only [k0_part2_eq_skeleton, k0_part3_eq_skeleton]
  iintro ⟨H0, H1, H12, H13, H14, H15, H16, H7, H17⟩
  sl_exec
  sl_step
  sl_close

set_option warn.classDefReducibility false in
/-- The loop over heads by its invariant. -/
@[sl_loop] def loopHead (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (G7 : BufTy.Contents (Elt F) arg7.view.ty) (G17 : BufTy.Contents (Elt F) arg17.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 where
  inv k _ := iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (∃ f, (arg7.view.loc (c : Thread nD τ) ↦[arg7.view.set]{fullShare} f) ∗ ⌜f = arg7.view.writes (Elt F) G7 (pieces7 arg15 harg15 X0 X1 X12 X13 X14 k)⌝)
    ∗ (∃ f, (arg17.view.loc (c : Thread nD τ) ↦[arg17.view.set]{fullShare} f) ∗ ⌜f = arg17.view.writes (Elt F) G17 (pieces17 arg15 harg15 X0 X1 X12 X13 X14 k)⌝))
  step k acc := by
    iintro ⟨H0, H1, H12, H13, H14, ⟨%f15, H15⟩, ⟨%f16, H16⟩, ⟨%f7, H7, %h7⟩, ⟨%f17, H17, %h17⟩⟩
    iapply (wp_wand_r frame (wpE (defs₀ (F := F)) 𝒱 (c : Thread nD τ) bd) E)
    isplitl [H0 H1 H12 H13 H14 H15 H16 H7 H17]
    · iapply (head_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X0 X1 X12 X13 X14 f15 f16 f7 f17 k)
      isplitl [H0]; · iexact H0
      isplitl [H1]; · iexact H1
      isplitl [H12]; · iexact H12
      isplitl [H13]; · iexact H13
      isplitl [H14]; · iexact H14
      isplitl [H15]; · iexact H15
      isplitl [H16]; · iexact H16
      isplitl [H7]; · iexact H7
      iexact H17
    · iintro %_ ⟨H0, H1, H12, H13, H14, H15, H16, H7, H17⟩
      isplitl [H0]; · iexact H0
      isplitl [H1]; · iexact H1
      isplitl [H12]; · iexact H12
      isplitl [H13]; · iexact H13
      isplitl [H14]; · iexact H14
      isplitl [H15]; · iexact H15
      isplitl [H16]; · iexact H16
      rw [pieces7_succ, pieces17_succ]
      isplitl [H7]
      · iexists _; isplitl [H7]; · iexact H7
        ipureintro; rw [h7, ← View.writes_append]; rfl
      · iexists _; isplitl [H17]; · iexact H17
        ipureintro; rw [h17, ← View.writes_append]; rfl

/-- The loop over heads at its end: the first result whole, the logs in the first half of their buffer. -/
instance exitHead (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (G7 : BufTy.Contents (Elt F) arg7.view.ty) (G17 : BufTy.Contents (Elt F) arg17.view.ty) :
    LoopExit (loopHead 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X0 X1 X12 X13 X14 G7 G17) where
  post _ := iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (arg7.view.loc (c : Thread nD τ) ↦[arg7.view.set]{fullShare} harg7.unread (out7 arg15 harg15 X0 X1 X12 X13 X14))
    ∗ (∃ f, (arg17.view.loc (c : Thread nD τ) ↦[arg17.view.set]{fullShare} f) ∗ ⌜∀ y, (y 0).val = 0 → arg17.view.read (Elt F) f y = out17 arg15 harg15 X0 X1 X12 X13 X14 y⌝))
  exit acc := by
    show iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (∃ f, (arg7.view.loc (c : Thread nD τ) ↦[arg7.view.set]{fullShare} f) ∗ ⌜f = arg7.view.writes (Elt F) G7 (pieces7 arg15 harg15 X0 X1 X12 X13 X14 k0_t2_loop.trips)⌝)
    ∗ (∃ f, (arg17.view.loc (c : Thread nD τ) ↦[arg17.view.set]{fullShare} f) ∗ ⌜f = arg17.view.writes (Elt F) G17 (pieces17 arg15 harg15 X0 X1 X12 X13 X14 k0_t2_loop.trips)⌝)) ⊢ _
    iintro ⟨H0, H1, H12, H13, H14, H15, H16, ⟨%f7, H7, %h7⟩, ⟨%f17, H17, %h17⟩⟩
    rw [all7 harg7 arg15 harg15 X0 X1 X12 X13 X14 G7] at h7
    subst h7; subst h17
    isplitl [H0]; · iexact H0
    isplitl [H1]; · iexact H1
    isplitl [H12]; · iexact H12
    isplitl [H13]; · iexact H13
    isplitl [H14]; · iexact H14
    isplitl [H15]; · iexact H15
    isplitl [H16]; · iexact H16
    isplitl [H7]; · iexact H7
    iexists _; isplitl [H17]; · iexact H17
    ipureintro
    intro y hy; exact all17 arg15 harg15 X0 X1 X12 X13 X14 G17 y hy

end Cert.Kernel.Hand

end
-- ==== Proof.Kernel.Body.lean ====
/- The kernel's body as a whole: the four copies it starts, the preparation of the matrix cut into its parts, the two
   loops, and the logs gathered into the second result. -/
module

public import proofs.«01_k».proof.Proof.Kernel.Parts1
public import proofs.«01_k».proof.Proof.Kernel.Parts2
public import proofs.«01_k».proof.Proof.Kernel.Parts3
public import proofs.«01_k».proof.Proof.Kernel.Parts4
public import proofs.«01_k».proof.Proof.Kernel.Head

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43

/-- What the four copies deliver. -/
abbrev B9 {c : Dev nD} (fh0 : HbBuf0 (F := F) c hbM0_0) : Vec F S512x16x256 .fp8e4m3 := (Memref.whole main_arg2).view.read (Elt F) fh0
abbrev B10 {c : Dev nD} (fh1 : HbBuf0 (F := F) c hbM0_1) : Vec F S4096x512 .fp8e4m3 := (Memref.whole main_arg4).view.read (Elt F) fh1
abbrev B11 {c : Dev nD} (fh2 : HbBuf0 (F := F) c hbM0_2) : Vec F S4x4096 .f32 := (Memref.whole main_v2).view.read (Elt F) fh2
abbrev B12 {c : Dev nD} (fh3 : HbBuf0 (F := F) c hbM0_3) : Vec F S64x4096 .bf16 := (Memref.whole main_v3).view.read (Elt F) fh3

/-- A buffer written whole holds what was written. -/
theorem fill_eq {sp : Space} {s : Shape} {e : EltTy} (m : Memref sig .tc sp s e) (h : m.IsWhole) (f : BufTy.Contents (Elt F) m.view.ty) (d : s.Idx → Elt F e) :
    m.view.writes (Elt F) f [⟨Rect.whole s, d⟩] = h.unread d :=
  h.eq_unread (View.read_writes_whole m.view f d)

theorem fill_ent (c : Dev nD) {sp : Space} {s : Shape} {e : EltTy} (m : Memref sig .tc sp s e) (h : m.IsWhole) (f : BufTy.Contents (Elt F) m.view.ty) (d : s.Idx → Elt F e) :
    (m.view.loc (c : Thread nD τ) ↦[m.view.set]{fullShare} m.view.writes (Elt F) f [⟨Rect.whole s, d⟩] : sProp 𝕄)
      ⊢ m.view.loc (c : Thread nD τ) ↦[m.view.set]{fullShare} h.unread d := by
  rw [fill_eq m h f d]

/-- What is read of a buffer just written whole. -/
theorem cov_whole {sp : Space} {s : Shape} {e : EltTy} (m : Memref sig .tc sp s e) (h : m.IsWhole) (d : s.Idx → Elt F e) (B : LoadRect s) :
    m.view.readCov [⟨Rect.whole s, d⟩] B = m.view.readAt (Elt F) B (h.unread d) := by
  unfold View.readCov; rw [fill_eq m h]

/-- The two blocks written first, as the head of the preparation. -/
theorem fold13 (c : Dev nD) {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (f13 : BufTy.Contents (Elt F) arg13.view.ty)
    (a b : Vec F S128x1x128 .fp8e4m3) (p q : Elt F .f32) (ha : a = wIn X9 0) (hb : b = wIn X9 1) (hp : p = wSc X3 0) (hq : q = wSc X3 1) :
    ((arg13.view.loc (c : Thread nD τ) ↦[arg13.view.set]{fullShare} arg13.view.writes (Elt F) f13 [⟨Rect.unit (s := S16x512x256) ![0, 0, 128] S1x128x128.size inb_S16x512x256_S1x128x128_0_0_128, k0_pay22 b q⟩, ⟨Rect.unit (s := S16x512x256) ![0, 0, 0] S1x128x128.size inb_S16x512x256_S1x128x128_0_0_0, k0_pay21 a p⟩]) : sProp 𝕄)
      ⊢ W13 c arg13 X9 X3 2 := by
  subst ha hb hp hq
  unfold W13
  iintro H
  iexists _
  isplitl [H]; · iexact H
  ipureintro
  exact wdone_step 1 (wdone_step 0 (L := []) (wdone_zero X9 X3 f13))

/-- The first result, of the inputs and of what the copies deliver. -/
def kO7 {arg0 : Memref sig .tc .vmem S16x16x128 .bf16} (harg0 : arg0.IsWhole) {arg1 : Memref sig .tc .vmem S256x128 .f32} (harg1 : arg1.IsWhole) {arg3 : Memref sig .tc .smem S8x16 .f32} (harg3 : arg3.IsWhole)
    {arg9 : Memref sig .tc .vmem S512x16x256 .fp8e4m3} (harg9 : arg9.IsWhole) {arg10 : Memref sig .tc .vmem S4096x512 .fp8e4m3} (harg10 : arg10.IsWhole) {arg11 : Memref sig .tc .vmem S4x4096 .f32} (harg11 : arg11.IsWhole) {arg12 : Memref sig .tc .vmem S64x4096 .bf16} (harg12 : arg12.IsWhole)
    {arg13 : Memref sig .tc .vmem S16x512x256 .bf16} (harg13 : arg13.IsWhole) {arg14 : Memref sig .tc .vmem S4096x512 .bf16} (harg14 : arg14.IsWhole) {arg15 : Memref sig .tc .vmem S4096x256 .bf16} (harg15 : arg15.IsWhole)
    (x0 : Vec F S16x16x128 .bf16) (x1 : Vec F S256x128 .f32) (x2 : Vec F S8x16 .f32) (b9 : Vec F S512x16x256 .fp8e4m3) (b10 : Vec F S4096x512 .fp8e4m3) (b11 : Vec F S4x4096 .f32) (b12 : Vec F S64x4096 .bf16) : Vec F S10x16x128 .f32 :=
  out7 arg15 harg15 (harg0.unread x0) (harg1.unread x1) (harg12.unread b12) (harg13.unread (wVal (harg9.unread b9) (harg3.unread x2))) (harg14.unread (deqVal (harg10.unread b10) (harg11.unread b11)))
/-- A head's rows of logs, of the same. -/
def kL {arg0 : Memref sig .tc .vmem S16x16x128 .bf16} (harg0 : arg0.IsWhole) {arg1 : Memref sig .tc .vmem S256x128 .f32} (harg1 : arg1.IsWhole) {arg3 : Memref sig .tc .smem S8x16 .f32} (harg3 : arg3.IsWhole)
    {arg9 : Memref sig .tc .vmem S512x16x256 .fp8e4m3} (harg9 : arg9.IsWhole) {arg10 : Memref sig .tc .vmem S4096x512 .fp8e4m3} (harg10 : arg10.IsWhole) {arg11 : Memref sig .tc .vmem S4x4096 .f32} (harg11 : arg11.IsWhole) {arg12 : Memref sig .tc .vmem S64x4096 .bf16} (harg12 : arg12.IsWhole)
    {arg13 : Memref sig .tc .vmem S16x512x256 .bf16} (harg13 : arg13.IsWhole) {arg14 : Memref sig .tc .vmem S4096x512 .bf16} (harg14 : arg14.IsWhole) {arg15 : Memref sig .tc .vmem S4096x256 .bf16} (harg15 : arg15.IsWhole)
    (x0 : Vec F S16x16x128 .bf16) (x1 : Vec F S256x128 .f32) (x2 : Vec F S8x16 .f32) (b9 : Vec F S512x16x256 .fp8e4m3) (b10 : Vec F S4096x512 .fp8e4m3) (b11 : Vec F S4x4096 .f32) (b12 : Vec F S64x4096 .bf16) (n : ℕ) : Vec F S1x16x128 .f32 :=
  hL arg15 harg15 (harg0.unread x0) (harg1.unread x1) (harg12.unread b12) (harg13.unread (wVal (harg9.unread b9) (harg3.unread x2))) (harg14.unread (deqVal (harg10.unread b10) (harg11.unread b11))) (t2Of n)

/-- The heads' rows gathered into the second result: head `n` into column `n`. -/
def gatherL (L : ℕ → Vec F S1x16x128 .f32) : Vec F S10x16 .f32 :=
  k0_pay1 (iota .tc S16x128 32 [1] iota_S16x128_d1_w32) (k0_pay183 (iota .tc S16x128 32 [1] iota_S16x128_d1_w32)
    (k0_pay182 (iota .tc S16x128 32 [1] iota_S16x128_d1_w32) (k0_pay180 (iota .tc S16x128 32 [1] iota_S16x128_d1_w32) (L 0) (L 1) (L 2) (L 3)) (k0_pay181 (L 4)) (L 5) (L 6) (L 7) (L 8) (L 9) (L 10))
    (L 11) (L 12)) (L 13) (L 14) (L 15)

/-- The gather of sixteen given rows. -/
theorem gather_of (L : ℕ → Vec F S1x16x128 .f32) {a0 a1 a2 a3 a4 a5 a6 a7 a8 a9 a10 a11 a12 a13 a14 a15 : Vec F S1x16x128 .f32} (h0 : a0 = L 0) (h1 : a1 = L 1) (h2 : a2 = L 2) (h3 : a3 = L 3) (h4 : a4 = L 4) (h5 : a5 = L 5) (h6 : a6 = L 6) (h7 : a7 = L 7) (h8 : a8 = L 8) (h9 : a9 = L 9) (h10 : a10 = L 10) (h11 : a11 = L 11) (h12 : a12 = L 12) (h13 : a13 = L 13) (h14 : a14 = L 14) (h15 : a15 = L 15) :
    k0_pay1 (iota .tc S16x128 32 [1] iota_S16x128_d1_w32) (k0_pay183 (iota .tc S16x128 32 [1] iota_S16x128_d1_w32) (k0_pay182 (iota .tc S16x128 32 [1] iota_S16x128_d1_w32) (k0_pay180 (iota .tc S16x128 32 [1] iota_S16x128_d1_w32) a0 a1 a2 a3) (k0_pay181 a4) a5 a6 a7 a8 a9 a10) a11 a12) a13 a14 a15 = gatherL L := by
  subst h0 h1 h2 h3 h4 h5 h6 h7 h8 h9 h10 h11 h12 h13 h14 h15
  rfl

/-- A head's rows as the body reads them back. -/
theorem row_read {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole)
    (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (f : BufTy.Contents (Elt F) arg17.view.ty) (hf : ∀ y : S2x256x128.Idx, (y 0).val = 0 → arg17.view.read (Elt F) f y = out17 arg15 harg15 X0 X1 X12 X13 X14 y)
    (o n : ℕ) (ho : o = 16 * n) (h : ∀ a, (![0, o, 0] : Fin 3 → ℕ) a + S1x16x128.size a ≤ S2x256x128.size a) :
    arg17.view.readAt (Elt F) (Rect.unit (s := S2x256x128) ![0, o, 0] S1x16x128.size h).toLoadRect f = hL arg15 harg15 X0 X1 X12 X13 X14 (t2Of n) := by
  funext j
  have j0 : (j 0).val < 1 := (j 0).isLt
  have j1 : (j 1).val < 16 := (j 1).isLt
  have e0 : (((Rect.unit (s := S2x256x128) ![0, o, 0] S1x16x128.size h).toLoadRect.idx j) 0).val = 0 + 1 * (j 0).val := rfl
  have e1 : (((Rect.unit (s := S2x256x128) ![0, o, 0] S1x16x128.size h).toLoadRect.idx j) 1).val = o + 1 * (j 1).val := rfl
  have e2 : (((Rect.unit (s := S2x256x128) ![0, o, 0] S1x16x128.size h).toLoadRect.idx j) 2).val = 0 + 1 * (j 2).val := rfl
  rw [View.readAt_apply, hf _ (by rw [e0]; omega)]
  unfold out17
  have e3 : (((Rect.unit (s := S2x256x128) ![0, o, 0] S1x16x128.size h).toLoadRect.idx j) 1).val / 16 = n := by rw [e1]; omega
  rw [e3]
  congr 1
  refine funext fun a => Fin.ext ?_
  match a with
  | 0 => show 0 = (j 0).val; omega
  | 1 => show (((Rect.unit (s := S2x256x128) ![0, o, 0] S1x16x128.size h).toLoadRect.idx j) 1).val % 16 = (j 1).val; rw [e1]; omega
  | 2 => show (((Rect.unit (s := S2x256x128) ![0, o, 0] S1x16x128.size h).toLoadRect.idx j) 2).val = (j 2).val; rw [e2]; omega

/-- A buffer written once from its first entry on, all of it, reads as what was written. -/
theorem read_full8 {arg8 : Memref sig .tc .vmem S10x16 .f32} (f : BufTy.Contents (Elt F) arg8.view.ty) (inb : ∀ a, (![0, 0] : Fin 2 → ℕ) a + S10x16.size a ≤ S10x16.size a) (w : Vec F S10x16 .f32) :
    arg8.view.read (Elt F) (arg8.view.writes (Elt F) f [⟨Rect.unit (s := S10x16) ![0, 0] S10x16.size inb, w⟩]) = w := by
  funext y
  refine View.read_writes_cons_hit_of_coords _ _ (Rect.unit (s := S10x16) ![0, 0] S10x16.size inb) w _ y y (fun a => ?_)
  match a with
  | 0 => show (y 0).val = 0 + 1 * (y 0).val; omega
  | 1 => show (y 1).val = 0 + 1 * (y 1).val; omega

theorem body_run (c : Dev nD) (arg0 : Memref sig .tc .vmem S16x16x128 .bf16) (harg0 : arg0.IsWhole) (arg1 : Memref sig .tc .vmem S256x128 .f32) (harg1 : arg1.IsWhole) (arg3 : Memref sig .tc .smem S8x16 .f32) (harg3 : arg3.IsWhole) (arg7 : Memref sig .tc .vmem S10x16x128 .f32) (harg7 : arg7.IsWhole) (arg8 : Memref sig .tc .vmem S10x16 .f32) (harg8 : arg8.IsWhole) (arg9 : Memref sig .tc .vmem S512x16x256 .fp8e4m3) (harg9 : arg9.IsWhole) (arg10 : Memref sig .tc .vmem S4096x512 .fp8e4m3) (harg10 : arg10.IsWhole) (arg11 : Memref sig .tc .vmem S4x4096 .f32) (harg11 : arg11.IsWhole) (arg12 : Memref sig .tc .vmem S64x4096 .bf16) (harg12 : arg12.IsWhole) (arg13 : Memref sig .tc .vmem S16x512x256 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4x256x128 .f32) (harg16 : arg16.IsWhole) (arg17 : Memref sig .tc .vmem S2x256x128 .f32) (harg17 : arg17.IsWhole)
    (x0 : Vec F S16x16x128 .bf16) (x1 : Vec F S256x128 .f32) (x2 : Vec F S8x16 .f32) (fh0 : HbBuf0 (F := F) c hbM0_0) (fh1 : HbBuf0 (F := F) c hbM0_1) (fh2 : HbBuf0 (F := F) c hbM0_2) (fh3 : HbBuf0 (F := F) c hbM0_3) (W : Waits sig Unit) (K : PUnit → sProp 𝕄) :
    iprop(owns (c : Thread nD τ) arg0 fullShare x0 ∗ owns (c : Thread nD τ) arg1 fullShare x1 ∗ owns (c : Thread nD τ) arg3 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg0 fullShare x0 ∗ owns (c : Thread nD τ) arg1 fullShare x1 ∗ owns (c : Thread nD τ) arg3 fullShare x2 ∗ owns (c : Thread nD τ) arg7 fullShare (kO7 harg0 harg1 harg3 harg9 harg10 harg11 harg12 harg13 harg14 harg15 x0 x1 x2 (B9 fh0) (B10 fh1) (B11 fh2) (B12 fh3)) ∗ owns (c : Thread nD τ) arg8 fullShare (gatherL (kL harg0 harg1 harg3 harg9 harg10 harg11 harg12 harg13 harg14 harg15 x0 x1 x2 (B9 fh0) (B10 fh1) (B11 fh2) (B12 fh3))) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0__body (F := F) arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9) K := by
  simp only [cc0__body_eq_skeleton]
  unfold cc0__body_skel
  simp only [k0_part47_eq_skeleton]
  unfold owns
  iintro ⟨⟨%f0, %hf0, H0⟩, ⟨%f1, %hf1, H1⟩, ⟨%f2, %hf2, H3⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hq0, Hq1, Hq2, Hq3, Hq4, Hq5, Hq6, Hq7, Hq8, Hq9, Hq10, Hq11, Hh0, Hh1, Hh2, Hh3, HW, Hk⟩
  obtain rfl := harg0.eq_unread hf0
  obtain rfl := harg1.eq_unread hf1
  obtain rfl := harg3.eq_unread hf2
  set_option sl_exec.stopBefore "k0_part5" in sl_exec
  ihave H9 := (fill_ent c arg9 harg9 f9 _) $$ H9
  ihave H9 : (arg9.view.loc (c : Thread nD τ) ↦[arg9.view.set]{fullShare} harg9.unread (B9 fh0)) $$ [H9]
  · iexact H9
  ihave H13 : W13 c arg13 (harg9.unread (B9 fh0)) (harg3.unread x2) 2 $$ [H13]
  · iapply (fold13 c (harg9.unread (B9 fh0)) (harg3.unread x2) f13 _ _ _ _ (cov_whole arg9 harg9 (B9 fh0) (Rect.unit (s := S512x16x256) ![0, 0, 0] S128x1x128.size inb_S512x16x256_S128x1x128_0_0_0).toLoadRect) (cov_whole arg9 harg9 (B9 fh0) (Rect.unit (s := S512x16x256) ![0, 0, 128] S128x1x128.size inb_S512x16x256_S128x1x128_0_0_128).toLoadRect) rfl rfl)
    iexact H13
  have cut5 := part5_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut6 := part6_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut7 := part7_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut8 := part8_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut9 := part9_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut10 := part10_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut11 := part11_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut12 := part12_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut13 := part13_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut14 := part14_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut15 := part15_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut16 := part16_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut17 := part17_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut18 := part18_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut19 := part19_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut20 := part20_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut21 := part21_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut22 := part22_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut23 := part23_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut24 := part24_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut25 := part25_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut26 := part26_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut27 := part27_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut28 := part28_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut29 := part29_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut30 := part30_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut31 := part31_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut32 := part32_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut33 := part33_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut34 := part34_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut35 := part35_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut36 := part36_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut37 := part37_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut38 := part38_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut39 := part39_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut40 := part40_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut41 := part41_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut42 := part42_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut43 := part43_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  set_option sl_exec.stopBefore "k0_part44" in sl_exec
  clear cut5 cut6 cut7 cut8 cut9 cut10 cut11 cut12 cut13 cut14 cut15 cut16 cut17 cut18 cut19 cut20 cut21 cut22 cut23 cut24 cut25 cut26 cut27 cut28 cut29 cut30 cut31 cut32 cut33 cut34 cut35 cut36 cut37 cut38 cut39 cut40 cut41 cut42 cut43
  clear hk0_part5_3 hk0_part6_3 hk0_part7_3 hk0_part8_3 hk0_part9_3 hk0_part10_3 hk0_part11_3 hk0_part12_3 hk0_part13_3 hk0_part14_3 hk0_part15_3 hk0_part16_3 hk0_part17_3 hk0_part18_3 hk0_part19_3 hk0_part20_3 hk0_part21_3 hk0_part22_3 hk0_part23_3 hk0_part24_3 hk0_part25_3 hk0_part26_3 hk0_part27_3 hk0_part28_3 hk0_part29_3 hk0_part30_3 hk0_part31_3 hk0_part32_3 hk0_part33_3 hk0_part34_3 hk0_part35_3 hk0_part36_3 hk0_part37_3 hk0_part38_3 hk0_part39_3 hk0_part40_3 hk0_part41_3 hk0_part42_3
  have hD43 : WDone (harg9.unread (B9 fh0)) (harg3.unread x2) 125 (arg13.view.writes (Elt F) gk0_part43_0 []) := hk0_part43_3
  subst hk0_part43_4
  set_option sl_exec.stopBefore "k0_part45" in sl_exec
  ihave Hk0_part43_2 : (arg13.view.loc (c : Thread nD τ) ↦[arg13.view.set]{fullShare} harg13.unread (wVal (harg9.unread (B9 fh0)) (harg3.unread x2))) $$ [Hk0_part43_2]
  · rw [← wdone_all harg13 (wdone_step 127 (wdone_step 126 (wdone_step 125 hD43)))]
    iexact Hk0_part43_2
  ihave H10 := (fill_ent c arg10 harg10 f10 _) $$ H10
  ihave H10 : (arg10.view.loc (c : Thread nD τ) ↦[arg10.view.set]{fullShare} harg10.unread (B10 fh1)) $$ [H10]
  · iexact H10
  sl_exec
  sl_step
  iapply Hk
  isplitl [HL3]
  · iexists _; isplitr; · ipureintro; exact harg0.read_unread _
    iexact HL3
  isplitl [HL4]
  · iexists _; isplitr; · ipureintro; exact harg1.read_unread _
    iexact HL4
  isplitl [Hk0_part43_1]
  · iexists _; isplitr; · ipureintro; exact harg3.read_unread _
    iexact Hk0_part43_1
  isplitl [HL10]
  · iexists _; isplitr; swap; · iexact HL10
    ipureintro
    rw [harg7.read_unread, fill_eq arg12 harg12, fill_eq arg11 harg11]
    rfl
  isplitl [H8]
  · iexists _; isplitr; swap; · iexact H8
    ipureintro
    have hrow := hL12
    rw [fill_eq arg12 harg12, fill_eq arg11 harg11] at hrow
    refine (read_full8 _ _ _).trans ?_
    have r0 := row_read arg15 harg15 _ _ _ _ _ fL2 hrow 0 0 rfl (by decide)
    have r1 := row_read arg15 harg15 _ _ _ _ _ fL2 hrow 16 1 rfl (by decide)
    have r2 := row_read arg15 harg15 _ _ _ _ _ fL2 hrow 32 2 rfl (by decide)
    have r3 := row_read arg15 harg15 _ _ _ _ _ fL2 hrow 48 3 rfl (by decide)
    have r4 := row_read arg15 harg15 _ _ _ _ _ fL2 hrow 64 4 rfl (by decide)
    have r5 := row_read arg15 harg15 _ _ _ _ _ fL2 hrow 80 5 rfl (by decide)
    have r6 := row_read arg15 harg15 _ _ _ _ _ fL2 hrow 96 6 rfl (by decide)
    have r7 := row_read arg15 harg15 _ _ _ _ _ fL2 hrow 112 7 rfl (by decide)
    have r8 := row_read arg15 harg15 _ _ _ _ _ fL2 hrow 128 8 rfl (by decide)
    have r9 := row_read arg15 harg15 _ _ _ _ _ fL2 hrow 144 9 rfl (by decide)
    have r10 := row_read arg15 harg15 _ _ _ _ _ fL2 hrow 160 10 rfl (by decide)
    have r11 := row_read arg15 harg15 _ _ _ _ _ fL2 hrow 176 11 rfl (by decide)
    have r12 := row_read arg15 harg15 _ _ _ _ _ fL2 hrow 192 12 rfl (by decide)
    have r13 := row_read arg15 harg15 _ _ _ _ _ fL2 hrow 208 13 rfl (by decide)
    have r14 := row_read arg15 harg15 _ _ _ _ _ fL2 hrow 224 14 rfl (by decide)
    have r15 := row_read arg15 harg15 _ _ _ _ _ fL2 hrow 240 15 rfl (by decide)
    exact gather_of _ r0 r1 r2 r3 r4 r5 r6 r7 r8 r9 r10 r11 r12 r13 r14 r15
  isplitl [Hk0_part43_0]
  · iexists _; iexists _; isplitr; swap; · iexact Hk0_part43_0
    ipureintro; rfl
  isplitl [HL0]
  · iexists _; iexists _; isplitr; swap; · iexact HL0
    ipureintro; rfl
  isplitl [HL1]
  · iexists _; iexists _; isplitr; swap; · iexact HL1
    ipureintro; rfl
  isplitl [HL5]
  · iexists _; iexists _; isplitr; swap; · iexact HL5
    ipureintro; rfl
  isplitl [HL6]
  · iexists _; iexists _; isplitr; swap; · iexact HL6
    ipureintro; rfl
  isplitl [HL7]
  · iexists _; iexists _; isplitr; swap; · iexact HL7
    ipureintro; rfl
  isplitl [HL8]
  · iexists _; iexists _; isplitr; swap; · iexact HL8
    ipureintro; rfl
  isplitl [HL9]
  · iexists _; iexists _; isplitr; swap; · iexact HL9
    ipureintro; rfl
  isplitl [HL11]
  · iexists _; iexists _; isplitr; swap; · iexact HL11
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [Hh3]; · iexact Hh3
  iexists _; iexact HW

end Cert.Kernel.Hand

end
-- ==== Proof.Kernel.Launch.lean ====
/- The launch: the pipeline's proof data, the body at its one point, and the run of the whole program with what it
   leaves in the two results. -/
module

public import proofs.«01_k».proof.Proof.Kernel.Body
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result's block as the body leaves it. -/
def res3 (c : Dev nD) (t : Fin cfg0.N) : Vec F S10x16x128 .f32 :=
  kO7 (hs0_0 t) (hs0_1 t) (hs0_2 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (iblk m c 0 t) (iblk m c 1 t) (iblk m c 2 t) (B9 (c := c) (V m c main_arg2)) (B10 (c := c) (V m c main_arg4)) (B11 (c := c) (V m c main_v2)) (B12 (c := c) (V m c main_v3))
/-- The second result's block as the body leaves it. -/
def res4 (c : Dev nD) (t : Fin cfg0.N) : Vec F S10x16 .f32 :=
  gatherL (kL (hs0_0 t) (hs0_1 t) (hs0_2 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (iblk m c 0 t) (iblk m c 1 t) (iblk m c 2 t) (B9 (c := c) (V m c main_arg2)) (B10 (c := c) (V m c main_arg4)) (B11 (c := c) (V m c main_v2)) (B12 (c := c) (V m c main_v3)))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res3 m c t
    | ⟨4, _⟩ => res4 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = res3 m c t := by dsimp only [dats]
theorem after0_4 (c : Dev nD) (t : Fin cfg0.N) : (dats m 0 c).after 4 t = res4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq,
    after0_0, after0_1, after0_2, after0_3, after0_4]
  unfold Dat.owesAt Pipeline.owesWithin
  rw [show (dats m 0 c).owed t.castSucc = 0 from rfl]
  iintro ⟨⟨⟨HS0, HS1, HS2, HS3, HS4, HS5, HS6, HS7, HS8⟩, Hg, ⟨HQ0, HQ1, HQ2, HQ3, HQ4, HQ5, HQ6, HQ7, HQ8, HQ9, HQ10, HQ11⟩, ⟨HH0, HH1, HH2, HH3⟩⟩, ⟨%W, %hW, HO⟩, ⟨%d0, H0⟩, ⟨%d1, H1⟩, ⟨%d2, H2⟩, ⟨%d3, H3⟩, ⟨%d4, H4⟩⟩
  iapply (body_run c (ms0_0 t) (hs0_0 t) (ms0_1 t) (hs0_1 t) (ms0_2 t) (hs0_2 t) (ms0_3 t) (hs0_3 t) (ms0_4 t) (hs0_4 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (iblk m c 0 t) (iblk m c 1 t) (iblk m c 2 t) (V m c main_arg2) (V m c main_arg4) (V m c main_v2) (V m c main_v3) W _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HQ8]; · iexact HQ8
  isplitl [HQ9]; · iexact HQ9
  isplitl [HQ10]; · iexact HQ10
  isplitl [HQ11]; · iexact HQ11
  isplitl [HH0]; · iexact HH0
  isplitl [HH1]; · iexact HH1
  isplitl [HH2]; · iexact HH2
  isplitl [HH3]; · iexact HH3
  isplitl [HO]; · iexact HO
  iintro ⟨H0, H1, H2, H3, H4, HS0, HS1, HS2, HS3, HS4, HS5, HS6, HS7, HS8, HQ0, HQ1, HQ2, HQ3, HQ4, HQ5, HQ6, HQ7, HQ8, HQ9, HQ10, HQ11, HH0, HH1, HH2, HH3, ⟨%W', HO⟩⟩
  isplitl [HS0 HS1 HS2 HS3 HS4 HS5 HS6 HS7 HS8 Hg HQ0 HQ1 HQ2 HQ3 HQ4 HQ5 HQ6 HQ7 HQ8 HQ9 HQ10 HQ11 HH0 HH1 HH2 HH3]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    isplitl [HQ0 HQ1 HQ2 HQ3 HQ4 HQ5 HQ6 HQ7 HQ8 HQ9 HQ10 HQ11]
    · isplitl [HQ0]; · iexact HQ0
      isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      iexact HQ11
    isplitl [HH0]; · iexact HH0
    isplitl [HH1]; · iexact HH1
    isplitl [HH2]; · iexact HH2
    iexact HH3
  isplitl [HO]
  · iexists W'; isplitr
    · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this statement, which takes unfolding
-- plain definitions in a metavariable's type
set_option backward.isDefEq.respectTransparency.types false in
set_option maxHeartbeats 800000 in
/-- The launch, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The first result's array after the run. -/
theorem final3 (c : Dev nD) : (dats m 0 c).arrAt 3 cfg0.N = res3 m c t0_0 := by
  refine (dats m 0 c).arrAt_eq_of_after_last 3 t0_0 (by decide +kernel) _ fun j => ?_
  blk_simp
  rw [after0_3]
/-- The second result's array after the run. -/
theorem final4 (c : Dev nD) : (dats m 0 c).arrAt 4 cfg0.N = res4 m c t0_0 := by
  refine (dats m 0 c).arrAt_eq_of_after_last 4 t0_0 (by decide +kernel) _ fun j => ?_
  blk_simp
  rw [after0_4]

/-- The run's two results, with the arguments unchanged. -/
theorem value_run : θ_run defs (onTc (τ := τ) (main (F := F))) ⟨m, fun _ => 0, ρ⟩ (fun r => ∀ c : Dev nD,
      r.2.mem ((c.tc : Thread nD τ).loc main_v4_0) = res3 m c t0_0
      ∧ r.2.mem ((c.tc : Thread nD τ).loc main_v4_1) = res4 m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 3).trans (final3 m c), ((h.1 c).1 4).trans (final4 m c), h.2 c⟩)
    (θ_run_and (run_main m ρ) (frame_of m ρ (dats m) (A_eq m) (run_main m ρ)))

end Cert.Kernel.Hand

end
-- ==== Proof.KernelIdeal.Kit.lean ====
/- The pieces every run of the kernel's body is stated over: the program's main function up to its one
   region, each window's block at entry, the scratch buffers, the arrays the body copies itself, and the
   kernel's own transfer semaphores. Everything is stated over the resource algebra with a counter per
   semaphore, the one the library's launch theorem for a kernel with transfers of its own asks for. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The kernel body on any staging memrefs: a subtype the run finds -/

/-- One staging buffer of output window 3, through which its contents are stated (`View.read_writes_of_cover`: the
    choice does not matter). -/
abbrev VO0_3 : View sig .tc .vmem S10x16x128 .f32 := (Memref.whole cc0_stg3_0 : Memref sig .tc .vmem S10x16x128 .f32).view
/-- One staging buffer of output window 4, through which its contents are stated (`View.read_writes_of_cover`: the
    choice does not matter). -/
abbrev VO0_4 : View sig .tc .vmem S10x16 .f32 := (Memref.whole cc0_stg4_0 : Memref sig .tc .vmem S10x16 .f32).view
/-- Each window's current staging memref at point `t`, spelled as the pipeline passes it (`bodyAt0`), and its wholeness. -/
abbrev ms0_0 (t : Fin cfg0.N) : Memref sig .tc .vmem S16x16x128 .bf16 := win0_0.stage (cfg0.slots t 0)
abbrev hs0_0 (t : Fin cfg0.N) : (ms0_0 t).IsWhole := hstage0_0 0
abbrev ms0_1 (t : Fin cfg0.N) : Memref sig .tc .vmem S256x128 .f32 := win0_1.stage (cfg0.slots t 1)
abbrev hs0_1 (t : Fin cfg0.N) : (ms0_1 t).IsWhole := hstage0_1 0
abbrev ms0_2 (t : Fin cfg0.N) : Memref sig .tc .smem S8x16 .f32 := win0_2.stage (cfg0.slots t 2)
abbrev hs0_2 (t : Fin cfg0.N) : (ms0_2 t).IsWhole := hstage0_2 0
abbrev ms0_3 (t : Fin cfg0.N) : Memref sig .tc .vmem S10x16x128 .f32 := win0_3.stage (cfg0.slots t 3)
abbrev hs0_3 (t : Fin cfg0.N) : (ms0_3 t).IsWhole := hstage0_3 0
abbrev ms0_4 (t : Fin cfg0.N) : Memref sig .tc .vmem S10x16 .f32 := win0_4.stage (cfg0.slots t 4)
abbrev hs0_4 (t : Fin cfg0.N) : (ms0_4 t).IsWhole := hstage0_4 0
/-- The scratch operands: whole scoped buffers of the kernel's own, passed beside the windows. -/
abbrev scM0_0 : Memref sig .tc .vmem S512x16x256 .fp8e4m3 := Memref.whole cc0_scratch0
abbrev scM0_1 : Memref sig .tc .vmem S4096x512 .fp8e4m3 := Memref.whole cc0_scratch1
abbrev scM0_2 : Memref sig .tc .vmem S4x4096 .f32 := Memref.whole cc0_scratch2
abbrev scM0_3 : Memref sig .tc .vmem S64x4096 .bf16 := Memref.whole cc0_scratch3
abbrev scM0_4 : Memref sig .tc .vmem S16x512x256 .bf16 := Memref.whole cc0_scratch4
abbrev scM0_5 : Memref sig .tc .vmem S4096x512 .bf16 := Memref.whole cc0_scratch5
abbrev scM0_6 : Memref sig .tc .vmem S4096x256 .bf16 := Memref.whole cc0_scratch6
abbrev scM0_7 : Memref sig .tc .vmem S4x256x128 .f32 := Memref.whole cc0_scratch7
abbrev scM0_8 : Memref sig .tc .vmem S2x256x128 .f32 := Memref.whole cc0_scratch8
/-- The operands left in HBM that the body copies into scratch itself, whole. -/
abbrev hbM0_0 : Memref sig .tc .hbm S512x16x256 .fp8e4m3 := Memref.whole main_arg2
abbrev hbM0_1 : Memref sig .tc .hbm S4096x512 .fp8e4m3 := Memref.whole main_arg4
abbrev hbM0_2 : Memref sig .tc .hbm S4x4096 .f32 := Memref.whole main_v2
abbrev hbM0_3 : Memref sig .tc .hbm S64x4096 .bf16 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_arg2, main_arg4, main_v2, main_v3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg4) ∗ hbPt0 c hbM0_2 (V m c main_v2) ∗ hbPt0 c hbM0_3 (V m c main_v3)) := by
  rw [BI.bigSep_eq_bigSepL_of_eq [main_arg2, main_arg4, main_v2, main_v3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2) ∗ hbPt0 c hbM0_1 (V m c main_arg4) ∗ hbPt0 c hbM0_2 (V m c main_v2) ∗ hbPt0 c hbM0_3 (V m c main_v3))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.KernelIdeal.Hand

end
-- ==== Proof.KernelIdeal.Blocks.lean ====
/- The head matrices' preparation: what it leaves in its buffer.  The body writes the 128 blocks of the buffer one
   after another, block `n` being head `n / 8`, rows `128 * (n / 2 % 4)` and columns `128 * (n % 2)`; each is
   the block of codes times one scale.  Here: the blocks, the value of the whole buffer, and the fact
   "the first `n` blocks are in place" with its step. -/
module

public import proofs.«01_k».proof.Proof.KernelIdeal.Kit
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The block of codes of step `n` lies inside the array of codes. -/
theorem wIn_inb (n : ℕ) : ∀ a, (![128 * (n / 2 % 4), n / 8 % 16, 128 * (n % 2)] : Fin 3 → Nat) a + S128x1x128.size a ≤ S512x16x256.size a := by
  intro a
  match a with
  | 0 => show 128 * (n / 2 % 4) + 128 ≤ 512; omega
  | 1 => show n / 8 % 16 + 1 ≤ 16; omega
  | 2 => show 128 * (n % 2) + 128 ≤ 256; omega

/-- The scale of step `n` lies inside the table of scales. -/
theorem wSc_inb (n : ℕ) : ∀ a, (![n % 8, n / 8 % 16] : Fin 2 → Nat) a + S1x1.size a ≤ S8x16.size a := by
  intro a
  match a with
  | 0 => show n % 8 + 1 ≤ 8; omega
  | 1 => show n / 8 % 16 + 1 ≤ 16; omega

/-- The block written at step `n` lies inside the buffer. -/
theorem wOut_inb (n : ℕ) : ∀ a, (![n / 8 % 16, 128 * (n / 2 % 4), 128 * (n % 2)] : Fin 3 → Nat) a + S1x128x128.size a ≤ S16x512x256.size a := by
  intro a
  match a with
  | 0 => show n / 8 % 16 + 1 ≤ 16; omega
  | 1 => show 128 * (n / 2 % 4) + 128 ≤ 512; omega
  | 2 => show 128 * (n % 2) + 128 ≤ 256; omega

/-- The codes read at step `n`. -/
def wIn {arg9 : Memref sig .tc .vmem S512x16x256 .fp8e4m3} (X9 : BufTy.Contents (Elt F) arg9.view.ty) (n : ℕ) : Vec F S128x1x128 .fp8e4m3 :=
  arg9.view.readAt (Elt F) (Rect.unit (s := S512x16x256) ![128 * (n / 2 % 4), n / 8 % 16, 128 * (n % 2)] S128x1x128.size (wIn_inb n)).toLoadRect X9

/-- The scale read at step `n`. -/
def wSc {arg3 : Memref sig .tc .smem S8x16 .f32} (X3 : BufTy.Contents (Elt F) arg3.view.ty) (n : ℕ) : Elt F .f32 :=
  (arg3.access (Rect.unit (s := S8x16) ![n % 8, n / 8 % 16] S1x1.size (wSc_inb n))).read (Elt F) X3 (Shape.Idx.first (numel1_S1x1.symm ▸ Nat.one_pos))

/-- The block written at step `n`. -/
def wBlk {arg9 : Memref sig .tc .vmem S512x16x256 .fp8e4m3} {arg3 : Memref sig .tc .smem S8x16 .f32}
    (X9 : BufTy.Contents (Elt F) arg9.view.ty) (X3 : BufTy.Contents (Elt F) arg3.view.ty) (n : ℕ) : Vec F S1x128x128 .bf16 :=
  k0_pay21 (wIn X9 n) (wSc X3 n)

/-- Step `n`'s write. -/
def wPiece {arg9 : Memref sig .tc .vmem S512x16x256 .fp8e4m3} {arg3 : Memref sig .tc .smem S8x16 .f32}
    (X9 : BufTy.Contents (Elt F) arg9.view.ty) (X3 : BufTy.Contents (Elt F) arg3.view.ty) (n : ℕ) : View.Piece (Elt F) S16x512x256 .bf16 :=
  ⟨Rect.unit (s := S16x512x256) ![n / 8 % 16, 128 * (n / 2 % 4), 128 * (n % 2)] S1x128x128.size (wOut_inb n), wBlk X9 X3 n⟩

/-- The step that writes the place `y`. -/
def wNum (y : S16x512x256.Idx) : ℕ := (y 0).val * 8 + (y 1).val / 128 * 2 + (y 2).val / 128

theorem wNum_lt (y : S16x512x256.Idx) : wNum y < 128 := by
  have h0 : (y 0).val < 16 := (y 0).isLt
  have h1 : (y 1).val < 512 := (y 1).isLt
  have h2 : (y 2).val < 256 := (y 2).isLt
  unfold wNum; omega

/-- The place of `y` within its block. -/
def wLoc (y : S16x512x256.Idx) : S1x128x128.Idx :=
  ValueIdx.ix3 (0 : Fin 1) (⟨(y 1).val % 128, Nat.mod_lt _ (by decide)⟩ : Fin 128) (⟨(y 2).val % 128, Nat.mod_lt _ (by decide)⟩ : Fin 128)

/-- What the preparation leaves at each place of the buffer. -/
def wVal {arg9 : Memref sig .tc .vmem S512x16x256 .fp8e4m3} {arg3 : Memref sig .tc .smem S8x16 .f32}
    (X9 : BufTy.Contents (Elt F) arg9.view.ty) (X3 : BufTy.Contents (Elt F) arg3.view.ty) : Vec F S16x512x256 .bf16 :=
  fun y => wBlk X9 X3 (wNum y) (wLoc y)

/-- The first `n` blocks of the buffer are in place. -/
def WDone {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (n : ℕ) (g : BufTy.Contents (Elt F) arg13.view.ty) : Prop :=
  ∀ y, wNum y < n → arg13.view.read (Elt F) g y = wVal X9 X3 y

theorem wdone_zero {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (g : BufTy.Contents (Elt F) arg13.view.ty) : WDone X9 X3 0 g :=
  fun _ h => absurd h (Nat.not_lt_zero _)

/-- One more block. -/
theorem wdone_step {arg9 : Memref sig .tc .vmem S512x16x256 .fp8e4m3} {arg3 : Memref sig .tc .smem S8x16 .f32} {arg13 : Memref sig .tc .vmem S16x512x256 .bf16}
    {X9 : BufTy.Contents (Elt F) arg9.view.ty} {X3 : BufTy.Contents (Elt F) arg3.view.ty} {g : BufTy.Contents (Elt F) arg13.view.ty}
    {L : List (View.Piece (Elt F) S16x512x256 .bf16)} (n : ℕ) (h : WDone X9 X3 n (arg13.view.writes (Elt F) g L)) (hn : n < 128 := by decide) :
    WDone X9 X3 (n + 1) (arg13.view.writes (Elt F) g (wPiece X9 X3 n :: L)) := by
  intro y hy
  have h0 : (y 0).val < 16 := (y 0).isLt
  have h1 : (y 1).val < 512 := (y 1).isLt
  have h2 : (y 2).val < 256 := (y 2).isLt
  rcases Nat.lt_or_ge (wNum y) n with hlt | hge
  · rw [← h y hlt]
    have hw : wNum y = (y 0).val * 8 + (y 1).val / 128 * 2 + (y 2).val / 128 := rfl
    by_cases c0 : (y 0).val = n / 8 % 16
    · by_cases c1 : (y 1).val / 128 = n / 2 % 4
      · have c2 : (y 2).val / 128 ≠ n % 2 := by omega
        exact View.read_writes_cons_miss_of_axis _ _ _ _ y 2 (128 * (n % 2)) 128 rfl rfl rfl (by omega)
      · exact View.read_writes_cons_miss_of_axis _ _ _ _ y 1 (128 * (n / 2 % 4)) 128 rfl rfl rfl (by omega)
    · exact View.read_writes_cons_miss_of_axis _ _ _ _ y 0 (n / 8 % 16) 1 rfl rfl rfl (by omega)
  · have he : wNum y = n := by omega
    have hw : wNum y = (y 0).val * 8 + (y 1).val / 128 * 2 + (y 2).val / 128 := rfl
    have hv : wVal X9 X3 y = wBlk X9 X3 n (wLoc y) := by unfold wVal; rw [he]
    rw [hv]
    refine View.read_writes_cons_hit_of_coords arg13.view g (Rect.unit (s := S16x512x256) ![n / 8 % 16, 128 * (n / 2 % 4), 128 * (n % 2)] S1x128x128.size (wOut_inb n)) (wBlk X9 X3 n) L (wLoc y) y ?_
    have e0 : (y 0).val = n / 8 % 16 + 1 * (wLoc y 0).val := by
      have : (wLoc y 0).val = 0 := rfl
      omega
    have e1 : (y 1).val = 128 * (n / 2 % 4) + 1 * (wLoc y 1).val := by
      have : (wLoc y 1).val = (y 1).val % 128 := rfl
      omega
    have e2 : (y 2).val = 128 * (n % 2) + 1 * (wLoc y 2).val := by
      have : (wLoc y 2).val = (y 2).val % 128 := rfl
      omega
    intro a
    match a with
    | 0 => exact e0
    | 1 => exact e1
    | 2 => exact e2

/-- All 128 blocks in place: the buffer holds the whole value. -/
theorem wdone_all {arg9 : Memref sig .tc .vmem S512x16x256 .fp8e4m3} {arg3 : Memref sig .tc .smem S8x16 .f32} {arg13 : Memref sig .tc .vmem S16x512x256 .bf16}
    (harg13 : arg13.IsWhole) {X9 : BufTy.Contents (Elt F) arg9.view.ty} {X3 : BufTy.Contents (Elt F) arg3.view.ty} {g : BufTy.Contents (Elt F) arg13.view.ty}
    (h : WDone X9 X3 128 g) : g = harg13.unread (wVal X9 X3) :=
  harg13.eq_unread (funext fun y => h y (wNum_lt y))

/-- The buffer with its first `n` blocks in place. -/
def W13 (c : Dev nD) {arg9 : Memref sig .tc .vmem S512x16x256 .fp8e4m3} {arg3 : Memref sig .tc .smem S8x16 .f32} (arg13 : Memref sig .tc .vmem S16x512x256 .bf16)
    (X9 : BufTy.Contents (Elt F) arg9.view.ty) (X3 : BufTy.Contents (Elt F) arg3.view.ty) (n : ℕ) : sProp 𝕄 :=
  iprop(∃ g, (arg13.view.loc (c : Thread nD τ) ↦[arg13.view.set]{fullShare} g) ∗ ⌜WDone X9 X3 n g⌝)

end Cert.KernelIdeal.Hand

end
-- ==== Proof.KernelIdeal.Parts1.lean ====
/- The head matrices' preparation, printed parts 5 to 14 of the body: each part, from the buffer with the blocks
   before it in place, leaves its own blocks in place too, and hands on the values the next part uses. -/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part5_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 2)
      ⊢ (wp frame (wpE (defs₀ (F := F)) 𝒱 (c : Thread nD τ) bd) E (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 5 ∗ ⌜r = (wIn X9 5)⌝)) : sProp 𝕄) := by
  rw [k0_part5_eq_skeleton]
  unfold k0_part5_skel W13
  iintro ⟨H9, H3, ⟨%g, H13, %hD⟩⟩
  have hD0 : WDone X9 X3 2 (arg13.view.writes (Elt F) g []) := hD
  sl_exec
  sl_step
  isplitl [H9]; · iexact H9
  isplitl [H3]; · iexact H3
  isplitl [H13]
  · iexists _; isplitl [H13]; · iexact H13
    ipureintro; exact (wdone_step 4 (wdone_step 3 (wdone_step 2 hD0)))
  ipureintro; rfl

theorem part6_run (X9 : BufTy.Contents (Elt F) arg9.view.ty) (X3 : BufTy.Contents (Elt F) arg3.view.ty) (v61 : Vec F S128x1x128 .fp8e4m3) (hv61 : v61 = (wIn X9 5)) :
    iprop((arg9.view.loc (c : Thread nD τ) ↦[arg9.view.set]{fullShare} X9) ∗ (arg3.view.loc (c : Thread nD τ) ↦[arg3.view.set]{fullShare} X3) ∗ W13 c arg13 X9 X3 5)
      ⊢ (wp frame (wpE (defs₀ (F := F)) 𝒱 (c : Thread nD τ) bd) E (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v61)
          (fun r => iprop((arg9.view.loc (c : Thread nD τ) ↦[arg9.view.set]{fullShare} X9) ∗ (arg3.view.loc (c : Thread nD τ) ↦[arg3.view.set]{fullShare} X3) ∗ W13 c arg13 X9 X3 8 ∗ ⌜r = (k0_pay29 (wIn X9 8))⌝)) : sProp 𝕄) := by
  subst hv61
  rw [k0_part6_eq_skeleton]
  unfold k0_part6_skel W13
  iintro ⟨H9, H3, ⟨%g, H13, %hD⟩⟩
  have hD0 : WDone X9 X3 5 (arg13.view.writes (Elt F) g []) := hD
  sl_exec
  sl_step
  isplitl [H9]; · iexact H9
  isplitl [H3]; · iexact H3
  isplitl [H13]
  · iexists _; isplitl [H13]; · iexact H13
    ipureintro; exact (wdone_step 7 (wdone_step 6 (wdone_step 5 hD0)))
  ipureintro; rfl

theorem part7_run (X9 : BufTy.Contents (Elt F) arg9.view.ty) (X3 : BufTy.Contents (Elt F) arg3.view.ty) (v93 : FVec F S128x128 .f32) (hv93 : v93 = (k0_pay29 (wIn X9 8))) :
    iprop((arg9.view.loc (c : Thread nD τ) ↦[arg9.view.set]{fullShare} X9) ∗ (arg3.view.loc (c : Thread nD τ) ↦[arg3.view.set]{fullShare} X3) ∗ W13 c arg13 X9 X3 8)
      ⊢ (wp frame (wpE (defs₀ (F := F)) 𝒱 (c : Thread nD τ) bd) E (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v93)
          (fun r => iprop((arg9.view.loc (c : Thread nD τ) ↦[arg9.view.set]{fullShare} X9) ∗ (arg3.view.loc (c : Thread nD τ) ↦[arg3.view.set]{fullShare} X3) ∗ W13 c arg13 X9 X3 11 ∗ ⌜r.1 = k0_pay33 (wIn X9 11)⌝ ∗ ⌜r.2 = k0_pay34 (wSc X3 11)⌝)) : sProp 𝕄) := by
  subst hv93
  rw [k0_part7_eq_skeleton]
  unfold k0_part7_skel W13
  iintro ⟨H9, H3, ⟨%g, H13, %hD⟩⟩
  have hD0 : WDone X9 X3 8 (arg13.view.writes (Elt F) g []) := hD
  sl_exec
  sl_step
  isplitl [H9]; · iexact H9
  isplitl [H3]; · iexact H3
  isplitl [H13]
  · iexists _; isplitl [H13]; · iexact H13
    ipureintro; exact (wdone_step 10 (wdone_step 9 (wdone_step 8 hD0)))
  isplitr; · ipureintro; rfl
  ipureintro; rfl

theorem part8_run (X9 : BufTy.Contents (Elt F) arg9.view.ty) (X3 : BufTy.Contents (Elt F) arg3.view.ty) (v123 : FVec F S128x128 .f32) (v125 : FVec F S128x128 .f32) (hv123 : v123 = (k0_pay33 (wIn X9 11))) (hv125 : v125 = (k0_pay34 (wSc X3 11))) :
    iprop((arg9.view.loc (c : Thread nD τ) ↦[arg9.view.set]{fullShare} X9) ∗ (arg3.view.loc (c : Thread nD τ) ↦[arg3.view.set]{fullShare} X3) ∗ W13 c arg13 X9 X3 11)
      ⊢ (wp frame (wpE (defs₀ (F := F)) 𝒱 (c : Thread nD τ) bd) E (k0_part8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v123 v125)
          (fun r => iprop((arg9.view.loc (c : Thread nD τ) ↦[arg9.view.set]{fullShare} X9) ∗ (arg3.view.loc (c : Thread nD τ) ↦[arg3.view.set]{fullShare} X3) ∗ W13 c arg13 X9 X3 14 ∗ ⌜r = (k0_pay38 (wIn X9 14) (wSc X3 14))⌝)) : sProp 𝕄) := by
  subst hv123
  subst hv125
  rw [k0_part8_eq_skeleton]
  unfold k0_part8_skel W13
  iintro ⟨H9, H3, ⟨%g, H13, %hD⟩⟩
  have hD0 : WDone X9 X3 11 (arg13.view.writes (Elt F) g []) := hD
  sl_exec
  sl_step
  isplitl [H9]; · iexact H9
  isplitl [H3]; · iexact H3
  isplitl [H13]
  · iexists _; isplitl [H13]; · iexact H13
    ipureintro; exact (wdone_step 13 (wdone_step 12 (wdone_step 11 hD0)))
  ipureintro; rfl

theorem part9_run (X9 : BufTy.Contents (Elt F) arg9.view.ty) (X3 : BufTy.Contents (Elt F) arg3.view.ty) (v157 : FVec F S128x128 .bf16) (hv157 : v157 = (k0_pay38 (wIn X9 14) (wSc X3 14))) :
    iprop((arg9.view.loc (c : Thread nD τ) ↦[arg9.view.set]{fullShare} X9) ∗ (arg3.view.loc (c : Thread nD τ) ↦[arg3.view.set]{fullShare} X3) ∗ W13 c arg13 X9 X3 14)
      ⊢ (wp frame (wpE (defs₀ (F := F)) 𝒱 (c : Thread nD τ) bd) E (k0_part9 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v157)
          (fun r => iprop((arg9.view.loc (c : Thread nD τ) ↦[arg9.view.set]{fullShare} X9) ∗ (arg3.view.loc (c : Thread nD τ) ↦[arg3.view.set]{fullShare} X3) ∗ W13 c arg13 X9 X3 17 ∗ ⌜r.1 = k0_pay42 (wIn X9 17) (wSc X3 17)⌝)) : sProp 𝕄) := by
  subst hv157
  rw [k0_part9_eq_skeleton]
  unfold k0_part9_skel W13
  iintro ⟨H9, H3, ⟨%g, H13, %hD⟩⟩
  have hD0 : WDone X9 X3 14 (arg13.view.writes (Elt F) g []) := hD
  sl_exec
  sl_step
  isplitl [H9]; · iexact H9
  isplitl [H3]; · iexact H3
  isplitl [H13]
  · iexists _; isplitl [H13]; · iexact H13
    ipureintro; exact (wdone_step 16 (wdone_step 15 (wdone_step 14 hD0)))
  ipureintro; rfl

theorem part10_run (X9 : BufTy.Contents (Elt F) arg9.view.ty) (X3 : BufTy.Contents (Elt F) arg3.view.ty) (v187 : FVec F S128x128 .bf16) (v188 : Vec F S1x128x128 .bf16) (hv187 : v187 = (k0_pay42 (wIn X9 17) (wSc X3 17))) :
    iprop((arg9.view.loc (c : Thread nD τ) ↦[arg9.view.set]{fullShare} X9) ∗ (arg3.view.loc (c : Thread nD τ) ↦[arg3.view.set]{fullShare} X3) ∗ W13 c arg13 X9 X3 17)
      ⊢ (wp frame (wpE (defs₀ (F := F)) 𝒱 (c : Thread nD τ) bd) E (k0_part10 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v187 v188)
          (fun r => iprop((arg9.view.loc (c : Thread nD τ) ↦[arg9.view.set]{fullShare} X9) ∗ (arg3.view.loc (c : Thread nD τ) ↦[arg3.view.set]{fullShare} X3) ∗ W13 c arg13 X9 X3 21)) : sProp 𝕄) := by
  subst hv187
  rw [k0_part10_eq_skeleton]
  unfold k0_part10_skel W13
  iintro ⟨H9, H3, ⟨%g, H13, %hD⟩⟩
  have hD0 : WDone X9 X3 17 (arg13.view.writes (Elt F) g []) := hD
  sl_exec
  sl_step
  isplitl [H9]; · iexact H9
  isplitl [H3]; · iexact H3
  iexists _; isplitl [H13]; · iexact H13
  ipureintro; exact (wdone_step 20 (wdone_step 19 (wdone_step 18 (wdone_step 17 hD0))))

theorem part11_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 21)
      ⊢ (wp frame (wpE (defs₀ (F := F)) 𝒱 (c : Thread nD τ) bd) E (k0_part11 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 24)) : sProp 𝕄) := by
  rw [k0_part11_eq_skeleton]
  unfold k0_part11_skel W13
  iintro ⟨H9, H3, ⟨%g, H13, %hD⟩⟩
  have hD0 : WDone X9 X3 21 (arg13.view.writes (Elt F) g []) := hD
  sl_exec
  sl_step
  isplitl [H9]; · iexact H9
  isplitl [H3]; · iexact H3
  iexists _; isplitl [H13]; · iexact H13
  ipureintro; exact (wdone_step 23 (wdone_step 22 (wdone_step 21 hD0)))

theorem part12_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 24)
      ⊢ (wp frame (wpE (defs₀ (F := F)) 𝒱 (c : Thread nD τ) bd) E (k0_part12 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 27 ∗ ⌜r = (k0_pay53 (wIn X9 27))⌝)) : sProp 𝕄) := by
  rw [k0_part12_eq_skeleton]
  unfold k0_part12_skel W13
  iintro ⟨H9, H3, ⟨%g, H13, %hD⟩⟩
  have hD0 : WDone X9 X3 24 (arg13.view.writes (Elt F) g []) := hD
  sl_exec
  sl_step
  isplitl [H9]; · iexact H9
  isplitl [H3]; · iexact H3
  isplitl [H13]
  · iexists _; isplitl [H13]; · iexact H13
    ipureintro; exact (wdone_step 26 (wdone_step 25 (wdone_step 24 hD0)))
  ipureintro; rfl

theorem part13_run (X9 : BufTy.Contents (Elt F) arg9.view.ty) (X3 : BufTy.Contents (Elt F) arg3.view.ty) (v283 : FVec F S128x128 .f32) (hv283 : v283 = (k0_pay53 (wIn X9 27))) :
    iprop((arg9.view.loc (c : Thread nD τ) ↦[arg9.view.set]{fullShare} X9) ∗ (arg3.view.loc (c : Thread nD τ) ↦[arg3.view.set]{fullShare} X3) ∗ W13 c arg13 X9 X3 27)
      ⊢ (wp frame (wpE (defs₀ (F := F)) 𝒱 (c : Thread nD τ) bd) E (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v283)
          (fun r => iprop((arg9.view.loc (c : Thread nD τ) ↦[arg9.view.set]{fullShare} X9) ∗ (arg3.view.loc (c : Thread nD τ) ↦[arg3.view.set]{fullShare} X3) ∗ W13 c arg13 X9 X3 30 ∗ ⌜r.1 = k0_pay57 (wIn X9 30)⌝ ∗ ⌜r.2 = (wSc X3 30)⌝)) : sProp 𝕄) := by
  subst hv283
  rw [k0_part13_eq_skeleton]
  unfold k0_part13_skel W13
  iintro ⟨H9, H3, ⟨%g, H13, %hD⟩⟩
  have hD0 : WDone X9 X3 27 (arg13.view.writes (Elt F) g []) := hD
  sl_exec
  sl_step
  isplitl [H9]; · iexact H9
  isplitl [H3]; · iexact H3
  isplitl [H13]
  · iexists _; isplitl [H13]; · iexact H13
    ipureintro; exact (wdone_step 29 (wdone_step 28 (wdone_step 27 hD0)))
  isplitr; · ipureintro; rfl
  ipureintro; rfl

theorem part14_run (X9 : BufTy.Contents (Elt F) arg9.view.ty) (X3 : BufTy.Contents (Elt F) arg3.view.ty) (v313 : FVec F S128x128 .f32) (v314 : Elt F .f32) (hv313 : v313 = (k0_pay57 (wIn X9 30))) (hv314 : v314 = (wSc X3 30)) :
    iprop((arg9.view.loc (c : Thread nD τ) ↦[arg9.view.set]{fullShare} X9) ∗ (arg3.view.loc (c : Thread nD τ) ↦[arg3.view.set]{fullShare} X3) ∗ W13 c arg13 X9 X3 30)
      ⊢ (wp frame (wpE (defs₀ (F := F)) 𝒱 (c : Thread nD τ) bd) E (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v313 v314)
          (fun r => iprop((arg9.view.loc (c : Thread nD τ) ↦[arg9.view.set]{fullShare} X9) ∗ (arg3.view.loc (c : Thread nD τ) ↦[arg3.view.set]{fullShare} X3) ∗ W13 c arg13 X9 X3 33 ∗ ⌜r = (k0_pay61 (wIn X9 33) (wSc X3 33))⌝)) : sProp 𝕄) := by
  subst hv313
  subst hv314
  rw [k0_part14_eq_skeleton]
  unfold k0_part14_skel W13
  iintro ⟨H9, H3, ⟨%g, H13, %hD⟩⟩
  have hD0 : WDone X9 X3 30 (arg13.view.writes (Elt F) g []) := hD
  sl_exec
  sl_step
  isplitl [H9]; · iexact H9
  isplitl [H3]; · iexact H3
  isplitl [H13]
  · iexists _; isplitl [H13]; · iexact H13
    ipureintro; exact (wdone_step 32 (wdone_step 31 (wdone_step 30 hD0)))
  ipureintro; rfl

end Cert.KernelIdeal.Hand

end
-- ==== Proof.KernelIdeal.Parts2.lean ====
/- The head matrices' preparation, printed parts 15 to 24 of the body: each part, from the buffer with the blocks
   before it in place, leaves its own blocks in place too, and hands on the values the next part uses. -/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part15_run (X9 : BufTy.Contents (Elt F) arg9.view.ty) (X3 : BufTy.Contents (Elt F) arg3.view.ty) (v347 : FVec F S128x128 .bf16) (hv347 : v347 = (k0_pay61 (wIn X9 33) (wSc X3 33))) :
    iprop((arg9.view.loc (c : Thread nD τ) ↦[arg9.view.set]{fullShare} X9) ∗ (arg3.view.loc (c : Thread nD τ) ↦[arg3.view.set]{fullShare} X3) ∗ W13 c arg13 X9 X3 33)
      ⊢ (wp frame (wpE (defs₀ (F := F)) 𝒱 (c : Thread nD τ) bd) E (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v347)
          (fun r => iprop((arg9.view.loc (c : Thread nD τ) ↦[arg9.view.set]{fullShare} X9) ∗ (arg3.view.loc (c : Thread nD τ) ↦[arg3.view.set]{fullShare} X3) ∗ W13 c arg13 X9 X3 36 ∗ ⌜r = (k0_pay65 (wIn X9 36) (wSc X3 36))⌝)) : sProp 𝕄) := by
  subst hv347
  rw [k0_part15_eq_skeleton]
  unfold k0_part15_skel W13
  iintro ⟨H9, H3, ⟨%g, H13, %hD⟩⟩
  have hD0 : WDone X9 X3 33 (arg13.view.writes (Elt F) g []) := hD
  sl_exec
  sl_step
  isplitl [H9]; · iexact H9
  isplitl [H3]; · iexact H3
  isplitl [H13]
  · iexists _; isplitl [H13]; · iexact H13
    ipureintro; exact (wdone_step 35 (wdone_step 34 (wdone_step 33 hD0)))
  ipureintro; rfl

theorem part16_run (X9 : BufTy.Contents (Elt F) arg9.view.ty) (X3 : BufTy.Contents (Elt F) arg3.view.ty) (v377 : FVec F S128x128 .bf16) (hv377 : v377 = (k0_pay65 (wIn X9 36) (wSc X3 36))) :
    iprop((arg9.view.loc (c : Thread nD τ) ↦[arg9.view.set]{fullShare} X9) ∗ (arg3.view.loc (c : Thread nD τ) ↦[arg3.view.set]{fullShare} X3) ∗ W13 c arg13 X9 X3 36)
      ⊢ (wp frame (wpE (defs₀ (F := F)) 𝒱 (c : Thread nD τ) bd) E (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v377)
          (fun r => iprop((arg9.view.loc (c : Thread nD τ) ↦[arg9.view.set]{fullShare} X9) ∗ (arg3.view.loc (c : Thread nD τ) ↦[arg3.view.set]{fullShare} X3) ∗ W13 c arg13 X9 X3 39 ∗ ⌜r = (k0_pay69 (wIn X9 39) (wSc X3 39))⌝)) : sProp 𝕄) := by
  subst hv377
  rw [k0_part16_eq_skeleton]
  unfold k0_part16_skel W13
  iintro ⟨H9, H3, ⟨%g, H13, %hD⟩⟩
  have hD0 : WDone X9 X3 36 (arg13.view.writes (Elt F) g []) := hD
  sl_exec
  sl_step
  isplitl [H9]; · iexact H9
  isplitl [H3]; · iexact H3
  isplitl [H13]
  · iexists _; isplitl [H13]; · iexact H13
    ipureintro; exact (wdone_step 38 (wdone_step 37 (wdone_step 36 hD0)))
  ipureintro; rfl

theorem part17_run (X9 : BufTy.Contents (Elt F) arg9.view.ty) (X3 : BufTy.Contents (Elt F) arg3.view.ty) (v410 : FVec F S1x128x128 .bf16) (hv410 : v410 = (k0_pay69 (wIn X9 39) (wSc X3 39))) :
    iprop((arg9.view.loc (c : Thread nD τ) ↦[arg9.view.set]{fullShare} X9) ∗ (arg3.view.loc (c : Thread nD τ) ↦[arg3.view.set]{fullShare} X3) ∗ W13 c arg13 X9 X3 39)
      ⊢ (wp frame (wpE (defs₀ (F := F)) 𝒱 (c : Thread nD τ) bd) E (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v410)
          (fun r => iprop((arg9.view.loc (c : Thread nD τ) ↦[arg9.view.set]{fullShare} X9) ∗ (arg3.view.loc (c : Thread nD τ) ↦[arg3.view.set]{fullShare} X3) ∗ W13 c arg13 X9 X3 43)) : sProp 𝕄) := by
  subst hv410
  rw [k0_part17_eq_skeleton]
  unfold k0_part17_skel W13
  iintro ⟨H9, H3, ⟨%g, H13, %hD⟩⟩
  have hD0 : WDone X9 X3 39 (arg13.view.writes (Elt F) g []) := hD
  sl_exec
  sl_step
  isplitl [H9]; · iexact H9
  isplitl [H3]; · iexact H3
  iexists _; isplitl [H13]; · iexact H13
  ipureintro; exact (wdone_step 42 (wdone_step 41 (wdone_step 40 (wdone_step 39 hD0))))

theorem part18_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 43)
      ⊢ (wp frame (wpE (defs₀ (F := F)) 𝒱 (c : Thread nD τ) bd) E (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 46 ∗ ⌜r = (k0_pay76 (wIn X9 46))⌝)) : sProp 𝕄) := by
  rw [k0_part18_eq_skeleton]
  unfold k0_part18_skel W13
  iintro ⟨H9, H3, ⟨%g, H13, %hD⟩⟩
  have hD0 : WDone X9 X3 43 (arg13.view.writes (Elt F) g []) := hD
  sl_exec
  sl_step
  isplitl [H9]; · iexact H9
  isplitl [H3]; · iexact H3
  isplitl [H13]
  · iexists _; isplitl [H13]; · iexact H13
    ipureintro; exact (wdone_step 45 (wdone_step 44 (wdone_step 43 hD0)))
  ipureintro; rfl

theorem part19_run (X9 : BufTy.Contents (Elt F) arg9.view.ty) (X3 : BufTy.Contents (Elt F) arg3.view.ty) (v472 : FVec F S128x128 .fp8e4m3) (hv472 : v472 = (k0_pay76 (wIn X9 46))) :
    iprop((arg9.view.loc (c : Thread nD τ) ↦[arg9.view.set]{fullShare} X9) ∗ (arg3.view.loc (c : Thread nD τ) ↦[arg3.view.set]{fullShare} X3) ∗ W13 c arg13 X9 X3 46)
      ⊢ (wp frame (wpE (defs₀ (F := F)) 𝒱 (c : Thread nD τ) bd) E (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v472)
          (fun r => iprop((arg9.view.loc (c : Thread nD τ) ↦[arg9.view.set]{fullShare} X9) ∗ (arg3.view.loc (c : Thread nD τ) ↦[arg3.view.set]{fullShare} X3) ∗ W13 c arg13 X9 X3 49 ∗ ⌜r = (k0_pay80 (wIn X9 49))⌝)) : sProp 𝕄) := by
  subst hv472
  rw [k0_part19_eq_skeleton]
  unfold k0_part19_skel W13
  iintro ⟨H9, H3, ⟨%g, H13, %hD⟩⟩
  have hD0 : WDone X9 X3 46 (arg13.view.writes (Elt F) g []) := hD
  sl_exec
  sl_step
  isplitl [H9]; · iexact H9
  isplitl [H3]; · iexact H3
  isplitl [H13]
  · iexists _; isplitl [H13]; · iexact H13
    ipureintro; exact (wdone_step 48 (wdone_step 47 (wdone_step 46 hD0)))
  ipureintro; rfl

theorem part20_run (X9 : BufTy.Contents (Elt F) arg9.view.ty) (X3 : BufTy.Contents (Elt F) arg3.view.ty) (v503 : FVec F S128x128 .f32) (hv503 : v503 = (k0_pay80 (wIn X9 49))) :
    iprop((arg9.view.loc (c : Thread nD τ) ↦[arg9.view.set]{fullShare} X9) ∗ (arg3.view.loc (c : Thread nD τ) ↦[arg3.view.set]{fullShare} X3) ∗ W13 c arg13 X9 X3 49)
      ⊢ (wp frame (wpE (defs₀ (F := F)) 𝒱 (c : Thread nD τ) bd) E (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v503)
          (fun r => iprop((arg9.view.loc (c : Thread nD τ) ↦[arg9.view.set]{fullShare} X9) ∗ (arg3.view.loc (c : Thread nD τ) ↦[arg3.view.set]{fullShare} X3) ∗ W13 c arg13 X9 X3 52 ∗ ⌜r = (k0_pay84 (wIn X9 52) (wSc X3 52))⌝)) : sProp 𝕄) := by
  subst hv503
  rw [k0_part20_eq_skeleton]
  unfold k0_part20_skel W13
  iintro ⟨H9, H3, ⟨%g, H13, %hD⟩⟩
  have hD0 : WDone X9 X3 49 (arg13.view.writes (Elt F) g []) := hD
  sl_exec
  sl_step
  isplitl [H9]; · iexact H9
  isplitl [H3]; · iexact H3
  isplitl [H13]
  · iexists _; isplitl [H13]; · iexact H13
    ipureintro; exact (wdone_step 51 (wdone_step 50 (wdone_step 49 hD0)))
  ipureintro; rfl

theorem part21_run (X9 : BufTy.Contents (Elt F) arg9.view.ty) (X3 : BufTy.Contents (Elt F) arg3.view.ty) (v536 : FVec F S128x128 .f32) (hv536 : v536 = (k0_pay84 (wIn X9 52) (wSc X3 52))) :
    iprop((arg9.view.loc (c : Thread nD τ) ↦[arg9.view.set]{fullShare} X9) ∗ (arg3.view.loc (c : Thread nD τ) ↦[arg3.view.set]{fullShare} X3) ∗ W13 c arg13 X9 X3 52)
      ⊢ (wp frame (wpE (defs₀ (F := F)) 𝒱 (c : Thread nD τ) bd) E (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v536)
          (fun r => iprop((arg9.view.loc (c : Thread nD τ) ↦[arg9.view.set]{fullShare} X9) ∗ (arg3.view.loc (c : Thread nD τ) ↦[arg3.view.set]{fullShare} X3) ∗ W13 c arg13 X9 X3 55 ∗ ⌜r = (k0_pay88 (wIn X9 55) (wSc X3 55))⌝)) : sProp 𝕄) := by
  subst hv536
  rw [k0_part21_eq_skeleton]
  unfold k0_part21_skel W13
  iintro ⟨H9, H3, ⟨%g, H13, %hD⟩⟩
  have hD0 : WDone X9 X3 52 (arg13.view.writes (Elt F) g []) := hD
  sl_exec
  sl_step
  isplitl [H9]; · iexact H9
  isplitl [H3]; · iexact H3
  isplitl [H13]
  · iexists _; isplitl [H13]; · iexact H13
    ipureintro; exact (wdone_step 54 (wdone_step 53 (wdone_step 52 hD0)))
  ipureintro; rfl

theorem part22_run (X9 : BufTy.Contents (Elt F) arg9.view.ty) (X3 : BufTy.Contents (Elt F) arg3.view.ty) (v567 : FVec F S128x128 .bf16) (hv567 : v567 = (k0_pay88 (wIn X9 55) (wSc X3 55))) :
    iprop((arg9.view.loc (c : Thread nD τ) ↦[arg9.view.set]{fullShare} X9) ∗ (arg3.view.loc (c : Thread nD τ) ↦[arg3.view.set]{fullShare} X3) ∗ W13 c arg13 X9 X3 55)
      ⊢ (wp frame (wpE (defs₀ (F := F)) 𝒱 (c : Thread nD τ) bd) E (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v567)
          (fun r => iprop((arg9.view.loc (c : Thread nD τ) ↦[arg9.view.set]{fullShare} X9) ∗ (arg3.view.loc (c : Thread nD τ) ↦[arg3.view.set]{fullShare} X3) ∗ W13 c arg13 X9 X3 58 ∗ ⌜r = (k0_pay92 (wIn X9 58) (wSc X3 58))⌝)) : sProp 𝕄) := by
  subst hv567
  rw [k0_part22_eq_skeleton]
  unfold k0_part22_skel W13
  iintro ⟨H9, H3, ⟨%g, H13, %hD⟩⟩
  have hD0 : WDone X9 X3 55 (arg13.view.writes (Elt F) g []) := hD
  sl_exec
  sl_step
  isplitl [H9]; · iexact H9
  isplitl [H3]; · iexact H3
  isplitl [H13]
  · iexists _; isplitl [H13]; · iexact H13
    ipureintro; exact (wdone_step 57 (wdone_step 56 (wdone_step 55 hD0)))
  ipureintro; rfl

theorem part23_run (X9 : BufTy.Contents (Elt F) arg9.view.ty) (X3 : BufTy.Contents (Elt F) arg3.view.ty) (v597 : FVec F S128x128 .bf16) (hv597 : v597 = (k0_pay92 (wIn X9 58) (wSc X3 58))) :
    iprop((arg9.view.loc (c : Thread nD τ) ↦[arg9.view.set]{fullShare} X9) ∗ (arg3.view.loc (c : Thread nD τ) ↦[arg3.view.set]{fullShare} X3) ∗ W13 c arg13 X9 X3 58)
      ⊢ (wp frame (wpE (defs₀ (F := F)) 𝒱 (c : Thread nD τ) bd) E (k0_part23 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v597)
          (fun r => iprop((arg9.view.loc (c : Thread nD τ) ↦[arg9.view.set]{fullShare} X9) ∗ (arg3.view.loc (c : Thread nD τ) ↦[arg3.view.set]{fullShare} X3) ∗ W13 c arg13 X9 X3 62)) : sProp 𝕄) := by
  subst hv597
  rw [k0_part23_eq_skeleton]
  unfold k0_part23_skel W13
  iintro ⟨H9, H3, ⟨%g, H13, %hD⟩⟩
  have hD0 : WDone X9 X3 58 (arg13.view.writes (Elt F) g []) := hD
  sl_exec
  sl_step
  isplitl [H9]; · iexact H9
  isplitl [H3]; · iexact H3
  iexists _; isplitl [H13]; · iexact H13
  ipureintro; exact (wdone_step 61 (wdone_step 60 (wdone_step 59 (wdone_step 58 hD0))))

theorem part24_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 62)
      ⊢ (wp frame (wpE (defs₀ (F := F)) 𝒱 (c : Thread nD τ) bd) E (k0_part24 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 65 ∗ ⌜r = (wIn X9 65)⌝)) : sProp 𝕄) := by
  rw [k0_part24_eq_skeleton]
  unfold k0_part24_skel W13
  iintro ⟨H9, H3, ⟨%g, H13, %hD⟩⟩
  have hD0 : WDone X9 X3 62 (arg13.view.writes (Elt F) g []) := hD
  sl_exec
  sl_step
  isplitl [H9]; · iexact H9
  isplitl [H3]; · iexact H3
  isplitl [H13]
  · iexists _; isplitl [H13]; · iexact H13
    ipureintro; exact (wdone_step 64 (wdone_step 63 (wdone_step 62 hD0)))
  ipureintro; rfl

end Cert.KernelIdeal.Hand

end
-- ==== Proof.KernelIdeal.Parts3.lean ====
/- The head matrices' preparation, printed parts 25 to 34 of the body: each part, from the buffer with the blocks
   before it in place, leaves its own blocks in place too, and hands on the values the next part uses. -/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part25_run (X9 : BufTy.Contents (Elt F) arg9.view.ty) (X3 : BufTy.Contents (Elt F) arg3.view.ty) (v661 : Vec F S128x1x128 .fp8e4m3) (hv661 : v661 = (wIn X9 65)) :
    iprop((arg9.view.loc (c : Thread nD τ) ↦[arg9.view.set]{fullShare} X9) ∗ (arg3.view.loc (c : Thread nD τ) ↦[arg3.view.set]{fullShare} X3) ∗ W13 c arg13 X9 X3 65)
      ⊢ (wp frame (wpE (defs₀ (F := F)) 𝒱 (c : Thread nD τ) bd) E (k0_part25 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v661)
          (fun r => iprop((arg9.view.loc (c : Thread nD τ) ↦[arg9.view.set]{fullShare} X9) ∗ (arg3.view.loc (c : Thread nD τ) ↦[arg3.view.set]{fullShare} X3) ∗ W13 c arg13 X9 X3 68 ∗ ⌜r = (k0_pay103 (wIn X9 68))⌝)) : sProp 𝕄) := by
  subst hv661
  rw [k0_part25_eq_skeleton]
  unfold k0_part25_skel W13
  iintro ⟨H9, H3, ⟨%g, H13, %hD⟩⟩
  have hD0 : WDone X9 X3 65 (arg13.view.writes (Elt F) g []) := hD
  sl_exec
  sl_step
  isplitl [H9]; · iexact H9
  isplitl [H3]; · iexact H3
  isplitl [H13]
  · iexists _; isplitl [H13]; · iexact H13
    ipureintro; exact (wdone_step 67 (wdone_step 66 (wdone_step 65 hD0)))
  ipureintro; rfl

theorem part26_run (X9 : BufTy.Contents (Elt F) arg9.view.ty) (X3 : BufTy.Contents (Elt F) arg3.view.ty) (v693 : FVec F S128x128 .f32) (hv693 : v693 = (k0_pay103 (wIn X9 68))) :
    iprop((arg9.view.loc (c : Thread nD τ) ↦[arg9.view.set]{fullShare} X9) ∗ (arg3.view.loc (c : Thread nD τ) ↦[arg3.view.set]{fullShare} X3) ∗ W13 c arg13 X9 X3 68)
      ⊢ (wp frame (wpE (defs₀ (F := F)) 𝒱 (c : Thread nD τ) bd) E (k0_part26 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v693)
          (fun r => iprop((arg9.view.loc (c : Thread nD τ) ↦[arg9.view.set]{fullShare} X9) ∗ (arg3.view.loc (c : Thread nD τ) ↦[arg3.view.set]{fullShare} X3) ∗ W13 c arg13 X9 X3 71 ∗ ⌜r.1 = k0_pay107 (wIn X9 71)⌝ ∗ ⌜r.2 = k0_pay108 (wSc X3 71)⌝)) : sProp 𝕄) := by
  subst hv693
  rw [k0_part26_eq_skeleton]
  unfold k0_part26_skel W13
  iintro ⟨H9, H3, ⟨%g, H13, %hD⟩⟩
  have hD0 : WDone X9 X3 68 (arg13.view.writes (Elt F) g []) := hD
  sl_exec
  sl_step
  isplitl [H9]; · iexact H9
  isplitl [H3]; · iexact H3
  isplitl [H13]
  · iexists _; isplitl [H13]; · iexact H13
    ipureintro; exact (wdone_step 70 (wdone_step 69 (wdone_step 68 hD0)))
  isplitr; · ipureintro; rfl
  ipureintro; rfl

theorem part27_run (X9 : BufTy.Contents (Elt F) arg9.view.ty) (X3 : BufTy.Contents (Elt F) arg3.view.ty) (v723 : FVec F S128x128 .f32) (v725 : FVec F S128x128 .f32) (hv723 : v723 = (k0_pay107 (wIn X9 71))) (hv725 : v725 = (k0_pay108 (wSc X3 71))) :
    iprop((arg9.view.loc (c : Thread nD τ) ↦[arg9.view.set]{fullShare} X9) ∗ (arg3.view.loc (c : Thread nD τ) ↦[arg3.view.set]{fullShare} X3) ∗ W13 c arg13 X9 X3 71)
      ⊢ (wp frame (wpE (defs₀ (F := F)) 𝒱 (c : Thread nD τ) bd) E (k0_part27 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v723 v725)
          (fun r => iprop((arg9.view.loc (c : Thread nD τ) ↦[arg9.view.set]{fullShare} X9) ∗ (arg3.view.loc (c : Thread nD τ) ↦[arg3.view.set]{fullShare} X3) ∗ W13 c arg13 X9 X3 74 ∗ ⌜r = (k0_pay112 (wIn X9 74) (wSc X3 74))⌝)) : sProp 𝕄) := by
  subst hv723
  subst hv725
  rw [k0_part27_eq_skeleton]
  unfold k0_part27_skel W13
  iintro ⟨H9, H3, ⟨%g, H13, %hD⟩⟩
  have hD0 : WDone X9 X3 71 (arg13.view.writes (Elt F) g []) := hD
  sl_exec
  sl_step
  isplitl [H9]; · iexact H9
  isplitl [H3]; · iexact H3
  isplitl [H13]
  · iexists _; isplitl [H13]; · iexact H13
    ipureintro; exact (wdone_step 73 (wdone_step 72 (wdone_step 71 hD0)))
  ipureintro; rfl

theorem part28_run (X9 : BufTy.Contents (Elt F) arg9.view.ty) (X3 : BufTy.Contents (Elt F) arg3.view.ty) (v757 : FVec F S128x128 .bf16) (hv757 : v757 = (k0_pay112 (wIn X9 74) (wSc X3 74))) :
    iprop((arg9.view.loc (c : Thread nD τ) ↦[arg9.view.set]{fullShare} X9) ∗ (arg3.view.loc (c : Thread nD τ) ↦[arg3.view.set]{fullShare} X3) ∗ W13 c arg13 X9 X3 74)
      ⊢ (wp frame (wpE (defs₀ (F := F)) 𝒱 (c : Thread nD τ) bd) E (k0_part28 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v757)
          (fun r => iprop((arg9.view.loc (c : Thread nD τ) ↦[arg9.view.set]{fullShare} X9) ∗ (arg3.view.loc (c : Thread nD τ) ↦[arg3.view.set]{fullShare} X3) ∗ W13 c arg13 X9 X3 77 ∗ ⌜r.1 = k0_pay116 (wIn X9 77) (wSc X3 77)⌝)) : sProp 𝕄) := by
  subst hv757
  rw [k0_part28_eq_skeleton]
  unfold k0_part28_skel W13
  iintro ⟨H9, H3, ⟨%g, H13, %hD⟩⟩
  have hD0 : WDone X9 X3 74 (arg13.view.writes (Elt F) g []) := hD
  sl_exec
  sl_step
  isplitl [H9]; · iexact H9
  isplitl [H3]; · iexact H3
  isplitl [H13]
  · iexists _; isplitl [H13]; · iexact H13
    ipureintro; exact (wdone_step 76 (wdone_step 75 (wdone_step 74 hD0)))
  ipureintro; rfl

theorem part29_run (X9 : BufTy.Contents (Elt F) arg9.view.ty) (X3 : BufTy.Contents (Elt F) arg3.view.ty) (v787 : FVec F S128x128 .bf16) (v788 : Vec F S1x128x128 .bf16) (hv787 : v787 = (k0_pay116 (wIn X9 77) (wSc X3 77))) :
    iprop((arg9.view.loc (c : Thread nD τ) ↦[arg9.view.set]{fullShare} X9) ∗ (arg3.view.loc (c : Thread nD τ) ↦[arg3.view.set]{fullShare} X3) ∗ W13 c arg13 X9 X3 77)
      ⊢ (wp frame (wpE (defs₀ (F := F)) 𝒱 (c : Thread nD τ) bd) E (k0_part29 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v787 v788)
          (fun r => iprop((arg9.view.loc (c : Thread nD τ) ↦[arg9.view.set]{fullShare} X9) ∗ (arg3.view.loc (c : Thread nD τ) ↦[arg3.view.set]{fullShare} X3) ∗ W13 c arg13 X9 X3 81)) : sProp 𝕄) := by
  subst hv787
  rw [k0_part29_eq_skeleton]
  unfold k0_part29_skel W13
  iintro ⟨H9, H3, ⟨%g, H13, %hD⟩⟩
  have hD0 : WDone X9 X3 77 (arg13.view.writes (Elt F) g []) := hD
  sl_exec
  sl_step
  isplitl [H9]; · iexact H9
  isplitl [H3]; · iexact H3
  iexists _; isplitl [H13]; · iexact H13
  ipureintro; exact (wdone_step 80 (wdone_step 79 (wdone_step 78 (wdone_step 77 hD0))))

theorem part30_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 81)
      ⊢ (wp frame (wpE (defs₀ (F := F)) 𝒱 (c : Thread nD τ) bd) E (k0_part30 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 84)) : sProp 𝕄) := by
  rw [k0_part30_eq_skeleton]
  unfold k0_part30_skel W13
  iintro ⟨H9, H3, ⟨%g, H13, %hD⟩⟩
  have hD0 : WDone X9 X3 81 (arg13.view.writes (Elt F) g []) := hD
  sl_exec
  sl_step
  isplitl [H9]; · iexact H9
  isplitl [H3]; · iexact H3
  iexists _; isplitl [H13]; · iexact H13
  ipureintro; exact (wdone_step 83 (wdone_step 82 (wdone_step 81 hD0)))

theorem part31_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 84)
      ⊢ (wp frame (wpE (defs₀ (F := F)) 𝒱 (c : Thread nD τ) bd) E (k0_part31 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 87 ∗ ⌜r = (k0_pay127 (wIn X9 87))⌝)) : sProp 𝕄) := by
  rw [k0_part31_eq_skeleton]
  unfold k0_part31_skel W13
  iintro ⟨H9, H3, ⟨%g, H13, %hD⟩⟩
  have hD0 : WDone X9 X3 84 (arg13.view.writes (Elt F) g []) := hD
  sl_exec
  sl_step
  isplitl [H9]; · iexact H9
  isplitl [H3]; · iexact H3
  isplitl [H13]
  · iexists _; isplitl [H13]; · iexact H13
    ipureintro; exact (wdone_step 86 (wdone_step 85 (wdone_step 84 hD0)))
  ipureintro; rfl

theorem part32_run (X9 : BufTy.Contents (Elt F) arg9.view.ty) (X3 : BufTy.Contents (Elt F) arg3.view.ty) (v883 : FVec F S128x128 .f32) (hv883 : v883 = (k0_pay127 (wIn X9 87))) :
    iprop((arg9.view.loc (c : Thread nD τ) ↦[arg9.view.set]{fullShare} X9) ∗ (arg3.view.loc (c : Thread nD τ) ↦[arg3.view.set]{fullShare} X3) ∗ W13 c arg13 X9 X3 87)
      ⊢ (wp frame (wpE (defs₀ (F := F)) 𝒱 (c : Thread nD τ) bd) E (k0_part32 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v883)
          (fun r => iprop((arg9.view.loc (c : Thread nD τ) ↦[arg9.view.set]{fullShare} X9) ∗ (arg3.view.loc (c : Thread nD τ) ↦[arg3.view.set]{fullShare} X3) ∗ W13 c arg13 X9 X3 90 ∗ ⌜r.1 = k0_pay131 (wIn X9 90)⌝ ∗ ⌜r.2 = (wSc X3 90)⌝)) : sProp 𝕄) := by
  subst hv883
  rw [k0_part32_eq_skeleton]
  unfold k0_part32_skel W13
  iintro ⟨H9, H3, ⟨%g, H13, %hD⟩⟩
  have hD0 : WDone X9 X3 87 (arg13.view.writes (Elt F) g []) := hD
  sl_exec
  sl_step
  isplitl [H9]; · iexact H9
  isplitl [H3]; · iexact H3
  isplitl [H13]
  · iexists _; isplitl [H13]; · iexact H13
    ipureintro; exact (wdone_step 89 (wdone_step 88 (wdone_step 87 hD0)))
  isplitr; · ipureintro; rfl
  ipureintro; rfl

theorem part33_run (X9 : BufTy.Contents (Elt F) arg9.view.ty) (X3 : BufTy.Contents (Elt F) arg3.view.ty) (v913 : FVec F S128x128 .f32) (v914 : Elt F .f32) (hv913 : v913 = (k0_pay131 (wIn X9 90))) (hv914 : v914 = (wSc X3 90)) :
    iprop((arg9.view.loc (c : Thread nD τ) ↦[arg9.view.set]{fullShare} X9) ∗ (arg3.view.loc (c : Thread nD τ) ↦[arg3.view.set]{fullShare} X3) ∗ W13 c arg13 X9 X3 90)
      ⊢ (wp frame (wpE (defs₀ (F := F)) 𝒱 (c : Thread nD τ) bd) E (k0_part33 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v913 v914)
          (fun r => iprop((arg9.view.loc (c : Thread nD τ) ↦[arg9.view.set]{fullShare} X9) ∗ (arg3.view.loc (c : Thread nD τ) ↦[arg3.view.set]{fullShare} X3) ∗ W13 c arg13 X9 X3 93 ∗ ⌜r = (k0_pay135 (wIn X9 93) (wSc X3 93))⌝)) : sProp 𝕄) := by
  subst hv913
  subst hv914
  rw [k0_part33_eq_skeleton]
  unfold k0_part33_skel W13
  iintro ⟨H9, H3, ⟨%g, H13, %hD⟩⟩
  have hD0 : WDone X9 X3 90 (arg13.view.writes (Elt F) g []) := hD
  sl_exec
  sl_step
  isplitl [H9]; · iexact H9
  isplitl [H3]; · iexact H3
  isplitl [H13]
  · iexists _; isplitl [H13]; · iexact H13
    ipureintro; exact (wdone_step 92 (wdone_step 91 (wdone_step 90 hD0)))
  ipureintro; rfl

theorem part34_run (X9 : BufTy.Contents (Elt F) arg9.view.ty) (X3 : BufTy.Contents (Elt F) arg3.view.ty) (v947 : FVec F S128x128 .bf16) (hv947 : v947 = (k0_pay135 (wIn X9 93) (wSc X3 93))) :
    iprop((arg9.view.loc (c : Thread nD τ) ↦[arg9.view.set]{fullShare} X9) ∗ (arg3.view.loc (c : Thread nD τ) ↦[arg3.view.set]{fullShare} X3) ∗ W13 c arg13 X9 X3 93)
      ⊢ (wp frame (wpE (defs₀ (F := F)) 𝒱 (c : Thread nD τ) bd) E (k0_part34 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v947)
          (fun r => iprop((arg9.view.loc (c : Thread nD τ) ↦[arg9.view.set]{fullShare} X9) ∗ (arg3.view.loc (c : Thread nD τ) ↦[arg3.view.set]{fullShare} X3) ∗ W13 c arg13 X9 X3 96 ∗ ⌜r = (k0_pay139 (wIn X9 96) (wSc X3 96))⌝)) : sProp 𝕄) := by
  subst hv947
  rw [k0_part34_eq_skeleton]
  unfold k0_part34_skel W13
  iintro ⟨H9, H3, ⟨%g, H13, %hD⟩⟩
  have hD0 : WDone X9 X3 93 (arg13.view.writes (Elt F) g []) := hD
  sl_exec
  sl_step
  isplitl [H9]; · iexact H9
  isplitl [H3]; · iexact H3
  isplitl [H13]
  · iexists _; isplitl [H13]; · iexact H13
    ipureintro; exact (wdone_step 95 (wdone_step 94 (wdone_step 93 hD0)))
  ipureintro; rfl

end Cert.KernelIdeal.Hand

end
-- ==== Proof.KernelIdeal.Parts4.lean ====
/- The head matrices' preparation, printed parts 35 to 43 of the body: each part, from the buffer with the blocks
   before it in place, leaves its own blocks in place too, and hands on the values the next part uses. -/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

theorem part35_run (X9 : BufTy.Contents (Elt F) arg9.view.ty) (X3 : BufTy.Contents (Elt F) arg3.view.ty) (v977 : FVec F S128x128 .bf16) (hv977 : v977 = (k0_pay139 (wIn X9 96) (wSc X3 96))) :
    iprop((arg9.view.loc (c : Thread nD τ) ↦[arg9.view.set]{fullShare} X9) ∗ (arg3.view.loc (c : Thread nD τ) ↦[arg3.view.set]{fullShare} X3) ∗ W13 c arg13 X9 X3 96)
      ⊢ (wp frame (wpE (defs₀ (F := F)) 𝒱 (c : Thread nD τ) bd) E (k0_part35 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v977)
          (fun r => iprop((arg9.view.loc (c : Thread nD τ) ↦[arg9.view.set]{fullShare} X9) ∗ (arg3.view.loc (c : Thread nD τ) ↦[arg3.view.set]{fullShare} X3) ∗ W13 c arg13 X9 X3 99 ∗ ⌜r = (k0_pay143 (wIn X9 99) (wSc X3 99))⌝)) : sProp 𝕄) := by
  subst hv977
  rw [k0_part35_eq_skeleton]
  unfold k0_part35_skel W13
  iintro ⟨H9, H3, ⟨%g, H13, %hD⟩⟩
  have hD0 : WDone X9 X3 96 (arg13.view.writes (Elt F) g []) := hD
  sl_exec
  sl_step
  isplitl [H9]; · iexact H9
  isplitl [H3]; · iexact H3
  isplitl [H13]
  · iexists _; isplitl [H13]; · iexact H13
    ipureintro; exact (wdone_step 98 (wdone_step 97 (wdone_step 96 hD0)))
  ipureintro; rfl

theorem part36_run (X9 : BufTy.Contents (Elt F) arg9.view.ty) (X3 : BufTy.Contents (Elt F) arg3.view.ty) (v1010 : FVec F S1x128x128 .bf16) (hv1010 : v1010 = (k0_pay143 (wIn X9 99) (wSc X3 99))) :
    iprop((arg9.view.loc (c : Thread nD τ) ↦[arg9.view.set]{fullShare} X9) ∗ (arg3.view.loc (c : Thread nD τ) ↦[arg3.view.set]{fullShare} X3) ∗ W13 c arg13 X9 X3 99)
      ⊢ (wp frame (wpE (defs₀ (F := F)) 𝒱 (c : Thread nD τ) bd) E (k0_part36 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1010)
          (fun r => iprop((arg9.view.loc (c : Thread nD τ) ↦[arg9.view.set]{fullShare} X9) ∗ (arg3.view.loc (c : Thread nD τ) ↦[arg3.view.set]{fullShare} X3) ∗ W13 c arg13 X9 X3 103)) : sProp 𝕄) := by
  subst hv1010
  rw [k0_part36_eq_skeleton]
  unfold k0_part36_skel W13
  iintro ⟨H9, H3, ⟨%g, H13, %hD⟩⟩
  have hD0 : WDone X9 X3 99 (arg13.view.writes (Elt F) g []) := hD
  sl_exec
  sl_step
  isplitl [H9]; · iexact H9
  isplitl [H3]; · iexact H3
  iexists _; isplitl [H13]; · iexact H13
  ipureintro; exact (wdone_step 102 (wdone_step 101 (wdone_step 100 (wdone_step 99 hD0))))

theorem part37_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 103)
      ⊢ (wp frame (wpE (defs₀ (F := F)) 𝒱 (c : Thread nD τ) bd) E (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 106 ∗ ⌜r = (k0_pay150 (wIn X9 106))⌝)) : sProp 𝕄) := by
  rw [k0_part37_eq_skeleton]
  unfold k0_part37_skel W13
  iintro ⟨H9, H3, ⟨%g, H13, %hD⟩⟩
  have hD0 : WDone X9 X3 103 (arg13.view.writes (Elt F) g []) := hD
  sl_exec
  sl_step
  isplitl [H9]; · iexact H9
  isplitl [H3]; · iexact H3
  isplitl [H13]
  · iexists _; isplitl [H13]; · iexact H13
    ipureintro; exact (wdone_step 105 (wdone_step 104 (wdone_step 103 hD0)))
  ipureintro; rfl

theorem part38_run (X9 : BufTy.Contents (Elt F) arg9.view.ty) (X3 : BufTy.Contents (Elt F) arg3.view.ty) (v1072 : FVec F S128x128 .fp8e4m3) (hv1072 : v1072 = (k0_pay150 (wIn X9 106))) :
    iprop((arg9.view.loc (c : Thread nD τ) ↦[arg9.view.set]{fullShare} X9) ∗ (arg3.view.loc (c : Thread nD τ) ↦[arg3.view.set]{fullShare} X3) ∗ W13 c arg13 X9 X3 106)
      ⊢ (wp frame (wpE (defs₀ (F := F)) 𝒱 (c : Thread nD τ) bd) E (k0_part38 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1072)
          (fun r => iprop((arg9.view.loc (c : Thread nD τ) ↦[arg9.view.set]{fullShare} X9) ∗ (arg3.view.loc (c : Thread nD τ) ↦[arg3.view.set]{fullShare} X3) ∗ W13 c arg13 X9 X3 109 ∗ ⌜r = (k0_pay154 (wIn X9 109))⌝)) : sProp 𝕄) := by
  subst hv1072
  rw [k0_part38_eq_skeleton]
  unfold k0_part38_skel W13
  iintro ⟨H9, H3, ⟨%g, H13, %hD⟩⟩
  have hD0 : WDone X9 X3 106 (arg13.view.writes (Elt F) g []) := hD
  sl_exec
  sl_step
  isplitl [H9]; · iexact H9
  isplitl [H3]; · iexact H3
  isplitl [H13]
  · iexists _; isplitl [H13]; · iexact H13
    ipureintro; exact (wdone_step 108 (wdone_step 107 (wdone_step 106 hD0)))
  ipureintro; rfl

theorem part39_run (X9 : BufTy.Contents (Elt F) arg9.view.ty) (X3 : BufTy.Contents (Elt F) arg3.view.ty) (v1103 : FVec F S128x128 .f32) (hv1103 : v1103 = (k0_pay154 (wIn X9 109))) :
    iprop((arg9.view.loc (c : Thread nD τ) ↦[arg9.view.set]{fullShare} X9) ∗ (arg3.view.loc (c : Thread nD τ) ↦[arg3.view.set]{fullShare} X3) ∗ W13 c arg13 X9 X3 109)
      ⊢ (wp frame (wpE (defs₀ (F := F)) 𝒱 (c : Thread nD τ) bd) E (k0_part39 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1103)
          (fun r => iprop((arg9.view.loc (c : Thread nD τ) ↦[arg9.view.set]{fullShare} X9) ∗ (arg3.view.loc (c : Thread nD τ) ↦[arg3.view.set]{fullShare} X3) ∗ W13 c arg13 X9 X3 112 ∗ ⌜r = (k0_pay158 (wIn X9 112) (wSc X3 112))⌝)) : sProp 𝕄) := by
  subst hv1103
  rw [k0_part39_eq_skeleton]
  unfold k0_part39_skel W13
  iintro ⟨H9, H3, ⟨%g, H13, %hD⟩⟩
  have hD0 : WDone X9 X3 109 (arg13.view.writes (Elt F) g []) := hD
  sl_exec
  sl_step
  isplitl [H9]; · iexact H9
  isplitl [H3]; · iexact H3
  isplitl [H13]
  · iexists _; isplitl [H13]; · iexact H13
    ipureintro; exact (wdone_step 111 (wdone_step 110 (wdone_step 109 hD0)))
  ipureintro; rfl

theorem part40_run (X9 : BufTy.Contents (Elt F) arg9.view.ty) (X3 : BufTy.Contents (Elt F) arg3.view.ty) (v1136 : FVec F S128x128 .f32) (hv1136 : v1136 = (k0_pay158 (wIn X9 112) (wSc X3 112))) :
    iprop((arg9.view.loc (c : Thread nD τ) ↦[arg9.view.set]{fullShare} X9) ∗ (arg3.view.loc (c : Thread nD τ) ↦[arg3.view.set]{fullShare} X3) ∗ W13 c arg13 X9 X3 112)
      ⊢ (wp frame (wpE (defs₀ (F := F)) 𝒱 (c : Thread nD τ) bd) E (k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1136)
          (fun r => iprop((arg9.view.loc (c : Thread nD τ) ↦[arg9.view.set]{fullShare} X9) ∗ (arg3.view.loc (c : Thread nD τ) ↦[arg3.view.set]{fullShare} X3) ∗ W13 c arg13 X9 X3 115 ∗ ⌜r = (k0_pay162 (wIn X9 115) (wSc X3 115))⌝)) : sProp 𝕄) := by
  subst hv1136
  rw [k0_part40_eq_skeleton]
  unfold k0_part40_skel W13
  iintro ⟨H9, H3, ⟨%g, H13, %hD⟩⟩
  have hD0 : WDone X9 X3 112 (arg13.view.writes (Elt F) g []) := hD
  sl_exec
  sl_step
  isplitl [H9]; · iexact H9
  isplitl [H3]; · iexact H3
  isplitl [H13]
  · iexists _; isplitl [H13]; · iexact H13
    ipureintro; exact (wdone_step 114 (wdone_step 113 (wdone_step 112 hD0)))
  ipureintro; rfl

theorem part41_run (X9 : BufTy.Contents (Elt F) arg9.view.ty) (X3 : BufTy.Contents (Elt F) arg3.view.ty) (v1167 : FVec F S128x128 .bf16) (hv1167 : v1167 = (k0_pay162 (wIn X9 115) (wSc X3 115))) :
    iprop((arg9.view.loc (c : Thread nD τ) ↦[arg9.view.set]{fullShare} X9) ∗ (arg3.view.loc (c : Thread nD τ) ↦[arg3.view.set]{fullShare} X3) ∗ W13 c arg13 X9 X3 115)
      ⊢ (wp frame (wpE (defs₀ (F := F)) 𝒱 (c : Thread nD τ) bd) E (k0_part41 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1167)
          (fun r => iprop((arg9.view.loc (c : Thread nD τ) ↦[arg9.view.set]{fullShare} X9) ∗ (arg3.view.loc (c : Thread nD τ) ↦[arg3.view.set]{fullShare} X3) ∗ W13 c arg13 X9 X3 118 ∗ ⌜r = (k0_pay166 (wIn X9 118) (wSc X3 118))⌝)) : sProp 𝕄) := by
  subst hv1167
  rw [k0_part41_eq_skeleton]
  unfold k0_part41_skel W13
  iintro ⟨H9, H3, ⟨%g, H13, %hD⟩⟩
  have hD0 : WDone X9 X3 115 (arg13.view.writes (Elt F) g []) := hD
  sl_exec
  sl_step
  isplitl [H9]; · iexact H9
  isplitl [H3]; · iexact H3
  isplitl [H13]
  · iexists _; isplitl [H13]; · iexact H13
    ipureintro; exact (wdone_step 117 (wdone_step 116 (wdone_step 115 hD0)))
  ipureintro; rfl

theorem part42_run (X9 : BufTy.Contents (Elt F) arg9.view.ty) (X3 : BufTy.Contents (Elt F) arg3.view.ty) (v1197 : FVec F S128x128 .bf16) (hv1197 : v1197 = (k0_pay166 (wIn X9 118) (wSc X3 118))) :
    iprop((arg9.view.loc (c : Thread nD τ) ↦[arg9.view.set]{fullShare} X9) ∗ (arg3.view.loc (c : Thread nD τ) ↦[arg3.view.set]{fullShare} X3) ∗ W13 c arg13 X9 X3 118)
      ⊢ (wp frame (wpE (defs₀ (F := F)) 𝒱 (c : Thread nD τ) bd) E (k0_part42 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1197)
          (fun r => iprop((arg9.view.loc (c : Thread nD τ) ↦[arg9.view.set]{fullShare} X9) ∗ (arg3.view.loc (c : Thread nD τ) ↦[arg3.view.set]{fullShare} X3) ∗ W13 c arg13 X9 X3 122)) : sProp 𝕄) := by
  subst hv1197
  rw [k0_part42_eq_skeleton]
  unfold k0_part42_skel W13
  iintro ⟨H9, H3, ⟨%g, H13, %hD⟩⟩
  have hD0 : WDone X9 X3 118 (arg13.view.writes (Elt F) g []) := hD
  sl_exec
  sl_step
  isplitl [H9]; · iexact H9
  isplitl [H3]; · iexact H3
  iexists _; isplitl [H13]; · iexact H13
  ipureintro; exact (wdone_step 121 (wdone_step 120 (wdone_step 119 (wdone_step 118 hD0))))

theorem part43_run (X9 : BufTy.Contents (Elt F) arg9.view.ty) (X3 : BufTy.Contents (Elt F) arg3.view.ty)   :
    iprop((arg9.view.loc (c : Thread nD τ) ↦[arg9.view.set]{fullShare} X9) ∗ (arg3.view.loc (c : Thread nD τ) ↦[arg3.view.set]{fullShare} X3) ∗ W13 c arg13 X9 X3 122)
      ⊢ (wp frame (wpE (defs₀ (F := F)) 𝒱 (c : Thread nD τ) bd) E (k0_part43 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 )
          (fun r => iprop((arg9.view.loc (c : Thread nD τ) ↦[arg9.view.set]{fullShare} X9) ∗ (arg3.view.loc (c : Thread nD τ) ↦[arg3.view.set]{fullShare} X3) ∗ W13 c arg13 X9 X3 125 ∗ ⌜r = (wIn X9 125)⌝)) : sProp 𝕄) := by
  rw [k0_part43_eq_skeleton]
  unfold k0_part43_skel W13
  iintro ⟨H9, H3, ⟨%g, H13, %hD⟩⟩
  have hD0 : WDone X9 X3 122 (arg13.view.writes (Elt F) g []) := hD
  sl_exec
  sl_step
  isplitl [H9]; · iexact H9
  isplitl [H3]; · iexact H3
  isplitl [H13]
  · iexists _; isplitl [H13]; · iexact H13
    ipureintro; exact (wdone_step 124 (wdone_step 123 (wdone_step 122 hD0)))
  ipureintro; rfl

end Cert.KernelIdeal.Hand

end
-- ==== Proof.KernelIdeal.Inner.lean ====
/- The two inner loops of the kernel's body, each by an invariant that names exactly what has been written:
   the dequantising loop (one trip turns 512 rows of the prefix codes into numbers, group by group of 128
   columns) and the expansion loop of one head (one trip multiplies 512 dequantised rows by the head's
   matrix).  The contents are stated as a list of writes over what the buffer held at entry. -/
module

public import proofs.«01_k».proof.Proof.KernelIdeal.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What one trip of the dequantising loop writes: four column groups of 512 rows, last written first. -/
def deqTrip {arg10 : Memref sig .tc .vmem S4096x512 .fp8e4m3} {arg11 : Memref sig .tc .vmem S4x4096 .f32}
    (X10 : BufTy.Contents (Elt F) arg10.view.ty) (X11 : BufTy.Contents (Elt F) arg11.view.ty) (k : Fin k0_t1_loop.trips) :
    List (View.Piece (Elt F) S4096x512 .bf16) :=
  let s := arg11.view.readAt (Elt F) (Rect.unit (s := S4x4096) (k0_off1 k) S4x512.size (k0_off1_inb k)).toLoadRect X11
  [⟨Rect.unit (s := S4096x512) (k0_off5 k) S512x128.size (k0_off5_inb k), k0_pay177 (k0_pay6 s (arg10.view.readAt (Elt F) (Rect.unit (s := S4096x512) (k0_off5 k) S512x128.size (k0_off5_inb k)).toLoadRect X10))⟩,
   ⟨Rect.unit (s := S4096x512) (k0_off4 k) S512x128.size (k0_off4_inb k), k0_pay5 s (arg10.view.readAt (Elt F) (Rect.unit (s := S4096x512) (k0_off4 k) S512x128.size (k0_off4_inb k)).toLoadRect X10)⟩,
   ⟨Rect.unit (s := S4096x512) (k0_off3 k) S512x128.size (k0_off3_inb k), k0_pay4 s (arg10.view.readAt (Elt F) (Rect.unit (s := S4096x512) (k0_off3 k) S512x128.size (k0_off3_inb k)).toLoadRect X10)⟩,
   ⟨Rect.unit (s := S4096x512) (k0_off2 k) S512x128.size (k0_off2_inb k), k0_pay3 s (arg10.view.readAt (Elt F) (Rect.unit (s := S4096x512) (k0_off2 k) S512x128.size (k0_off2_inb k)).toLoadRect X10)⟩]

/-- The writes of the trips before `k`, last first. -/
def deqPieces {arg10 : Memref sig .tc .vmem S4096x512 .fp8e4m3} {arg11 : Memref sig .tc .vmem S4x4096 .f32}
    (X10 : BufTy.Contents (Elt F) arg10.view.ty) (X11 : BufTy.Contents (Elt F) arg11.view.ty) :
    ℕ → List (View.Piece (Elt F) S4096x512 .bf16)
  | 0 => []
  | k + 1 => if h : k < k0_t1_loop.trips then deqTrip X10 X11 ⟨k, h⟩ ++ deqPieces X10 X11 k else deqPieces X10 X11 k

theorem deqPieces_succ {arg10 : Memref sig .tc .vmem S4096x512 .fp8e4m3} {arg11 : Memref sig .tc .vmem S4x4096 .f32}
    (X10 : BufTy.Contents (Elt F) arg10.view.ty) (X11 : BufTy.Contents (Elt F) arg11.view.ty) (k : Fin k0_t1_loop.trips) :
    deqPieces X10 X11 (k.val + 1) = deqTrip X10 X11 k ++ deqPieces X10 X11 k.val := by
  rw [deqPieces]; exact dif_pos k.isLt

/-- What one trip of a head's expansion loop writes: 512 rows. -/
def expTrip {arg14 : Memref sig .tc .vmem S4096x512 .bf16} (v1385 : Vec F S1x512x256 .bf16)
    (X14 : BufTy.Contents (Elt F) arg14.view.ty) (k : Fin k0_t3_loop.trips) : List (View.Piece (Elt F) S4096x256 .bf16) :=
  [⟨Rect.unit (s := S4096x256) (k0_off9 k) S512x256.size (k0_off9_inb k), k0_pay9 v1385 (arg14.view.readAt (Elt F) (Rect.unit (s := S4096x512) (k0_off8 k) S512x512.size (k0_off8_inb k)).toLoadRect X14)⟩]

/-- The writes of the trips before `k`, last first. -/
def expPieces {arg14 : Memref sig .tc .vmem S4096x512 .bf16} (v1385 : Vec F S1x512x256 .bf16)
    (X14 : BufTy.Contents (Elt F) arg14.view.ty) : ℕ → List (View.Piece (Elt F) S4096x256 .bf16)
  | 0 => []
  | k + 1 => if h : k < k0_t3_loop.trips then expTrip v1385 X14 ⟨k, h⟩ ++ expPieces v1385 X14 k else expPieces v1385 X14 k

theorem expPieces_succ {arg14 : Memref sig .tc .vmem S4096x512 .bf16} (v1385 : Vec F S1x512x256 .bf16)
    (X14 : BufTy.Contents (Elt F) arg14.view.ty) (k : Fin k0_t3_loop.trips) :
    expPieces v1385 X14 (k.val + 1) = expTrip v1385 X14 k ++ expPieces v1385 X14 k.val := by
  rw [expPieces]; exact dif_pos k.isLt

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- One trip of the expansion loop. -/
theorem expTrip_run (c0 c1 : BitVec 32) (t2 : Fin k0_t2_loop.trips) (v1385 : Vec F S1x512x256 .bf16)
    (X14 : BufTy.Contents (Elt F) arg14.view.ty) (f15 : BufTy.Contents (Elt F) arg15.view.ty) (k : Fin k0_t3_loop.trips) :
    iprop((arg14.view.loc (c : Thread nD τ) ↦[arg14.view.set]{fullShare} X14) ∗ (arg15.view.loc (c : Thread nD τ) ↦[arg15.view.set]{fullShare} f15))
      ⊢ (wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 k PUnit.unit)
          (fun _ => iprop((arg14.view.loc (c : Thread nD τ) ↦[arg14.view.set]{fullShare} X14) ∗ (arg15.view.loc (c : Thread nD τ) ↦[arg15.view.set]{fullShare} arg15.view.writes (Elt F) f15 (expTrip v1385 X14 k)))) : sProp 𝕄) := by
  have hk : k.val < 8 := Nat.lt_of_lt_of_le k.isLt k0_t3_abs.2.1
  unfold k0_t3_body
  iintro ⟨H14, H15⟩
  sl_exec
  sl_step
  sl_close

/-- One trip of the dequantising loop. -/
theorem deqTrip_run (v8 : IVec S16x128 32)
    (X10 : BufTy.Contents (Elt F) arg10.view.ty) (X11 : BufTy.Contents (Elt F) arg11.view.ty) (f14 : BufTy.Contents (Elt F) arg14.view.ty) (k : Fin k0_t1_loop.trips) :
    iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} f14))
      ⊢ (wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 k PUnit.unit)
          (fun _ => iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} arg14.view.writes (Elt F) f14 (deqTrip X10 X11 k)))) : sProp 𝕄) := by
  have hk : k.val < 8 := Nat.lt_of_lt_of_le k.isLt k0_t1_abs.2.1
  unfold k0_t1_body
  simp only [k0_part1_eq_skeleton]
  iintro ⟨H10, H11, H14⟩
  sl_exec
  sl_step
  sl_close

set_option warn.classDefReducibility false in
/-- The expansion loop of one head by its invariant. -/
@[sl_loop] def loopExp (c0 c1 : BitVec 32) (t2 : Fin k0_t2_loop.trips) (v1385 : Vec F S1x512x256 .bf16)
    (X14 : BufTy.Contents (Elt F) arg14.view.ty) (G15 : BufTy.Contents (Elt F) arg15.view.ty) :
    LoopInvTy_k0_t3 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 where
  inv k _ := iprop((arg14.view.loc (c : Thread nD τ) ↦[arg14.view.set]{fullShare} X14)
    ∗ (∃ f, (arg15.view.loc (c : Thread nD τ) ↦[arg15.view.set]{fullShare} f) ∗ ⌜f = arg15.view.writes (Elt F) G15 (expPieces v1385 X14 k)⌝))
  step k acc := by
    iintro ⟨H14, ⟨%f, H15, %hf⟩⟩
    iapply (wp_wand_r frame (wpE (defs₀ (F := F)) 𝒱 (c : Thread nD τ) bd) E)
    isplitl [H14 H15]
    · iapply (expTrip_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 X14 f k)
      isplitl [H14]; · iexact H14
      iexact H15
    · iintro %_ ⟨H14, H15⟩
      isplitl [H14]; · iexact H14
      rw [expPieces_succ]
      iexists _; isplitl [H15]; · iexact H15
      ipureintro; rw [hf, ← View.writes_append]

set_option warn.classDefReducibility false in
/-- The dequantising loop by its invariant. -/
@[sl_loop] def loopDeq (v8 : IVec S16x128 32)
    (X10 : BufTy.Contents (Elt F) arg10.view.ty) (X11 : BufTy.Contents (Elt F) arg11.view.ty) (G14 : BufTy.Contents (Elt F) arg14.view.ty) :
    LoopInvTy_k0_t1 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 where
  inv k _ := iprop((arg10.view.loc (c : Thread nD τ) ↦[arg10.view.set]{fullShare} X10) ∗ (arg11.view.loc (c : Thread nD τ) ↦[arg11.view.set]{fullShare} X11)
    ∗ (∃ f, (arg14.view.loc (c : Thread nD τ) ↦[arg14.view.set]{fullShare} f) ∗ ⌜f = arg14.view.writes (Elt F) G14 (deqPieces X10 X11 k)⌝))
  step k acc := by
    iintro ⟨H10, H11, ⟨%f, H14, %hf⟩⟩
    iapply (wp_wand_r frame (wpE (defs₀ (F := F)) 𝒱 (c : Thread nD τ) bd) E)
    isplitl [H10 H11 H14]
    · iapply (deqTrip_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X10 X11 f k)
      isplitl [H10]; · iexact H10
      isplitl [H11]; · iexact H11
      iexact H14
    · iintro %_ ⟨H10, H11, H14⟩
      isplitl [H10]; · iexact H10
      isplitl [H11]; · iexact H11
      rw [deqPieces_succ]
      iexists _; isplitl [H14]; · iexact H14
      ipureintro; rw [hf, ← View.writes_append]

end Cert.KernelIdeal.Hand

end
-- ==== Proof.KernelIdeal.Exits.lean ====
/- What the two inner loops leave: after its last trip the dequantising loop has filled the whole buffer of prefix
   numbers, and the expansion loop of one head the whole buffer of that head's keys and values, whatever the
   buffers held before. -/
module

public import proofs.«01_k».proof.Proof.KernelIdeal.Inner
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem trips1 : k0_t1_loop.trips = 8 := by decide
theorem trips2 : k0_t2_loop.trips = 16 := by decide
theorem trips3 : k0_t3_loop.trips = 8 := by decide

/-- A number as a trip of the dequantising loop. -/
def t1Of (n : ℕ) : Fin k0_t1_loop.trips := ⟨n % 8, by rw [trips1]; exact Nat.mod_lt _ (by decide)⟩
/-- A number as a head. -/
def t2Of (n : ℕ) : Fin k0_t2_loop.trips := ⟨n % 16, by rw [trips2]; exact Nat.mod_lt _ (by decide)⟩
/-- A number as a trip of the expansion loop. -/
def t3Of (n : ℕ) : Fin k0_t3_loop.trips := ⟨n % 8, by rw [trips3]; exact Nat.mod_lt _ (by decide)⟩
theorem t1Of_val (k : Fin k0_t1_loop.trips) : t1Of k.val = k :=
  Fin.ext (Nat.mod_eq_of_lt (Nat.lt_of_lt_of_le k.isLt (le_of_eq trips1)))
theorem t2Of_val (k : Fin k0_t2_loop.trips) : t2Of k.val = k :=
  Fin.ext (Nat.mod_eq_of_lt (Nat.lt_of_lt_of_le k.isLt (le_of_eq trips2)))
theorem t3Of_val (k : Fin k0_t3_loop.trips) : t3Of k.val = k :=
  Fin.ext (Nat.mod_eq_of_lt (Nat.lt_of_lt_of_le k.isLt (le_of_eq trips3)))

/-- The scales one trip of the dequantising loop reads. -/
def deqS {arg11 : Memref sig .tc .vmem S4x4096 .f32} (X11 : BufTy.Contents (Elt F) arg11.view.ty) (k : Fin k0_t1_loop.trips) : Vec F S4x512 .f32 :=
  arg11.view.readAt (Elt F) (Rect.unit (s := S4x4096) (k0_off1 k) S4x512.size (k0_off1_inb k)).toLoadRect X11

/-- The block trip `k` writes at column group `g`. -/
def deqBlk {arg10 : Memref sig .tc .vmem S4096x512 .fp8e4m3} {arg11 : Memref sig .tc .vmem S4x4096 .f32} (X10 : BufTy.Contents (Elt F) arg10.view.ty) (X11 : BufTy.Contents (Elt F) arg11.view.ty) (k : Fin k0_t1_loop.trips) : ℕ → Vec F S512x128 .bf16
  | 0 => k0_pay3 (deqS X11 k) (arg10.view.readAt (Elt F) (Rect.unit (s := S4096x512) (k0_off2 k) S512x128.size (k0_off2_inb k)).toLoadRect X10)
  | 1 => k0_pay4 (deqS X11 k) (arg10.view.readAt (Elt F) (Rect.unit (s := S4096x512) (k0_off3 k) S512x128.size (k0_off3_inb k)).toLoadRect X10)
  | 2 => k0_pay5 (deqS X11 k) (arg10.view.readAt (Elt F) (Rect.unit (s := S4096x512) (k0_off4 k) S512x128.size (k0_off4_inb k)).toLoadRect X10)
  | _ => k0_pay177 (k0_pay6 (deqS X11 k) (arg10.view.readAt (Elt F) (Rect.unit (s := S4096x512) (k0_off5 k) S512x128.size (k0_off5_inb k)).toLoadRect X10))

/-- The dequantised prefix, entry by entry. -/
def deqVal {arg10 : Memref sig .tc .vmem S4096x512 .fp8e4m3} {arg11 : Memref sig .tc .vmem S4x4096 .f32} (X10 : BufTy.Contents (Elt F) arg10.view.ty) (X11 : BufTy.Contents (Elt F) arg11.view.ty) : Vec F S4096x512 .bf16 := fun y =>
  deqBlk X10 X11 (t1Of ((y 0).val / 512)) ((y 1).val / 128)
    (ValueIdx.ix2 (⟨(y 0).val % 512, Nat.mod_lt _ (by decide)⟩ : Fin 512) (⟨(y 1).val % 128, Nat.mod_lt _ (by decide)⟩ : Fin 128))

/-- The writes of one trip, by its blocks. -/
theorem deqTrip_eq {arg10 : Memref sig .tc .vmem S4096x512 .fp8e4m3} {arg11 : Memref sig .tc .vmem S4x4096 .f32} (X10 : BufTy.Contents (Elt F) arg10.view.ty) (X11 : BufTy.Contents (Elt F) arg11.view.ty) (k : Fin k0_t1_loop.trips) :
    deqTrip X10 X11 k = [⟨Rect.unit (s := S4096x512) (k0_off5 k) S512x128.size (k0_off5_inb k), deqBlk X10 X11 k 3⟩,
      ⟨Rect.unit (s := S4096x512) (k0_off4 k) S512x128.size (k0_off4_inb k), deqBlk X10 X11 k 2⟩,
      ⟨Rect.unit (s := S4096x512) (k0_off3 k) S512x128.size (k0_off3_inb k), deqBlk X10 X11 k 1⟩,
      ⟨Rect.unit (s := S4096x512) (k0_off2 k) S512x128.size (k0_off2_inb k), deqBlk X10 X11 k 0⟩] := rfl

/-- One trip of the dequantising loop leaves the rows of the other trips alone. -/
theorem deq_miss {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val < 512 * k.val) :
    arg14.view.read (Elt F) (arg14.view.writes (Elt F) G (deqTrip X10 X11 k ++ L)) y = arg14.view.read (Elt F) (arg14.view.writes (Elt F) G L) y := by
  have f2 : k0_off2 k 0 = 512 * k.val := by rw [k0_off2_eq]; rfl
  have f3 : k0_off3 k 0 = 512 * k.val := by rw [k0_off3_eq]; rfl
  have f4 : k0_off4 k 0 = 512 * k.val := by rw [k0_off4_eq]; rfl
  have f5 : k0_off5 k 0 = 512 * k.val := by rw [k0_off5_eq]; rfl
  rw [deqTrip_eq]
  simp only [List.cons_append, List.nil_append]
  refine (View.read_writes_cons_miss_of_axis _ _ _ _ y 0 (512 * k.val) 512 f5 rfl rfl (Or.inl hy)).trans ?_
  refine (View.read_writes_cons_miss_of_axis _ _ _ _ y 0 (512 * k.val) 512 f4 rfl rfl (Or.inl hy)).trans ?_
  refine (View.read_writes_cons_miss_of_axis _ _ _ _ y 0 (512 * k.val) 512 f3 rfl rfl (Or.inl hy)).trans ?_
  exact View.read_writes_cons_miss_of_axis _ _ _ _ y 0 (512 * k.val) 512 f2 rfl rfl (Or.inl hy)

/-- One trip fills column group 0 of its rows. -/
theorem deq_hit0 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 0) :
    arg14.view.read (Elt F) (arg14.view.writes (Elt F) G (deqTrip X10 X11 k ++ L)) y = deqBlk X10 X11 k 0
      (ValueIdx.ix2 (⟨(y 0).val % 512, Nat.mod_lt _ (by decide)⟩ : Fin 512) (⟨(y 1).val % 128, Nat.mod_lt _ (by decide)⟩ : Fin 128)) := by
  have h0 : k0_off2 k 0 = 512 * k.val := by rw [k0_off2_eq]; rfl
  have h1 : k0_off2 k 1 = 0 := by rw [k0_off2_eq]; rfl
  have f5 : k0_off5 k 1 = 384 := by rw [k0_off5_eq]; rfl
  have f4 : k0_off4 k 1 = 256 := by rw [k0_off4_eq]; rfl
  have f3 : k0_off3 k 1 = 128 := by rw [k0_off3_eq]; rfl
  rw [deqTrip_eq]
  simp only [List.cons_append, List.nil_append]
  refine (View.read_writes_cons_miss_of_axis _ _ _ _ y 1 384 128 f5 rfl rfl (Or.inl (by omega))).trans ?_
  refine (View.read_writes_cons_miss_of_axis _ _ _ _ y 1 256 128 f4 rfl rfl (Or.inl (by omega))).trans ?_
  refine (View.read_writes_cons_miss_of_axis _ _ _ _ y 1 128 128 f3 rfl rfl (Or.inl (by omega))).trans ?_
  refine View.read_writes_cons_hit_of_coords _ _ (Rect.unit (s := S4096x512) (k0_off2 k) S512x128.size (k0_off2_inb k)) (deqBlk X10 X11 k 0) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off2 k 0 + 1 * ((y 0).val % 512); omega
  | 1 => show (y 1).val = k0_off2 k 1 + 1 * ((y 1).val % 128); omega

/-- One trip fills column group 1 of its rows. -/
theorem deq_hit1 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 1) :
    arg14.view.read (Elt F) (arg14.view.writes (Elt F) G (deqTrip X10 X11 k ++ L)) y = deqBlk X10 X11 k 1
      (ValueIdx.ix2 (⟨(y 0).val % 512, Nat.mod_lt _ (by decide)⟩ : Fin 512) (⟨(y 1).val % 128, Nat.mod_lt _ (by decide)⟩ : Fin 128)) := by
  have h0 : k0_off3 k 0 = 512 * k.val := by rw [k0_off3_eq]; rfl
  have h1 : k0_off3 k 1 = 128 := by rw [k0_off3_eq]; rfl
  have f5 : k0_off5 k 1 = 384 := by rw [k0_off5_eq]; rfl
  have f4 : k0_off4 k 1 = 256 := by rw [k0_off4_eq]; rfl
  rw [deqTrip_eq]
  simp only [List.cons_append, List.nil_append]
  refine (View.read_writes_cons_miss_of_axis _ _ _ _ y 1 384 128 f5 rfl rfl (Or.inl (by omega))).trans ?_
  refine (View.read_writes_cons_miss_of_axis _ _ _ _ y 1 256 128 f4 rfl rfl (Or.inl (by omega))).trans ?_
  refine View.read_writes_cons_hit_of_coords _ _ (Rect.unit (s := S4096x512) (k0_off3 k) S512x128.size (k0_off3_inb k)) (deqBlk X10 X11 k 1) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off3 k 0 + 1 * ((y 0).val % 512); omega
  | 1 => show (y 1).val = k0_off3 k 1 + 1 * ((y 1).val % 128); omega

/-- One trip fills column group 2 of its rows. -/
theorem deq_hit2 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 2) :
    arg14.view.read (Elt F) (arg14.view.writes (Elt F) G (deqTrip X10 X11 k ++ L)) y = deqBlk X10 X11 k 2
      (ValueIdx.ix2 (⟨(y 0).val % 512, Nat.mod_lt _ (by decide)⟩ : Fin 512) (⟨(y 1).val % 128, Nat.mod_lt _ (by decide)⟩ : Fin 128)) := by
  have h0 : k0_off4 k 0 = 512 * k.val := by rw [k0_off4_eq]; rfl
  have h1 : k0_off4 k 1 = 256 := by rw [k0_off4_eq]; rfl
  have f5 : k0_off5 k 1 = 384 := by rw [k0_off5_eq]; rfl
  rw [deqTrip_eq]
  simp only [List.cons_append, List.nil_append]
  refine (View.read_writes_cons_miss_of_axis _ _ _ _ y 1 384 128 f5 rfl rfl (Or.inl (by omega))).trans ?_
  refine View.read_writes_cons_hit_of_coords _ _ (Rect.unit (s := S4096x512) (k0_off4 k) S512x128.size (k0_off4_inb k)) (deqBlk X10 X11 k 2) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off4 k 0 + 1 * ((y 0).val % 512); omega
  | 1 => show (y 1).val = k0_off4 k 1 + 1 * ((y 1).val % 128); omega

/-- One trip fills column group 3 of its rows. -/
theorem deq_hit3 {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty)
    (k : Fin k0_t1_loop.trips) (L : List (View.Piece (Elt F) S4096x512 .bf16)) (y : S4096x512.Idx) (hy : (y 0).val / 512 = k.val) (hc : (y 1).val / 128 = 3) :
    arg14.view.read (Elt F) (arg14.view.writes (Elt F) G (deqTrip X10 X11 k ++ L)) y = deqBlk X10 X11 k 3
      (ValueIdx.ix2 (⟨(y 0).val % 512, Nat.mod_lt _ (by decide)⟩ : Fin 512) (⟨(y 1).val % 128, Nat.mod_lt _ (by decide)⟩ : Fin 128)) := by
  have h0 : k0_off5 k 0 = 512 * k.val := by rw [k0_off5_eq]; rfl
  have h1 : k0_off5 k 1 = 384 := by rw [k0_off5_eq]; rfl
  rw [deqTrip_eq]
  simp only [List.cons_append, List.nil_append]
  refine View.read_writes_cons_hit_of_coords _ _ (Rect.unit (s := S4096x512) (k0_off5 k) S512x128.size (k0_off5_inb k)) (deqBlk X10 X11 k 3) _ (ValueIdx.ix2 (⟨(y 0).val % 512, Nat.mod_lt _ (by decide)⟩ : Fin 512) (⟨(y 1).val % 128, Nat.mod_lt _ (by decide)⟩ : Fin 128)) y (fun a => ?_)
  match a with
  | 0 => show (y 0).val = k0_off5 k 0 + 1 * ((y 0).val % 512); omega
  | 1 => show (y 1).val = k0_off5 k 1 + 1 * ((y 1).val % 128); omega

/-- The rows written by the trips before `n` hold the dequantised prefix. -/
theorem deq_done {arg10 : Memref sig .tc .vmem S4096x512 .fp8e4m3} {arg11 : Memref sig .tc .vmem S4x4096 .f32} {arg14 : Memref sig .tc .vmem S4096x512 .bf16} (X10 : BufTy.Contents (Elt F) arg10.view.ty) (X11 : BufTy.Contents (Elt F) arg11.view.ty) (G : BufTy.Contents (Elt F) arg14.view.ty) (n : ℕ) (hn : n ≤ 8)
    (y : S4096x512.Idx) (hy : (y 0).val / 512 < n) :
    arg14.view.read (Elt F) (arg14.view.writes (Elt F) G (deqPieces X10 X11 n)) y = deqVal X10 X11 y := by
  induction n with
  | zero => exact absurd hy (Nat.not_lt_zero _)
  | succ n ih =>
    have hk : n < k0_t1_loop.trips := by rw [trips1]; omega
    have h1 : (y 1).val < 512 := (y 1).isLt
    rw [deqPieces_succ X10 X11 ⟨n, hk⟩]
    rcases Nat.lt_or_ge ((y 0).val / 512) n with hlt | hge
    · rw [← ih (by omega) hlt]
      exact deq_miss X10 X11 G ⟨n, hk⟩ _ y (by show (y 0).val < 512 * n; omega)
    · have he : (y 0).val / 512 = n := by omega
      have ht : t1Of ((y 0).val / 512) = ⟨n, hk⟩ := by rw [he]; exact t1Of_val ⟨n, hk⟩
      unfold deqVal
      rw [ht]
      have hc : (y 1).val / 128 = 0 ∨ (y 1).val / 128 = 1 ∨ (y 1).val / 128 = 2 ∨ (y 1).val / 128 = 3 := by omega
      rcases hc with hc | hc | hc | hc
      · rw [hc]; exact deq_hit0 X10 X11 G ⟨n, hk⟩ _ y he hc
      · rw [hc]; exact deq_hit1 X10 X11 G ⟨n, hk⟩ _ y he hc
      · rw [hc]; exact deq_hit2 X10 X11 G ⟨n, hk⟩ _ y he hc
      · rw [hc]; exact deq_hit3 X10 X11 G ⟨n, hk⟩ _ y he hc

/-- The rows trip `k` of a head's expansion loop writes. -/
def expBlk {arg14 : Memref sig .tc .vmem S4096x512 .bf16} (v1385 : Vec F S1x512x256 .bf16) (X14 : BufTy.Contents (Elt F) arg14.view.ty) (k : Fin k0_t3_loop.trips) : Vec F S512x256 .bf16 :=
  k0_pay9 v1385 (arg14.view.readAt (Elt F) (Rect.unit (s := S4096x512) (k0_off8 k) S512x512.size (k0_off8_inb k)).toLoadRect X14)

/-- The keys and values of one head, entry by entry, from the head's matrix and the dequantised prefix. -/
def expVal {arg14 : Memref sig .tc .vmem S4096x512 .bf16} (v1385 : Vec F S1x512x256 .bf16) (X14 : BufTy.Contents (Elt F) arg14.view.ty) : Vec F S4096x256 .bf16 := fun y =>
  expBlk v1385 X14 (t3Of ((y 0).val / 512))
    (ValueIdx.ix2 (⟨(y 0).val % 512, Nat.mod_lt _ (by decide)⟩ : Fin 512) (⟨(y 1).val, (y 1).isLt⟩ : Fin 256))

/-- The rows written by the trips before `n` hold the head's keys and values. -/
theorem exp_done {arg14 : Memref sig .tc .vmem S4096x512 .bf16} {arg15 : Memref sig .tc .vmem S4096x256 .bf16} (v1385 : Vec F S1x512x256 .bf16) (X14 : BufTy.Contents (Elt F) arg14.view.ty) (G : BufTy.Contents (Elt F) arg15.view.ty) (n : ℕ) (hn : n ≤ 8)
    (y : S4096x256.Idx) (hy : (y 0).val / 512 < n) :
    arg15.view.read (Elt F) (arg15.view.writes (Elt F) G (expPieces v1385 X14 n)) y = expVal v1385 X14 y := by
  induction n with
  | zero => exact absurd hy (Nat.not_lt_zero _)
  | succ n ih =>
    have hk : n < k0_t3_loop.trips := by rw [trips3]; omega
    rw [expPieces_succ v1385 X14 ⟨n, hk⟩]
    have o9 := k0_off9_eq ⟨n, hk⟩
    have f0 : k0_off9 ⟨n, hk⟩ 0 = 512 * n := by rw [o9]; rfl
    have f1 : k0_off9 ⟨n, hk⟩ 1 = 0 := by rw [o9]; rfl
    unfold expTrip
    simp only [List.cons_append, List.nil_append]
    rcases Nat.lt_or_ge ((y 0).val / 512) n with hlt | hge
    · rw [← ih (by omega) hlt]
      exact View.read_writes_cons_miss_of_axis _ _ _ _ y 0 (512 * n) 512 f0 rfl rfl (by omega)
    · have he : (y 0).val / 512 = n := by omega
      have ht : t3Of ((y 0).val / 512) = ⟨n, hk⟩ := by rw [he]; exact t3Of_val ⟨n, hk⟩
      unfold expVal
      rw [ht]
      refine View.read_writes_cons_hit_of_coords _ _ (Rect.unit (s := S4096x256) (k0_off9 ⟨n, hk⟩) S512x256.size (k0_off9_inb ⟨n, hk⟩)) (expBlk v1385 X14 ⟨n, hk⟩) _ (ValueIdx.ix2 (⟨(y 0).val % 512, Nat.mod_lt _ (by decide)⟩ : Fin 512) (⟨(y 1).val, (y 1).isLt⟩ : Fin 256)) y (fun a => ?_)
      match a with
      | 0 => show (y 0).val = k0_off9 ⟨n, hk⟩ 0 + 1 * ((y 0).val % 512); omega
      | 1 => show (y 1).val = k0_off9 ⟨n, hk⟩ 1 + 1 * ((y 1).val); omega

/-- After the dequantising loop the whole buffer is the dequantised prefix. -/
theorem deq_all {arg10 : Memref sig .tc .vmem S4096x512 .fp8e4m3} {arg11 : Memref sig .tc .vmem S4x4096 .f32} {arg14 : Memref sig .tc .vmem S4096x512 .bf16} (harg14 : arg14.IsWhole) (X10 : BufTy.Contents (Elt F) arg10.view.ty) (X11 : BufTy.Contents (Elt F) arg11.view.ty) (G : BufTy.Contents (Elt F) arg14.view.ty) :
    arg14.view.writes (Elt F) G (deqPieces X10 X11 k0_t1_loop.trips) = harg14.unread (deqVal X10 X11) :=
  harg14.eq_unread (funext fun y => deq_done X10 X11 G _ (le_of_eq trips1) y (by
    rw [trips1]; have h : (y 0).val < 4096 := (y 0).isLt
    omega))

/-- After a head's expansion loop the whole buffer is that head's keys and values. -/
theorem exp_all {arg14 : Memref sig .tc .vmem S4096x512 .bf16} {arg15 : Memref sig .tc .vmem S4096x256 .bf16} (harg15 : arg15.IsWhole) (v1385 : Vec F S1x512x256 .bf16) (X14 : BufTy.Contents (Elt F) arg14.view.ty) (G : BufTy.Contents (Elt F) arg15.view.ty) :
    arg15.view.writes (Elt F) G (expPieces v1385 X14 k0_t3_loop.trips) = harg15.unread (expVal v1385 X14) :=
  harg15.eq_unread (funext fun y => exp_done v1385 X14 G _ (le_of_eq trips3) y (by
    rw [trips3]; have h : (y 0).val < 4096 := (y 0).isLt
    omega))

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- The expansion loop's end, the buffer stated whole. -/
instance exitExp (c0 c1 : BitVec 32) (t2 : Fin k0_t2_loop.trips) (v1385 : Vec F S1x512x256 .bf16)
    (X14 : BufTy.Contents (Elt F) arg14.view.ty) (G15 : BufTy.Contents (Elt F) arg15.view.ty) :
    LoopExit (loopExp 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 c0 c1 t2 v1385 X14 G15) where
  post _ := iprop((arg14.view.loc (c : Thread nD τ) ↦[arg14.view.set]{fullShare} X14) ∗ (arg15.view.loc (c : Thread nD τ) ↦[arg15.view.set]{fullShare} harg15.unread (expVal v1385 X14)))
  exit acc := by
    show iprop((arg14.view.loc (c : Thread nD τ) ↦[arg14.view.set]{fullShare} X14) ∗ (∃ f, (arg15.view.loc (c : Thread nD τ) ↦[arg15.view.set]{fullShare} f) ∗ ⌜f = arg15.view.writes (Elt F) G15 (expPieces v1385 X14 k0_t3_loop.trips)⌝)) ⊢ _
    iintro ⟨H14, ⟨%f, H15, %hf⟩⟩
    rw [hf, exp_all harg15]
    isplitl [H14]; · iexact H14
    iexact H15

/-- The dequantising loop's end, the buffer stated whole. -/
instance exitDeq (v8 : IVec S16x128 32)
    (X10 : BufTy.Contents (Elt F) arg10.view.ty) (X11 : BufTy.Contents (Elt F) arg11.view.ty) (G14 : BufTy.Contents (Elt F) arg14.view.ty) :
    LoopExit (loopDeq 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X10 X11 G14) where
  post _ := iprop((arg10.view.loc (c : Thread nD τ) ↦[arg10.view.set]{fullShare} X10) ∗ (arg11.view.loc (c : Thread nD τ) ↦[arg11.view.set]{fullShare} X11) ∗ (arg14.view.loc (c : Thread nD τ) ↦[arg14.view.set]{fullShare} harg14.unread (deqVal X10 X11)))
  exit acc := by
    show iprop((arg10.view.loc (c : Thread nD τ) ↦[arg10.view.set]{fullShare} X10) ∗ (arg11.view.loc (c : Thread nD τ) ↦[arg11.view.set]{fullShare} X11) ∗ (∃ f, (arg14.view.loc (c : Thread nD τ) ↦[arg14.view.set]{fullShare} f) ∗ ⌜f = arg14.view.writes (Elt F) G14 (deqPieces X10 X11 k0_t1_loop.trips)⌝)) ⊢ _
    iintro ⟨H10, H11, ⟨%f, H14, %hf⟩⟩
    rw [hf, deq_all harg14]
    isplitl [H10]; · iexact H10
    isplitl [H11]; · iexact H11
    iexact H14

end Cert.KernelIdeal.Hand

end
-- ==== Proof.KernelIdeal.Head.lean ====
/- One trip of the loop over heads: what it reads, what it writes into the two results, and the loop's invariant. -/
module

public import proofs.«01_k».proof.Proof.KernelIdeal.Exits

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The head's rows of the dequantised matrix. -/
def h1385 {arg13 : Memref sig .tc .vmem S16x512x256 .bf16} (X13 : BufTy.Contents (Elt F) arg13.view.ty) (k : Fin k0_t2_loop.trips) : Vec F S1x512x256 .bf16 := arg13.view.readAt (Elt F) (Rect.unit (s := S16x512x256) (k0_off6 k) S1x512x256.size (k0_off6_inb k)).toLoadRect X13
/-- The head's queries. -/
def h1388 {arg0 : Memref sig .tc .vmem S16x16x128 .bf16} (X0 : BufTy.Contents (Elt F) arg0.view.ty) (k : Fin k0_t2_loop.trips) : Vec F S1x16x128 .bf16 := arg0.view.readAt (Elt F) (Rect.unit (s := S16x16x128) (k0_off7 k) S1x16x128.size (k0_off7_inb k)).toLoadRect X0
/-- The head's rotated queries. -/
def h1396 {arg1 : Memref sig .tc .vmem S256x128 .f32} (X1 : BufTy.Contents (Elt F) arg1.view.ty) (k : Fin k0_t2_loop.trips) : Vec F S16x128 .f32 := arg1.view.readAt (Elt F) (Rect.unit (s := S256x128) (k0_off10 k) S16x128.size (k0_off10_inb k)).toLoadRect X1
/-- The rotated keys. -/
def h1399 {arg12 : Memref sig .tc .vmem S64x4096 .bf16} (X12 : BufTy.Contents (Elt F) arg12.view.ty) : Vec F S64x4096 .bf16 := arg12.view.readAt (Elt F) (Rect.unit (s := S64x4096) (![0, 0]) S64x4096.size (by decide)).toLoadRect X12
/-- The head's keys: the left half of the expanded prefix. -/
def hLo {arg13 : Memref sig .tc .vmem S16x512x256 .bf16} {arg14 : Memref sig .tc .vmem S4096x512 .bf16} (arg15 : Memref sig .tc .vmem S4096x256 .bf16) (harg15 : arg15.IsWhole) (X13 : BufTy.Contents (Elt F) arg13.view.ty) (X14 : BufTy.Contents (Elt F) arg14.view.ty) (k : Fin k0_t2_loop.trips) : Vec F S4096x128 .bf16 :=
  arg15.view.readAt (Elt F) (Rect.unit (s := S4096x256) (![0, 0]) S4096x128.size (by decide)).toLoadRect (harg15.unread (expVal (h1385 X13 k) X14))
/-- The head's values: the right half of the expanded prefix. -/
def hHi {arg13 : Memref sig .tc .vmem S16x512x256 .bf16} {arg14 : Memref sig .tc .vmem S4096x512 .bf16} (arg15 : Memref sig .tc .vmem S4096x256 .bf16) (harg15 : arg15.IsWhole) (X13 : BufTy.Contents (Elt F) arg13.view.ty) (X14 : BufTy.Contents (Elt F) arg14.view.ty) (k : Fin k0_t2_loop.trips) : Vec F S4096x128 .bf16 :=
  arg15.view.readAt (Elt F) (Rect.unit (s := S4096x256) (![0, 128]) S4096x128.size (by decide)).toLoadRect (harg15.unread (expVal (h1385 X13 k) X14))

/-- The head's attention over the prefix, the first ten lanes. -/
def hO {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) : Vec F S10x1x128 .f32 :=
  k0_pay15 (k0_pay14 (h1388 X0 k) (hLo arg15 harg15 X13 X14 k) (h1396 X1 k) (h1399 X12) (hHi arg15 harg15 X13 X14 k))
/-- The head's log of the weights' sum, broadcast along the last axis. -/
def hL {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) : Vec F S1x16x128 .f32 :=
  k0_pay16 (k0_pay11 (h1388 X0 k) (hLo arg15 harg15 X13 X14 k) (h1396 X1 k) (h1399 X12)) (k0_pay13 (h1388 X0 k) (hLo arg15 harg15 X13 X14 k) (h1396 X1 k) (h1399 X12))

/-- The writes into the first result by the heads before `k`, last first. -/
def pieces7 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : ℕ → List (View.Piece (Elt F) S10x16x128 .f32)
  | 0 => []
  | k + 1 => if h : k < k0_t2_loop.trips then ⟨Rect.unit (s := S10x16x128) (k0_off11 ⟨k, h⟩) S10x1x128.size (k0_off11_inb ⟨k, h⟩), hO arg15 harg15 X0 X1 X12 X13 X14 ⟨k, h⟩⟩ :: pieces7 arg15 harg15 X0 X1 X12 X13 X14 k else pieces7 arg15 harg15 X0 X1 X12 X13 X14 k
/-- The writes into the buffer of logs by the heads before `k`, last first. -/
def pieces17 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : ℕ → List (View.Piece (Elt F) S2x256x128 .f32)
  | 0 => []
  | k + 1 => if h : k < k0_t2_loop.trips then ⟨Rect.unit (s := S2x256x128) (k0_off12 ⟨k, h⟩) S1x16x128.size (k0_off12_inb ⟨k, h⟩), hL arg15 harg15 X0 X1 X12 X13 X14 ⟨k, h⟩⟩ :: pieces17 arg15 harg15 X0 X1 X12 X13 X14 k else pieces17 arg15 harg15 X0 X1 X12 X13 X14 k
theorem pieces7_succ {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) :
    pieces7 arg15 harg15 X0 X1 X12 X13 X14 (k.val + 1) = ⟨Rect.unit (s := S10x16x128) (k0_off11 k) S10x1x128.size (k0_off11_inb k), hO arg15 harg15 X0 X1 X12 X13 X14 k⟩ :: pieces7 arg15 harg15 X0 X1 X12 X13 X14 k.val := by
  rw [pieces7]; exact dif_pos k.isLt
theorem pieces17_succ {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (k : Fin k0_t2_loop.trips) :
    pieces17 arg15 harg15 X0 X1 X12 X13 X14 (k.val + 1) = ⟨Rect.unit (s := S2x256x128) (k0_off12 k) S1x16x128.size (k0_off12_inb k), hL arg15 harg15 X0 X1 X12 X13 X14 k⟩ :: pieces17 arg15 harg15 X0 X1 X12 X13 X14 k.val := by
  rw [pieces17]; exact dif_pos k.isLt

/-- The first result, entry by entry. -/
def out7 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : Vec F S10x16x128 .f32 := fun y =>
  hO arg15 harg15 X0 X1 X12 X13 X14 (t2Of (y 1).val) (ValueIdx.ix3 (⟨(y 0).val, (y 0).isLt⟩ : Fin 10) (0 : Fin 1) (⟨(y 2).val, (y 2).isLt⟩ : Fin 128))

/-- The buffer of logs, entry by entry. -/
def out17 {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) : Vec F S2x256x128 .f32 := fun y =>
  hL arg15 harg15 X0 X1 X12 X13 X14 (t2Of ((y 1).val / 16)) (ValueIdx.ix3 (0 : Fin 1) (⟨(y 1).val % 16, Nat.mod_lt _ (by decide)⟩ : Fin 16) (⟨(y 2).val, (y 2).isLt⟩ : Fin 128))

/-- The columns written by the heads before `n` hold the first result. -/
theorem done7 {arg7 : Memref sig .tc .vmem S10x16x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg7.view.ty) (n : ℕ) (hn : n ≤ 16) (y : S10x16x128.Idx) (hy : (y 1).val < n) :
    arg7.view.read (Elt F) (arg7.view.writes (Elt F) G (pieces7 arg15 harg15 X0 X1 X12 X13 X14 n)) y = out7 arg15 harg15 X0 X1 X12 X13 X14 y := by
  induction n with
  | zero => exact absurd hy (Nat.not_lt_zero _)
  | succ n ih =>
    have hk : n < k0_t2_loop.trips := by rw [trips2]; omega
    rw [pieces7_succ arg15 harg15 X0 X1 X12 X13 X14 ⟨n, hk⟩]
    have f0 : k0_off11 ⟨n, hk⟩ 0 = 0 := by rw [k0_off11_eq]; rfl
    have f1 : k0_off11 ⟨n, hk⟩ 1 = n := by rw [k0_off11_eq]; rfl
    have f2 : k0_off11 ⟨n, hk⟩ 2 = 0 := by rw [k0_off11_eq]; rfl
    rcases Nat.lt_or_ge (y 1).val n with hlt | hge
    · rw [← ih (by omega) hlt]
      exact View.read_writes_cons_miss_of_axis _ _ _ _ y 1 n 1 f1 rfl rfl (Or.inl hlt)
    · have he : (y 1).val = n := by omega
      have ht : t2Of (y 1).val = ⟨n, hk⟩ := by rw [he]; exact t2Of_val ⟨n, hk⟩
      unfold out7
      rw [ht]
      refine View.read_writes_cons_hit_of_coords _ _ (Rect.unit (s := S10x16x128) (k0_off11 ⟨n, hk⟩) S10x1x128.size (k0_off11_inb ⟨n, hk⟩)) (hO arg15 harg15 X0 X1 X12 X13 X14 ⟨n, hk⟩) _
        (ValueIdx.ix3 (⟨(y 0).val, (y 0).isLt⟩ : Fin 10) (0 : Fin 1) (⟨(y 2).val, (y 2).isLt⟩ : Fin 128)) y (fun a => ?_)
      match a with
      | 0 => show (y 0).val = k0_off11 ⟨n, hk⟩ 0 + 1 * (y 0).val; omega
      | 1 => show (y 1).val = k0_off11 ⟨n, hk⟩ 1 + 1 * 0; omega
      | 2 => show (y 2).val = k0_off11 ⟨n, hk⟩ 2 + 1 * (y 2).val; omega

/-- The rows written by the heads before `n` hold the logs. -/
theorem done17 {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg17.view.ty) (n : ℕ) (hn : n ≤ 16) (y : S2x256x128.Idx) (h0 : (y 0).val = 0) (hy : (y 1).val / 16 < n) :
    arg17.view.read (Elt F) (arg17.view.writes (Elt F) G (pieces17 arg15 harg15 X0 X1 X12 X13 X14 n)) y = out17 arg15 harg15 X0 X1 X12 X13 X14 y := by
  induction n with
  | zero => exact absurd hy (Nat.not_lt_zero _)
  | succ n ih =>
    have hk : n < k0_t2_loop.trips := by rw [trips2]; omega
    rw [pieces17_succ arg15 harg15 X0 X1 X12 X13 X14 ⟨n, hk⟩]
    have f0 : k0_off12 ⟨n, hk⟩ 0 = 0 := by rw [k0_off12_eq]; rfl
    have f1 : k0_off12 ⟨n, hk⟩ 1 = 16 * n := by rw [k0_off12_eq]; rfl
    have f2 : k0_off12 ⟨n, hk⟩ 2 = 0 := by rw [k0_off12_eq]; rfl
    rcases Nat.lt_or_ge ((y 1).val / 16) n with hlt | hge
    · rw [← ih (by omega) hlt]
      exact View.read_writes_cons_miss_of_axis _ _ _ _ y 1 (16 * n) 16 f1 rfl rfl (Or.inl (by omega))
    · have he : (y 1).val / 16 = n := by omega
      have ht : t2Of ((y 1).val / 16) = ⟨n, hk⟩ := by rw [he]; exact t2Of_val ⟨n, hk⟩
      unfold out17
      rw [ht]
      refine View.read_writes_cons_hit_of_coords _ _ (Rect.unit (s := S2x256x128) (k0_off12 ⟨n, hk⟩) S1x16x128.size (k0_off12_inb ⟨n, hk⟩)) (hL arg15 harg15 X0 X1 X12 X13 X14 ⟨n, hk⟩) _
        (ValueIdx.ix3 (0 : Fin 1) (⟨(y 1).val % 16, Nat.mod_lt _ (by decide)⟩ : Fin 16) (⟨(y 2).val, (y 2).isLt⟩ : Fin 128)) y (fun a => ?_)
      match a with
      | 0 => show (y 0).val = k0_off12 ⟨n, hk⟩ 0 + 1 * 0; omega
      | 1 => show (y 1).val = k0_off12 ⟨n, hk⟩ 1 + 1 * ((y 1).val % 16); omega
      | 2 => show (y 2).val = k0_off12 ⟨n, hk⟩ 2 + 1 * (y 2).val; omega

/-- After the last head the first result is complete. -/
theorem all7 {arg7 : Memref sig .tc .vmem S10x16x128 .f32} (harg7 : arg7.IsWhole) {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg7.view.ty) :
    arg7.view.writes (Elt F) G (pieces7 arg15 harg15 X0 X1 X12 X13 X14 k0_t2_loop.trips) = harg7.unread (out7 arg15 harg15 X0 X1 X12 X13 X14) :=
  harg7.eq_unread (funext fun y => done7 arg15 harg15 X0 X1 X12 X13 X14 G _ (le_of_eq trips2) y (by
    rw [trips2]; exact (y 1).isLt))
/-- After the last head the first half of the buffer of logs is complete. -/
theorem all17 {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty) (G : BufTy.Contents (Elt F) arg17.view.ty) (y : S2x256x128.Idx) (h0 : (y 0).val = 0) :
    arg17.view.read (Elt F) (arg17.view.writes (Elt F) G (pieces17 arg15 harg15 X0 X1 X12 X13 X14 k0_t2_loop.trips)) y = out17 arg15 harg15 X0 X1 X12 X13 X14 y :=
  done17 arg15 harg15 X0 X1 X12 X13 X14 G _ (le_of_eq trips2) y h0 (by
    rw [trips2]; have h : (y 1).val < 256 := (y 1).isLt
    omega)

variable (𝒱 : Variants) (c : Dev nD) (bd : Option 𝒱.V) (E : Set ℕ)
variable (arg0 : Memref sig .tc .vmem S16x16x128 .bf16) (harg0 : arg0.IsWhole)
  (arg1 : Memref sig .tc .vmem S256x128 .f32) (harg1 : arg1.IsWhole)
  (arg2 : Memref sig .tc .hbm S512x16x256 .fp8e4m3) (harg2 : arg2.IsWhole)
  (arg3 : Memref sig .tc .smem S8x16 .f32) (harg3 : arg3.IsWhole)
  (arg4 : Memref sig .tc .hbm S4096x512 .fp8e4m3) (harg4 : arg4.IsWhole)
  (arg5 : Memref sig .tc .hbm S4x4096 .f32) (harg5 : arg5.IsWhole)
  (arg6 : Memref sig .tc .hbm S64x4096 .bf16) (harg6 : arg6.IsWhole)
  (arg7 : Memref sig .tc .vmem S10x16x128 .f32) (harg7 : arg7.IsWhole)
  (arg8 : Memref sig .tc .vmem S10x16 .f32) (harg8 : arg8.IsWhole)
  (arg9 : Memref sig .tc .vmem S512x16x256 .fp8e4m3) (harg9 : arg9.IsWhole)
  (arg10 : Memref sig .tc .vmem S4096x512 .fp8e4m3) (harg10 : arg10.IsWhole)
  (arg11 : Memref sig .tc .vmem S4x4096 .f32) (harg11 : arg11.IsWhole)
  (arg12 : Memref sig .tc .vmem S64x4096 .bf16) (harg12 : arg12.IsWhole)
  (arg13 : Memref sig .tc .vmem S16x512x256 .bf16) (harg13 : arg13.IsWhole)
  (arg14 : Memref sig .tc .vmem S4096x512 .bf16) (harg14 : arg14.IsWhole)
  (arg15 : Memref sig .tc .vmem S4096x256 .bf16) (harg15 : arg15.IsWhole)
  (arg16 : Memref sig .tc .vmem S4x256x128 .f32) (harg16 : arg16.IsWhole)
  (arg17 : Memref sig .tc .vmem S2x256x128 .f32) (harg17 : arg17.IsWhole)
  (arg18 : DmaSems sig S12)

/-- One head. -/
theorem head_run (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (f15 : BufTy.Contents (Elt F) arg15.view.ty) (f16 : BufTy.Contents (Elt F) arg16.view.ty)
    (f7 : BufTy.Contents (Elt F) arg7.view.ty) (f17 : BufTy.Contents (Elt F) arg17.view.ty) (k : Fin k0_t2_loop.trips) :
    iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} f15) ∗ (arg16.view.loc (c : Thread nD τ) ↦[arg16.view.set]{fullShare} f16) ∗ (arg7.view.loc (c : Thread nD τ) ↦[arg7.view.set]{fullShare} f7) ∗ (arg17.view.loc (c : Thread nD τ) ↦[arg17.view.set]{fullShare} f17))
      ⊢ (wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 k PUnit.unit)
          (fun _ => iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
            ∗ (arg7.view.loc (c : Thread nD τ) ↦[arg7.view.set]{fullShare} arg7.view.writes (Elt F) f7 [⟨Rect.unit (s := S10x16x128) (k0_off11 k) S10x1x128.size (k0_off11_inb k), hO arg15 harg15 X0 X1 X12 X13 X14 k⟩])
            ∗ (arg17.view.loc (c : Thread nD τ) ↦[arg17.view.set]{fullShare} arg17.view.writes (Elt F) f17 [⟨Rect.unit (s := S2x256x128) (k0_off12 k) S1x16x128.size (k0_off12_inb k), hL arg15 harg15 X0 X1 X12 X13 X14 k⟩]))) : sProp 𝕄) := by
  have hk : k.val < 16 := Nat.lt_of_lt_of_le k.isLt k0_t2_abs.2.1
  unfold k0_t2_body
  simp only [k0_part2_eq_skeleton, k0_part3_eq_skeleton]
  iintro ⟨H0, H1, H12, H13, H14, H15, H16, H7, H17⟩
  sl_exec
  sl_step
  sl_close

set_option warn.classDefReducibility false in
/-- The loop over heads by its invariant. -/
@[sl_loop] def loopHead (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (G7 : BufTy.Contents (Elt F) arg7.view.ty) (G17 : BufTy.Contents (Elt F) arg17.view.ty) :
    LoopInvTy_k0_t2 (F := F) Unit ℕ (Pipeline.UD sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 where
  inv k _ := iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (∃ f, (arg7.view.loc (c : Thread nD τ) ↦[arg7.view.set]{fullShare} f) ∗ ⌜f = arg7.view.writes (Elt F) G7 (pieces7 arg15 harg15 X0 X1 X12 X13 X14 k)⌝)
    ∗ (∃ f, (arg17.view.loc (c : Thread nD τ) ↦[arg17.view.set]{fullShare} f) ∗ ⌜f = arg17.view.writes (Elt F) G17 (pieces17 arg15 harg15 X0 X1 X12 X13 X14 k)⌝))
  step k acc := by
    iintro ⟨H0, H1, H12, H13, H14, ⟨%f15, H15⟩, ⟨%f16, H16⟩, ⟨%f7, H7, %h7⟩, ⟨%f17, H17, %h17⟩⟩
    iapply (wp_wand_r frame (wpE (defs₀ (F := F)) 𝒱 (c : Thread nD τ) bd) E)
    isplitl [H0 H1 H12 H13 H14 H15 H16 H7 H17]
    · iapply (head_run 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X0 X1 X12 X13 X14 f15 f16 f7 f17 k)
      isplitl [H0]; · iexact H0
      isplitl [H1]; · iexact H1
      isplitl [H12]; · iexact H12
      isplitl [H13]; · iexact H13
      isplitl [H14]; · iexact H14
      isplitl [H15]; · iexact H15
      isplitl [H16]; · iexact H16
      isplitl [H7]; · iexact H7
      iexact H17
    · iintro %_ ⟨H0, H1, H12, H13, H14, H15, H16, H7, H17⟩
      isplitl [H0]; · iexact H0
      isplitl [H1]; · iexact H1
      isplitl [H12]; · iexact H12
      isplitl [H13]; · iexact H13
      isplitl [H14]; · iexact H14
      isplitl [H15]; · iexact H15
      isplitl [H16]; · iexact H16
      rw [pieces7_succ, pieces17_succ]
      isplitl [H7]
      · iexists _; isplitl [H7]; · iexact H7
        ipureintro; rw [h7, ← View.writes_append]; rfl
      · iexists _; isplitl [H17]; · iexact H17
        ipureintro; rw [h17, ← View.writes_append]; rfl

/-- The loop over heads at its end: the first result whole, the logs in the first half of their buffer. -/
instance exitHead (v8 : IVec S16x128 32) (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (G7 : BufTy.Contents (Elt F) arg7.view.ty) (G17 : BufTy.Contents (Elt F) arg17.view.ty) :
    LoopExit (loopHead 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v8 X0 X1 X12 X13 X14 G7 G17) where
  post _ := iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (arg7.view.loc (c : Thread nD τ) ↦[arg7.view.set]{fullShare} harg7.unread (out7 arg15 harg15 X0 X1 X12 X13 X14))
    ∗ (∃ f, (arg17.view.loc (c : Thread nD τ) ↦[arg17.view.set]{fullShare} f) ∗ ⌜∀ y, (y 0).val = 0 → arg17.view.read (Elt F) f y = out17 arg15 harg15 X0 X1 X12 X13 X14 y⌝))
  exit acc := by
    show iprop((arg0.view.loc (c : Thread nD τ) ↦[arg0.view.set]{fullShare} X0) ∗ (arg1.view.loc (c : Thread nD τ) ↦[arg1.view.set]{fullShare} X1) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (∃ g, (arg15.view.loc (c : Thread nD τ) ↦[arg15.view.set]{fullShare} g)) ∗ (∃ g, (arg16.view.loc (c : Thread nD τ) ↦[arg16.view.set]{fullShare} g))
    ∗ (∃ f, (arg7.view.loc (c : Thread nD τ) ↦[arg7.view.set]{fullShare} f) ∗ ⌜f = arg7.view.writes (Elt F) G7 (pieces7 arg15 harg15 X0 X1 X12 X13 X14 k0_t2_loop.trips)⌝)
    ∗ (∃ f, (arg17.view.loc (c : Thread nD τ) ↦[arg17.view.set]{fullShare} f) ∗ ⌜f = arg17.view.writes (Elt F) G17 (pieces17 arg15 harg15 X0 X1 X12 X13 X14 k0_t2_loop.trips)⌝)) ⊢ _
    iintro ⟨H0, H1, H12, H13, H14, H15, H16, ⟨%f7, H7, %h7⟩, ⟨%f17, H17, %h17⟩⟩
    rw [all7 harg7 arg15 harg15 X0 X1 X12 X13 X14 G7] at h7
    subst h7; subst h17
    isplitl [H0]; · iexact H0
    isplitl [H1]; · iexact H1
    isplitl [H12]; · iexact H12
    isplitl [H13]; · iexact H13
    isplitl [H14]; · iexact H14
    isplitl [H15]; · iexact H15
    isplitl [H16]; · iexact H16
    isplitl [H7]; · iexact H7
    iexists _; isplitl [H17]; · iexact H17
    ipureintro
    intro y hy; exact all17 arg15 harg15 X0 X1 X12 X13 X14 G17 y hy

end Cert.KernelIdeal.Hand

end
-- ==== Proof.KernelIdeal.Body.lean ====
/- The kernel's body as a whole: the four copies it starts, the preparation of the matrix cut into its parts, the two
   loops, and the logs gathered into the second result. -/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.KernelIdeal.Head

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43

/-- What the four copies deliver. -/
abbrev B9 {c : Dev nD} (fh0 : HbBuf0 (F := F) c hbM0_0) : Vec F S512x16x256 .fp8e4m3 := (Memref.whole main_arg2).view.read (Elt F) fh0
abbrev B10 {c : Dev nD} (fh1 : HbBuf0 (F := F) c hbM0_1) : Vec F S4096x512 .fp8e4m3 := (Memref.whole main_arg4).view.read (Elt F) fh1
abbrev B11 {c : Dev nD} (fh2 : HbBuf0 (F := F) c hbM0_2) : Vec F S4x4096 .f32 := (Memref.whole main_v2).view.read (Elt F) fh2
abbrev B12 {c : Dev nD} (fh3 : HbBuf0 (F := F) c hbM0_3) : Vec F S64x4096 .bf16 := (Memref.whole main_v3).view.read (Elt F) fh3

/-- A buffer written whole holds what was written. -/
theorem fill_eq {sp : Space} {s : Shape} {e : EltTy} (m : Memref sig .tc sp s e) (h : m.IsWhole) (f : BufTy.Contents (Elt F) m.view.ty) (d : s.Idx → Elt F e) :
    m.view.writes (Elt F) f [⟨Rect.whole s, d⟩] = h.unread d :=
  h.eq_unread (View.read_writes_whole m.view f d)

theorem fill_ent (c : Dev nD) {sp : Space} {s : Shape} {e : EltTy} (m : Memref sig .tc sp s e) (h : m.IsWhole) (f : BufTy.Contents (Elt F) m.view.ty) (d : s.Idx → Elt F e) :
    (m.view.loc (c : Thread nD τ) ↦[m.view.set]{fullShare} m.view.writes (Elt F) f [⟨Rect.whole s, d⟩] : sProp 𝕄)
      ⊢ m.view.loc (c : Thread nD τ) ↦[m.view.set]{fullShare} h.unread d := by
  rw [fill_eq m h f d]

/-- What is read of a buffer just written whole. -/
theorem cov_whole {sp : Space} {s : Shape} {e : EltTy} (m : Memref sig .tc sp s e) (h : m.IsWhole) (d : s.Idx → Elt F e) (B : LoadRect s) :
    m.view.readCov [⟨Rect.whole s, d⟩] B = m.view.readAt (Elt F) B (h.unread d) := by
  unfold View.readCov; rw [fill_eq m h]

/-- The two blocks written first, as the head of the preparation. -/
theorem fold13 (c : Dev nD) {arg9 : Memref sig .tc .vmem S512x16x256 .fp8e4m3} {arg3 : Memref sig .tc .smem S8x16 .f32} {arg13 : Memref sig .tc .vmem S16x512x256 .bf16}
    (X9 : BufTy.Contents (Elt F) arg9.view.ty) (X3 : BufTy.Contents (Elt F) arg3.view.ty) (f13 : BufTy.Contents (Elt F) arg13.view.ty)
    (a b : Vec F S128x1x128 .fp8e4m3) (p q : Elt F .f32) (ha : a = wIn X9 0) (hb : b = wIn X9 1) (hp : p = wSc X3 0) (hq : q = wSc X3 1) :
    ((arg13.view.loc (c : Thread nD τ) ↦[arg13.view.set]{fullShare} arg13.view.writes (Elt F) f13 [⟨Rect.unit (s := S16x512x256) ![0, 0, 128] S1x128x128.size inb_S16x512x256_S1x128x128_0_0_128, k0_pay22 b q⟩, ⟨Rect.unit (s := S16x512x256) ![0, 0, 0] S1x128x128.size inb_S16x512x256_S1x128x128_0_0_0, k0_pay21 a p⟩]) : sProp 𝕄)
      ⊢ W13 c arg13 X9 X3 2 := by
  subst ha hb hp hq
  unfold W13
  iintro H
  iexists _
  isplitl [H]; · iexact H
  ipureintro
  exact wdone_step 1 (wdone_step 0 (L := []) (wdone_zero X9 X3 f13))

/-- The first result, of the inputs and of what the copies deliver. -/
def kO7 {arg0 : Memref sig .tc .vmem S16x16x128 .bf16} (harg0 : arg0.IsWhole) {arg1 : Memref sig .tc .vmem S256x128 .f32} (harg1 : arg1.IsWhole) {arg3 : Memref sig .tc .smem S8x16 .f32} (harg3 : arg3.IsWhole)
    {arg9 : Memref sig .tc .vmem S512x16x256 .fp8e4m3} (harg9 : arg9.IsWhole) {arg10 : Memref sig .tc .vmem S4096x512 .fp8e4m3} (harg10 : arg10.IsWhole) {arg11 : Memref sig .tc .vmem S4x4096 .f32} (harg11 : arg11.IsWhole) {arg12 : Memref sig .tc .vmem S64x4096 .bf16} (harg12 : arg12.IsWhole)
    {arg13 : Memref sig .tc .vmem S16x512x256 .bf16} (harg13 : arg13.IsWhole) {arg14 : Memref sig .tc .vmem S4096x512 .bf16} (harg14 : arg14.IsWhole) {arg15 : Memref sig .tc .vmem S4096x256 .bf16} (harg15 : arg15.IsWhole)
    (x0 : Vec F S16x16x128 .bf16) (x1 : Vec F S256x128 .f32) (x2 : Vec F S8x16 .f32) (b9 : Vec F S512x16x256 .fp8e4m3) (b10 : Vec F S4096x512 .fp8e4m3) (b11 : Vec F S4x4096 .f32) (b12 : Vec F S64x4096 .bf16) : Vec F S10x16x128 .f32 :=
  out7 arg15 harg15 (harg0.unread x0) (harg1.unread x1) (harg12.unread b12) (harg13.unread (wVal (harg9.unread b9) (harg3.unread x2))) (harg14.unread (deqVal (harg10.unread b10) (harg11.unread b11)))
/-- A head's rows of logs, of the same. -/
def kL {arg0 : Memref sig .tc .vmem S16x16x128 .bf16} (harg0 : arg0.IsWhole) {arg1 : Memref sig .tc .vmem S256x128 .f32} (harg1 : arg1.IsWhole) {arg3 : Memref sig .tc .smem S8x16 .f32} (harg3 : arg3.IsWhole)
    {arg9 : Memref sig .tc .vmem S512x16x256 .fp8e4m3} (harg9 : arg9.IsWhole) {arg10 : Memref sig .tc .vmem S4096x512 .fp8e4m3} (harg10 : arg10.IsWhole) {arg11 : Memref sig .tc .vmem S4x4096 .f32} (harg11 : arg11.IsWhole) {arg12 : Memref sig .tc .vmem S64x4096 .bf16} (harg12 : arg12.IsWhole)
    {arg13 : Memref sig .tc .vmem S16x512x256 .bf16} (harg13 : arg13.IsWhole) {arg14 : Memref sig .tc .vmem S4096x512 .bf16} (harg14 : arg14.IsWhole) {arg15 : Memref sig .tc .vmem S4096x256 .bf16} (harg15 : arg15.IsWhole)
    (x0 : Vec F S16x16x128 .bf16) (x1 : Vec F S256x128 .f32) (x2 : Vec F S8x16 .f32) (b9 : Vec F S512x16x256 .fp8e4m3) (b10 : Vec F S4096x512 .fp8e4m3) (b11 : Vec F S4x4096 .f32) (b12 : Vec F S64x4096 .bf16) (n : ℕ) : Vec F S1x16x128 .f32 :=
  hL arg15 harg15 (harg0.unread x0) (harg1.unread x1) (harg12.unread b12) (harg13.unread (wVal (harg9.unread b9) (harg3.unread x2))) (harg14.unread (deqVal (harg10.unread b10) (harg11.unread b11))) (t2Of n)

/-- The heads' rows gathered into the second result: head `n` into column `n`. -/
def gatherL (L : ℕ → Vec F S1x16x128 .f32) : Vec F S10x16 .f32 :=
  k0_pay1 (iota .tc S16x128 32 [1] iota_S16x128_d1_w32) (k0_pay183 (iota .tc S16x128 32 [1] iota_S16x128_d1_w32)
    (k0_pay182 (iota .tc S16x128 32 [1] iota_S16x128_d1_w32) (k0_pay180 (iota .tc S16x128 32 [1] iota_S16x128_d1_w32) (L 0) (L 1) (L 2) (L 3)) (k0_pay181 (L 4)) (L 5) (L 6) (L 7) (L 8) (L 9) (L 10))
    (L 11) (L 12)) (L 13) (L 14) (L 15)

/-- The gather of sixteen given rows. -/
theorem gather_of (L : ℕ → Vec F S1x16x128 .f32) {a0 a1 a2 a3 a4 a5 a6 a7 a8 a9 a10 a11 a12 a13 a14 a15 : Vec F S1x16x128 .f32} (h0 : a0 = L 0) (h1 : a1 = L 1) (h2 : a2 = L 2) (h3 : a3 = L 3) (h4 : a4 = L 4) (h5 : a5 = L 5) (h6 : a6 = L 6) (h7 : a7 = L 7) (h8 : a8 = L 8) (h9 : a9 = L 9) (h10 : a10 = L 10) (h11 : a11 = L 11) (h12 : a12 = L 12) (h13 : a13 = L 13) (h14 : a14 = L 14) (h15 : a15 = L 15) :
    k0_pay1 (iota .tc S16x128 32 [1] iota_S16x128_d1_w32) (k0_pay183 (iota .tc S16x128 32 [1] iota_S16x128_d1_w32) (k0_pay182 (iota .tc S16x128 32 [1] iota_S16x128_d1_w32) (k0_pay180 (iota .tc S16x128 32 [1] iota_S16x128_d1_w32) a0 a1 a2 a3) (k0_pay181 a4) a5 a6 a7 a8 a9 a10) a11 a12) a13 a14 a15 = gatherL L := by
  subst h0 h1 h2 h3 h4 h5 h6 h7 h8 h9 h10 h11 h12 h13 h14 h15
  rfl

/-- A head's rows as the body reads them back. -/
theorem row_read {arg17 : Memref sig .tc .vmem S2x256x128 .f32} {arg0 : Memref sig .tc .vmem S16x16x128 .bf16} {arg1 : Memref sig .tc .vmem S256x128 .f32} {arg12 : Memref sig .tc .vmem S64x4096 .bf16} {arg13 : Memref sig .tc .vmem S16x512x256 .bf16} {arg14 : Memref sig .tc .vmem S4096x512 .bf16} (arg15 : Memref sig .tc .vmem S4096x256 .bf16) (harg15 : arg15.IsWhole)
    (X0 : BufTy.Contents (Elt F) arg0.view.ty) (X1 : BufTy.Contents (Elt F) arg1.view.ty) (X12 : BufTy.Contents (Elt F) arg12.view.ty) (X13 : BufTy.Contents (Elt F) arg13.view.ty) (X14 : BufTy.Contents (Elt F) arg14.view.ty)
    (f : BufTy.Contents (Elt F) arg17.view.ty) (hf : ∀ y : S2x256x128.Idx, (y 0).val = 0 → arg17.view.read (Elt F) f y = out17 arg15 harg15 X0 X1 X12 X13 X14 y)
    (o n : ℕ) (ho : o = 16 * n) (h : ∀ a, (![0, o, 0] : Fin 3 → ℕ) a + S1x16x128.size a ≤ S2x256x128.size a) :
    arg17.view.readAt (Elt F) (Rect.unit (s := S2x256x128) ![0, o, 0] S1x16x128.size h).toLoadRect f = hL arg15 harg15 X0 X1 X12 X13 X14 (t2Of n) := by
  funext j
  have j0 : (j 0).val < 1 := (j 0).isLt
  have j1 : (j 1).val < 16 := (j 1).isLt
  have e0 : (((Rect.unit (s := S2x256x128) ![0, o, 0] S1x16x128.size h).toLoadRect.idx j) 0).val = 0 + 1 * (j 0).val := rfl
  have e1 : (((Rect.unit (s := S2x256x128) ![0, o, 0] S1x16x128.size h).toLoadRect.idx j) 1).val = o + 1 * (j 1).val := rfl
  have e2 : (((Rect.unit (s := S2x256x128) ![0, o, 0] S1x16x128.size h).toLoadRect.idx j) 2).val = 0 + 1 * (j 2).val := rfl
  rw [View.readAt_apply, hf _ (by rw [e0]; omega)]
  unfold out17
  have e3 : (((Rect.unit (s := S2x256x128) ![0, o, 0] S1x16x128.size h).toLoadRect.idx j) 1).val / 16 = n := by rw [e1]; omega
  rw [e3]
  congr 1
  refine funext fun a => Fin.ext ?_
  match a with
  | 0 => show 0 = (j 0).val; omega
  | 1 => show (((Rect.unit (s := S2x256x128) ![0, o, 0] S1x16x128.size h).toLoadRect.idx j) 1).val % 16 = (j 1).val; rw [e1]; omega
  | 2 => show (((Rect.unit (s := S2x256x128) ![0, o, 0] S1x16x128.size h).toLoadRect.idx j) 2).val = (j 2).val; rw [e2]; omega

/-- A buffer written once from its first entry on, all of it, reads as what was written. -/
theorem read_full8 {arg8 : Memref sig .tc .vmem S10x16 .f32} (f : BufTy.Contents (Elt F) arg8.view.ty) (inb : ∀ a, (![0, 0] : Fin 2 → ℕ) a + S10x16.size a ≤ S10x16.size a) (w : Vec F S10x16 .f32) :
    arg8.view.read (Elt F) (arg8.view.writes (Elt F) f [⟨Rect.unit (s := S10x16) ![0, 0] S10x16.size inb, w⟩]) = w := by
  funext y
  refine View.read_writes_cons_hit_of_coords _ _ (Rect.unit (s := S10x16) ![0, 0] S10x16.size inb) w _ y y (fun a => ?_)
  match a with
  | 0 => show (y 0).val = 0 + 1 * (y 0).val; omega
  | 1 => show (y 1).val = 0 + 1 * (y 1).val; omega

theorem body_run (c : Dev nD) (arg0 : Memref sig .tc .vmem S16x16x128 .bf16) (harg0 : arg0.IsWhole) (arg1 : Memref sig .tc .vmem S256x128 .f32) (harg1 : arg1.IsWhole) (arg3 : Memref sig .tc .smem S8x16 .f32) (harg3 : arg3.IsWhole) (arg7 : Memref sig .tc .vmem S10x16x128 .f32) (harg7 : arg7.IsWhole) (arg8 : Memref sig .tc .vmem S10x16 .f32) (harg8 : arg8.IsWhole) (arg9 : Memref sig .tc .vmem S512x16x256 .fp8e4m3) (harg9 : arg9.IsWhole) (arg10 : Memref sig .tc .vmem S4096x512 .fp8e4m3) (harg10 : arg10.IsWhole) (arg11 : Memref sig .tc .vmem S4x4096 .f32) (harg11 : arg11.IsWhole) (arg12 : Memref sig .tc .vmem S64x4096 .bf16) (harg12 : arg12.IsWhole) (arg13 : Memref sig .tc .vmem S16x512x256 .bf16) (harg13 : arg13.IsWhole) (arg14 : Memref sig .tc .vmem S4096x512 .bf16) (harg14 : arg14.IsWhole) (arg15 : Memref sig .tc .vmem S4096x256 .bf16) (harg15 : arg15.IsWhole) (arg16 : Memref sig .tc .vmem S4x256x128 .f32) (harg16 : arg16.IsWhole) (arg17 : Memref sig .tc .vmem S2x256x128 .f32) (harg17 : arg17.IsWhole)
    (x0 : Vec F S16x16x128 .bf16) (x1 : Vec F S256x128 .f32) (x2 : Vec F S8x16 .f32) (fh0 : HbBuf0 (F := F) c hbM0_0) (fh1 : HbBuf0 (F := F) c hbM0_1) (fh2 : HbBuf0 (F := F) c hbM0_2) (fh3 : HbBuf0 (F := F) c hbM0_3) (W : Waits sig Unit) (K : PUnit → sProp 𝕄) :
    iprop(owns (c : Thread nD τ) arg0 fullShare x0 ∗ owns (c : Thread nD τ) arg1 fullShare x1 ∗ owns (c : Thread nD τ) arg3 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg0 fullShare x0 ∗ owns (c : Thread nD τ) arg1 fullShare x1 ∗ owns (c : Thread nD τ) arg3 fullShare x2 ∗ owns (c : Thread nD τ) arg7 fullShare (kO7 harg0 harg1 harg3 harg9 harg10 harg11 harg12 harg13 harg14 harg15 x0 x1 x2 (B9 fh0) (B10 fh1) (B11 fh2) (B12 fh3)) ∗ owns (c : Thread nD τ) arg8 fullShare (gatherL (kL harg0 harg1 harg3 harg9 harg10 harg11 harg12 harg13 harg14 harg15 x0 x1 x2 (B9 fh0) (B10 fh1) (B11 fh2) (B12 fh3))) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0__body (F := F) arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9) K := by
  simp only [cc0__body_eq_skeleton]
  unfold cc0__body_skel
  simp only [k0_part47_eq_skeleton]
  unfold owns
  iintro ⟨⟨%f0, %hf0, H0⟩, ⟨%f1, %hf1, H1⟩, ⟨%f2, %hf2, H3⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hq0, Hq1, Hq2, Hq3, Hq4, Hq5, Hq6, Hq7, Hq8, Hq9, Hq10, Hq11, Hh0, Hh1, Hh2, Hh3, HW, Hk⟩
  obtain rfl := harg0.eq_unread hf0
  obtain rfl := harg1.eq_unread hf1
  obtain rfl := harg3.eq_unread hf2
  set_option sl_exec.stopBefore "k0_part5" in sl_exec
  ihave H9 := (fill_ent c arg9 harg9 f9 _) $$ H9
  ihave H9 : (arg9.view.loc (c : Thread nD τ) ↦[arg9.view.set]{fullShare} harg9.unread (B9 fh0)) $$ [H9]
  · iexact H9
  ihave H13 : W13 c arg13 (harg9.unread (B9 fh0)) (harg3.unread x2) 2 $$ [H13]
  · iapply (fold13 c (harg9.unread (B9 fh0)) (harg3.unread x2) f13 _ _ _ _ (cov_whole arg9 harg9 (B9 fh0) (Rect.unit (s := S512x16x256) ![0, 0, 0] S128x1x128.size inb_S512x16x256_S128x1x128_0_0_0).toLoadRect) (cov_whole arg9 harg9 (B9 fh0) (Rect.unit (s := S512x16x256) ![0, 0, 128] S128x1x128.size inb_S512x16x256_S128x1x128_0_0_128).toLoadRect) rfl rfl)
    iexact H13
  have cut5 := part5_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut6 := part6_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut7 := part7_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut8 := part8_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut9 := part9_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut10 := part10_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut11 := part11_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut12 := part12_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut13 := part13_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut14 := part14_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut15 := part15_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut16 := part16_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut17 := part17_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut18 := part18_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut19 := part19_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut20 := part20_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut21 := part21_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut22 := part22_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut23 := part23_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut24 := part24_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut25 := part25_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut26 := part26_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut27 := part27_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut28 := part28_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut29 := part29_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut30 := part30_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut31 := part31_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut32 := part32_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut33 := part33_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut34 := part34_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut35 := part35_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut36 := part36_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut37 := part37_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut38 := part38_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut39 := part39_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut40 := part40_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut41 := part41_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut42 := part42_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  have cut43 := part43_run (F := F) Variants.none c none Set.univ arg0 harg0 arg1 harg1 (Memref.whole main_arg2) (Memref.isWhole_whole _) arg3 harg3 (Memref.whole main_arg4) (Memref.isWhole_whole _) (Memref.whole main_v2) (Memref.isWhole_whole _) (Memref.whole main_v3) (Memref.isWhole_whole _) arg7 harg7 arg8 harg8 arg9 harg9 arg10 harg10 arg11 harg11 arg12 harg12 arg13 harg13 arg14 harg14 arg15 harg15 arg16 harg16 arg17 harg17 cc0_scratch9 (harg9.unread (B9 fh0)) (harg3.unread x2)
  set_option sl_exec.stopBefore "k0_part44" in sl_exec
  clear cut5 cut6 cut7 cut8 cut9 cut10 cut11 cut12 cut13 cut14 cut15 cut16 cut17 cut18 cut19 cut20 cut21 cut22 cut23 cut24 cut25 cut26 cut27 cut28 cut29 cut30 cut31 cut32 cut33 cut34 cut35 cut36 cut37 cut38 cut39 cut40 cut41 cut42 cut43
  clear hk0_part5_3 hk0_part6_3 hk0_part7_3 hk0_part8_3 hk0_part9_3 hk0_part10_3 hk0_part11_3 hk0_part12_3 hk0_part13_3 hk0_part14_3 hk0_part15_3 hk0_part16_3 hk0_part17_3 hk0_part18_3 hk0_part19_3 hk0_part20_3 hk0_part21_3 hk0_part22_3 hk0_part23_3 hk0_part24_3 hk0_part25_3 hk0_part26_3 hk0_part27_3 hk0_part28_3 hk0_part29_3 hk0_part30_3 hk0_part31_3 hk0_part32_3 hk0_part33_3 hk0_part34_3 hk0_part35_3 hk0_part36_3 hk0_part37_3 hk0_part38_3 hk0_part39_3 hk0_part40_3 hk0_part41_3 hk0_part42_3
  have hD43 : WDone (harg9.unread (B9 fh0)) (harg3.unread x2) 125 (arg13.view.writes (Elt F) gk0_part43_0 []) := hk0_part43_3
  subst hk0_part43_4
  set_option sl_exec.stopBefore "k0_part45" in sl_exec
  ihave Hk0_part43_2 : (arg13.view.loc (c : Thread nD τ) ↦[arg13.view.set]{fullShare} harg13.unread (wVal (harg9.unread (B9 fh0)) (harg3.unread x2))) $$ [Hk0_part43_2]
  · rw [← wdone_all harg13 (wdone_step 127 (wdone_step 126 (wdone_step 125 hD43)))]
    iexact Hk0_part43_2
  ihave H10 := (fill_ent c arg10 harg10 f10 _) $$ H10
  ihave H10 : (arg10.view.loc (c : Thread nD τ) ↦[arg10.view.set]{fullShare} harg10.unread (B10 fh1)) $$ [H10]
  · iexact H10
  sl_exec
  sl_step
  iapply Hk
  isplitl [HL3]
  · iexists _; isplitr; · ipureintro; exact harg0.read_unread _
    iexact HL3
  isplitl [HL4]
  · iexists _; isplitr; · ipureintro; exact harg1.read_unread _
    iexact HL4
  isplitl [Hk0_part43_1]
  · iexists _; isplitr; · ipureintro; exact harg3.read_unread _
    iexact Hk0_part43_1
  isplitl [HL10]
  · iexists _; isplitr; swap; · iexact HL10
    ipureintro
    rw [harg7.read_unread, fill_eq arg12 harg12, fill_eq arg11 harg11]
    rfl
  isplitl [H8]
  · iexists _; isplitr; swap; · iexact H8
    ipureintro
    have hrow := hL12
    rw [fill_eq arg12 harg12, fill_eq arg11 harg11] at hrow
    refine (read_full8 _ _ _).trans ?_
    have r0 := row_read arg15 harg15 _ _ _ _ _ fL2 hrow 0 0 rfl (by decide)
    have r1 := row_read arg15 harg15 _ _ _ _ _ fL2 hrow 16 1 rfl (by decide)
    have r2 := row_read arg15 harg15 _ _ _ _ _ fL2 hrow 32 2 rfl (by decide)
    have r3 := row_read arg15 harg15 _ _ _ _ _ fL2 hrow 48 3 rfl (by decide)
    have r4 := row_read arg15 harg15 _ _ _ _ _ fL2 hrow 64 4 rfl (by decide)
    have r5 := row_read arg15 harg15 _ _ _ _ _ fL2 hrow 80 5 rfl (by decide)
    have r6 := row_read arg15 harg15 _ _ _ _ _ fL2 hrow 96 6 rfl (by decide)
    have r7 := row_read arg15 harg15 _ _ _ _ _ fL2 hrow 112 7 rfl (by decide)
    have r8 := row_read arg15 harg15 _ _ _ _ _ fL2 hrow 128 8 rfl (by decide)
    have r9 := row_read arg15 harg15 _ _ _ _ _ fL2 hrow 144 9 rfl (by decide)
    have r10 := row_read arg15 harg15 _ _ _ _ _ fL2 hrow 160 10 rfl (by decide)
    have r11 := row_read arg15 harg15 _ _ _ _ _ fL2 hrow 176 11 rfl (by decide)
    have r12 := row_read arg15 harg15 _ _ _ _ _ fL2 hrow 192 12 rfl (by decide)
    have r13 := row_read arg15 harg15 _ _ _ _ _ fL2 hrow 208 13 rfl (by decide)
    have r14 := row_read arg15 harg15 _ _ _ _ _ fL2 hrow 224 14 rfl (by decide)
    have r15 := row_read arg15 harg15 _ _ _ _ _ fL2 hrow 240 15 rfl (by decide)
    exact gather_of _ r0 r1 r2 r3 r4 r5 r6 r7 r8 r9 r10 r11 r12 r13 r14 r15
  isplitl [Hk0_part43_0]
  · iexists _; iexists _; isplitr; swap; · iexact Hk0_part43_0
    ipureintro; rfl
  isplitl [HL0]
  · iexists _; iexists _; isplitr; swap; · iexact HL0
    ipureintro; rfl
  isplitl [HL1]
  · iexists _; iexists _; isplitr; swap; · iexact HL1
    ipureintro; rfl
  isplitl [HL5]
  · iexists _; iexists _; isplitr; swap; · iexact HL5
    ipureintro; rfl
  isplitl [HL6]
  · iexists _; iexists _; isplitr; swap; · iexact HL6
    ipureintro; rfl
  isplitl [HL7]
  · iexists _; iexists _; isplitr; swap; · iexact HL7
    ipureintro; rfl
  isplitl [HL8]
  · iexists _; iexists _; isplitr; swap; · iexact HL8
    ipureintro; rfl
  isplitl [HL9]
  · iexists _; iexists _; isplitr; swap; · iexact HL9
    ipureintro; rfl
  isplitl [HL11]
  · iexists _; iexists _; isplitr; swap; · iexact HL11
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [Hh3]; · iexact Hh3
  iexists _; iexact HW

end Cert.KernelIdeal.Hand

end
-- ==== Proof.KernelIdeal.Launch.lean ====
/- The launch: the pipeline's proof data, the body at its one point, and the run of the whole program with what it
   leaves in the two results. -/
module

public import proofs.«01_k».proof.Proof.KernelIdeal.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result's block as the body leaves it. -/
def res3 (c : Dev nD) (t : Fin cfg0.N) : Vec F S10x16x128 .f32 :=
  kO7 (hs0_0 t) (hs0_1 t) (hs0_2 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (iblk m c 0 t) (iblk m c 1 t) (iblk m c 2 t) (B9 (c := c) (V m c main_arg2)) (B10 (c := c) (V m c main_arg4)) (B11 (c := c) (V m c main_v2)) (B12 (c := c) (V m c main_v3))
/-- The second result's block as the body leaves it. -/
def res4 (c : Dev nD) (t : Fin cfg0.N) : Vec F S10x16 .f32 :=
  gatherL (kL (hs0_0 t) (hs0_1 t) (hs0_2 t) (Memref.isWhole_whole cc0_scratch0) (Memref.isWhole_whole cc0_scratch1) (Memref.isWhole_whole cc0_scratch2) (Memref.isWhole_whole cc0_scratch3) (Memref.isWhole_whole cc0_scratch4) (Memref.isWhole_whole cc0_scratch5) (Memref.isWhole_whole cc0_scratch6) (iblk m c 0 t) (iblk m c 1 t) (iblk m c 2 t) (B9 (c := c) (V m c main_arg2)) (B10 (c := c) (V m c main_arg4)) (B11 (c := c) (V m c main_v2)) (B12 (c := c) (V m c main_v3)))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res3 m c t
    | ⟨4, _⟩ => res4 m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = res3 m c t := by dsimp only [dats]
theorem after0_4 (c : Dev nD) (t : Fin cfg0.N) : (dats m 0 c).after 4 t = res4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq,
    after0_0, after0_1, after0_2, after0_3, after0_4]
  unfold Dat.owesAt Pipeline.owesWithin
  rw [show (dats m 0 c).owed t.castSucc = 0 from rfl]
  iintro ⟨⟨⟨HS0, HS1, HS2, HS3, HS4, HS5, HS6, HS7, HS8⟩, Hg, ⟨HQ0, HQ1, HQ2, HQ3, HQ4, HQ5, HQ6, HQ7, HQ8, HQ9, HQ10, HQ11⟩, ⟨HH0, HH1, HH2, HH3⟩⟩, ⟨%W, %hW, HO⟩, ⟨%d0, H0⟩, ⟨%d1, H1⟩, ⟨%d2, H2⟩, ⟨%d3, H3⟩, ⟨%d4, H4⟩⟩
  iapply (body_run c (ms0_0 t) (hs0_0 t) (ms0_1 t) (hs0_1 t) (ms0_2 t) (hs0_2 t) (ms0_3 t) (hs0_3 t) (ms0_4 t) (hs0_4 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (Memref.whole cc0_scratch8) (Memref.isWhole_whole cc0_scratch8) (iblk m c 0 t) (iblk m c 1 t) (iblk m c 2 t) (V m c main_arg2) (V m c main_arg4) (V m c main_v2) (V m c main_v3) W _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HQ8]; · iexact HQ8
  isplitl [HQ9]; · iexact HQ9
  isplitl [HQ10]; · iexact HQ10
  isplitl [HQ11]; · iexact HQ11
  isplitl [HH0]; · iexact HH0
  isplitl [HH1]; · iexact HH1
  isplitl [HH2]; · iexact HH2
  isplitl [HH3]; · iexact HH3
  isplitl [HO]; · iexact HO
  iintro ⟨H0, H1, H2, H3, H4, HS0, HS1, HS2, HS3, HS4, HS5, HS6, HS7, HS8, HQ0, HQ1, HQ2, HQ3, HQ4, HQ5, HQ6, HQ7, HQ8, HQ9, HQ10, HQ11, HH0, HH1, HH2, HH3, ⟨%W', HO⟩⟩
  isplitl [HS0 HS1 HS2 HS3 HS4 HS5 HS6 HS7 HS8 Hg HQ0 HQ1 HQ2 HQ3 HQ4 HQ5 HQ6 HQ7 HQ8 HQ9 HQ10 HQ11 HH0 HH1 HH2 HH3]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    isplitl [HQ0 HQ1 HQ2 HQ3 HQ4 HQ5 HQ6 HQ7 HQ8 HQ9 HQ10 HQ11]
    · isplitl [HQ0]; · iexact HQ0
      isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HQ8]; · iexact HQ8
      isplitl [HQ9]; · iexact HQ9
      isplitl [HQ10]; · iexact HQ10
      iexact HQ11
    isplitl [HH0]; · iexact HH0
    isplitl [HH1]; · iexact HH1
    isplitl [HH2]; · iexact HH2
    iexact HH3
  isplitl [HO]
  · iexists W'; isplitr
    · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this statement, which takes unfolding
-- plain definitions in a metavariable's type
set_option backward.isDefEq.respectTransparency.types false in
set_option maxHeartbeats 800000 in
/-- The launch, every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The first result's array after the run. -/
theorem final3 (c : Dev nD) : (dats m 0 c).arrAt 3 cfg0.N = res3 m c t0_0 := by
  refine (dats m 0 c).arrAt_eq_of_after_last 3 t0_0 (by decide +kernel) _ fun j => ?_
  blk_simp
  rw [after0_3]
/-- The second result's array after the run. -/
theorem final4 (c : Dev nD) : (dats m 0 c).arrAt 4 cfg0.N = res4 m c t0_0 := by
  refine (dats m 0 c).arrAt_eq_of_after_last 4 t0_0 (by decide +kernel) _ fun j => ?_
  blk_simp
  rw [after0_4]

/-- The run's two results, with the arguments unchanged. -/
theorem value_run : θ_run defs (onTc (τ := τ) (main (F := F))) ⟨m, fun _ => 0, ρ⟩ (fun r => ∀ c : Dev nD,
      r.2.mem ((c.tc : Thread nD τ).loc main_v4_0) = res3 m c t0_0
      ∧ r.2.mem ((c.tc : Thread nD τ).loc main_v4_1) = res4 m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 3).trans (final3 m c), ((h.1 c).1 4).trans (final4 m c), h.2 c⟩)
    (θ_run_and (run_main m ρ) (frame_of m ρ (dats m) (A_eq m) (run_main m ρ)))

end Cert.KernelIdeal.Hand

end
-- ==== Proof.Value.Spec.lean ====
/- The value both programs compute, entry by entry, over the extended reals: prefix attention over dequantized keys and
   values. -/
module

public import Idealize.ShloMosaic.Lib.Pointwise

@[expose] public section

noncomputable section

namespace Cert.Spec

open Idealize.ShloMosaic

/-- The arrays the value is computed from. -/
structure Inp where
  q : (⟨3, ![16, 16, 128]⟩ : Shape).Idx → EReal
  pe : (⟨2, ![256, 128]⟩ : Shape).Idx → EReal
  cw : (⟨3, ![512, 16, 256]⟩ : Shape).Idx → EReal
  ws : (⟨3, ![4, 16, 2]⟩ : Shape).Idx → EReal
  pc : (⟨2, ![4096, 512]⟩ : Shape).Idx → EReal
  ps : (⟨2, ![4096, 4]⟩ : Shape).Idx → EReal
  kr : (⟨2, ![4096, 64]⟩ : Shape).Idx → EReal

variable (I : Inp)

/-- A weight: its code times the scale of its block. -/
def W (k : Fin 512) (h : Fin 16) (d : Fin 256) : EReal :=
  I.cw (ix3 k h d) * I.ws (ix3 (⟨k.val / 128, by omega⟩ : Fin 4) h (⟨d.val / 128, by omega⟩ : Fin 2))

/-- A latent key: its code times the scale of its group. -/
def C (n : Fin 4096) (k : Fin 512) : EReal := I.pc (ix2 n k) * I.ps (ix2 n (⟨k.val / 128, by omega⟩ : Fin 4))

/-- A head's keys (the first 128 columns) and values (the last 128). -/
def KV (h : Fin 16) (n : Fin 4096) (d : Fin 256) : EReal := ∑ k : Fin 512, C I n k * W I k h d

/-- The scaled score of a query row against a key, in base two. -/
def S (h r : Fin 16) (n : Fin 4096) : EReal :=
  (FloatOps.ofBits (F := Ideal) .f32 0x3D93CD3A#32
    * ((∑ d : Fin 128, I.q (ix3 h r d) * KV I h n (⟨d.val, by omega⟩ : Fin 256))
      + ∑ d : Fin 64, I.pe (ix2 (⟨16 * h.val + r.val, by omega⟩ : Fin 256) (⟨d.val, by omega⟩ : Fin 128)) * I.kr (ix2 n d)))
  * FloatOps.ofBits (F := Ideal) .f32 0x3FB8AA3B#32

/-- The row's largest score, rounded up. -/
def M (h r : Fin 16) : EReal :=
  FloatOps.ceil (F := Ideal) (φ := .f32) ((Finset.univ : Finset (Fin 4096)).fold max (FloatOps.ofBits (F := Ideal) .f32 0xFF800000#32) (fun n => S I h r n))

def P (h r : Fin 16) (n : Fin 4096) : EReal := Ideal.exp2 (S I h r n - M I h r)

def D (h r : Fin 16) : EReal := ∑ n : Fin 4096, P I h r n

/-- An entry of the attention output. -/
def O (h r : Fin 16) (d : Fin 128) : EReal :=
  FloatOps.divf (F := Ideal) (φ := .f32) (∑ n : Fin 4096, P I h r n * KV I h n (⟨128 + d.val, by omega⟩ : Fin 256)) (D I h r)

/-- A row's log of the summed exponentials, before the shift. -/
def L (h r : Fin 16) : EReal :=
  (M I h r + FloatOps.log (F := Ideal) (φ := .f32) (D I h r) * FloatOps.ofBits (F := Ideal) .f32 0x3FB8AA3B#32)
    * FloatOps.ofBits (F := Ideal) .f32 0x3F317218#32

theorem two_eq : FloatOps.ofBits (F := Ideal) .f32 0x40000000#32 = ((2 : ℝ) : EReal) := by
  show Ideal.ofBits .f32 0x40000000#32 = _
  simp [Ideal.ofBits, Ideal.ieee]
  rw [← EReal.coe_mul]
  congr 1
  norm_num

/-- Two to a power is the base-two exponential. -/
theorem pow_two (x : EReal) : Ideal.pow ((2 : ℝ) : EReal) x = Ideal.exp2 x := by
  induction x with
  | bot => rw [Ideal.pow_coe_bot, Ideal.exp2_bot]; norm_num
  | top => rw [Ideal.pow_coe_top, Ideal.exp2_top]; norm_num
  | coe r => rw [Ideal.pow_coe_coe, Ideal.exp2_coe]

end Cert.Spec
-- ==== Proof.Value.Pay.lean ====
/- The vector computations of the kernel's body, entry by entry, over the extended reals. -/
module

public import proofs.«01_k».proof.Proof.KernelIdeal.Body
public import proofs.«01_k».proof.Proof.Value.Spec

@[expose] public section

set_option maxRecDepth 16384

noncomputable section

namespace Cert.KernelIdeal.Val

open Cert.KernelIdeal Cert.KernelIdeal.Gen Cert.KernelIdeal.Hand Idealize.ShloMosaic Idealize.ShloMosaic.TcCoe

theorem pay3 (s : FVec Ideal S4x512 .f32) (x : FVec Ideal S512x128 .fp8e4m3) (i : Fin 512) (j : Fin 128) :
    k0_pay3 (F := Ideal) s x (ix2 i j) = x (ix2 i j) * s (ix2 (0 : Fin 4) i) := by
  pointwise [k0_pay3, k0_pay2]
theorem pay4 (s : FVec Ideal S4x512 .f32) (x : FVec Ideal S512x128 .fp8e4m3) (i : Fin 512) (j : Fin 128) :
    k0_pay4 (F := Ideal) s x (ix2 i j) = x (ix2 i j) * s (ix2 (1 : Fin 4) i) := by
  pointwise [k0_pay4, k0_pay2]
theorem pay5 (s : FVec Ideal S4x512 .f32) (x : FVec Ideal S512x128 .fp8e4m3) (i : Fin 512) (j : Fin 128) :
    k0_pay5 (F := Ideal) s x (ix2 i j) = x (ix2 i j) * s (ix2 (2 : Fin 4) i) := by
  pointwise [k0_pay5, k0_pay2]
theorem pay6 (s : FVec Ideal S4x512 .f32) (x : FVec Ideal S512x128 .fp8e4m3) (i : Fin 512) (j : Fin 128) :
    k0_pay177 (F := Ideal) (k0_pay6 (F := Ideal) s x) (ix2 i j) = x (ix2 i j) * s (ix2 (3 : Fin 4) i) := by
  pointwise [k0_pay177, k0_pay6, k0_pay2]

theorem pay9 (w : FVec Ideal S1x512x256 .bf16) (x : FVec Ideal S512x512 .bf16) (i : Fin 512) (d : Fin 256) :
    k0_pay9 (F := Ideal) w x (ix2 i d) = ∑ k : Fin 512, x (ix2 i k) * w (ix3 (0 : Fin 1) k d) := by
  pointwise [k0_pay9, k0_pay7]

theorem pay10 (q : FVec Ideal S1x16x128 .bf16) (K : FVec Ideal S4096x128 .bf16) (pe : FVec Ideal S16x128 .f32) (kr : FVec Ideal S64x4096 .bf16)
    (r : Fin 16) (n : Fin 4096) :
    k0_pay10 (F := Ideal) q K pe kr (ix2 r n)
      = (FloatOps.ofBits (F := Ideal) .f32 0x3D93CD3A#32
          * ((∑ d : Fin 128, q (ix3 (0 : Fin 1) r d) * K (ix2 n d))
            + ∑ d : Fin 64, pe (ix2 r (⟨d.val, by omega⟩ : Fin 128)) * kr (ix2 d n)))
        * FloatOps.ofBits (F := Ideal) .f32 0x3FB8AA3B#32 := by
  pointwise [k0_pay10, k0_pay8]

theorem pay11 (q : FVec Ideal S1x16x128 .bf16) (K : FVec Ideal S4096x128 .bf16) (pe : FVec Ideal S16x128 .f32) (kr : FVec Ideal S64x4096 .bf16)
    (r : Fin 16) :
    k0_pay11 (F := Ideal) q K pe kr (ix2 r (0 : Fin 1))
      = FloatOps.ceil (F := Ideal) (φ := .f32) ((Finset.univ : Finset (Fin 4096)).fold max (FloatOps.ofBits (F := Ideal) .f32 0xFF800000#32)
          (fun n => k0_pay10 (F := Ideal) q K pe kr (ix2 r n))) := by
  unfold k0_pay11
  generalize k0_pay10 (F := Ideal) q K pe kr = y
  pointwise

theorem pay12 (q : FVec Ideal S1x16x128 .bf16) (K : FVec Ideal S4096x128 .bf16) (pe : FVec Ideal S16x128 .f32) (kr : FVec Ideal S64x4096 .bf16)
    (r : Fin 16) (n : Fin 4096) :
    k0_pay12 (F := Ideal) q K pe kr (ix2 r n)
      = Ideal.exp2 (k0_pay10 (F := Ideal) q K pe kr (ix2 r n) - k0_pay11 (F := Ideal) q K pe kr (ix2 r (0 : Fin 1))) := by
  unfold k0_pay12
  generalize k0_pay10 (F := Ideal) q K pe kr = y
  generalize k0_pay11 (F := Ideal) q K pe kr = z
  pointwise
  rfl

theorem pay13 (q : FVec Ideal S1x16x128 .bf16) (K : FVec Ideal S4096x128 .bf16) (pe : FVec Ideal S16x128 .f32) (kr : FVec Ideal S64x4096 .bf16)
    (r : Fin 16) :
    k0_pay13 (F := Ideal) q K pe kr (ix2 r (0 : Fin 1)) = ∑ n : Fin 4096, k0_pay12 (F := Ideal) q K pe kr (ix2 r n) := by
  unfold k0_pay13
  generalize k0_pay12 (F := Ideal) q K pe kr = y
  pointwise

theorem pay14 (q : FVec Ideal S1x16x128 .bf16) (K : FVec Ideal S4096x128 .bf16) (pe : FVec Ideal S16x128 .f32) (kr : FVec Ideal S64x4096 .bf16)
    (V : FVec Ideal S4096x128 .bf16) (r : Fin 16) (d : Fin 128) :
    k0_pay14 (F := Ideal) q K pe kr V (ix2 r d)
      = FloatOps.divf (F := Ideal) (φ := .f32) (∑ n : Fin 4096, k0_pay12 (F := Ideal) q K pe kr (ix2 r n) * V (ix2 n d))
          (k0_pay13 (F := Ideal) q K pe kr (ix2 r (0 : Fin 1))) := by
  unfold k0_pay14
  generalize k0_pay12 (F := Ideal) q K pe kr = y
  generalize k0_pay13 (F := Ideal) q K pe kr = z
  pointwise

theorem pay15 (x : FVec Ideal S16x128 .f32) (r : Fin 10) (d : Fin 128) :
    k0_pay15 (F := Ideal) x (ix3 r (0 : Fin 1) d) = x (ix2 (⟨r.val, by omega⟩ : Fin 16) d) := by
  pointwise [k0_pay15]

theorem pay16 (x y : FVec Ideal S16x1 .f32) (r : Fin 16) (d : Fin 128) :
    k0_pay16 (F := Ideal) x y (ix3 (0 : Fin 1) r d)
      = (x (ix2 r (0 : Fin 1)) + FloatOps.log (F := Ideal) (φ := .f32) (y (ix2 r (0 : Fin 1))) * FloatOps.ofBits (F := Ideal) .f32 0x3FB8AA3B#32)
          * FloatOps.ofBits (F := Ideal) .f32 0x3F317218#32 := by
  pointwise [k0_pay16]

theorem pay21 (x : FVec Ideal S128x1x128 .fp8e4m3) (s : EReal) (i j : Fin 128) :
    k0_pay21 (F := Ideal) x s (ix3 (0 : Fin 1) i j) = x (ix3 i (0 : Fin 1) j) * s := by
  pointwise [k0_pay21]

/-- The gathered logs: column `h` from head `h`'s buffer. -/
theorem gather (Lb : ℕ → FVec Ideal S1x16x128 .f32) (r : Fin 10) (h : Fin 16) :
    gatherL (F := Ideal) Lb (ix2 r h)
      = Lb h.val (ix3 (0 : Fin 1) (⟨r.val, by omega⟩ : Fin 16) (⟨h.val, by omega⟩ : Fin 128)) - FloatOps.ofBits (F := Ideal) .f32 0x41051592#32 := by
  obtain ⟨h, hh⟩ := h
  interval_cases h <;> (pointwise [gatherL, k0_pay1, k0_pay183, k0_pay182, k0_pay181, k0_pay180]; try rfl)

end Cert.KernelIdeal.Val
-- ==== Proof.Value.Ker.lean ====
/- The kernel body's two results, entry by entry, over the extended reals. -/
module

public import proofs.«01_k».proof.Proof.Value.Pay
public import Idealize.ShloMosaic.Lib.WholeRead

@[expose] public section

set_option maxRecDepth 16384

noncomputable section

namespace Cert.KernelIdeal.Val

open Cert.KernelIdeal Cert.KernelIdeal.Gen Cert.KernelIdeal.Hand Idealize.ShloMosaic Idealize.ShloMosaic.TcCoe

/-- A load from a buffer holding `X`, at the place it lands on. -/
theorem at_unread {sp : Space} {s : Shape} {e : EltTy} {m : Memref sig .tc sp s e} (h : m.IsWhole) (X : s.Idx → Elt Ideal e) (B : LoadRect s) (x : B.shape.Idx)
    (j : s.Idx) (hj : ∀ a, (B.idx x a).val = (j a).val) : m.view.readAt (Elt Ideal) B (h.unread X) x = X j :=
  (h.readAt_unread X B x).trans (congrArg X (funext fun a => Fin.ext (hj a)))

variable {arg0 : Memref sig .tc .vmem S16x16x128 .bf16} (harg0 : arg0.IsWhole) {arg1 : Memref sig .tc .vmem S256x128 .f32} (harg1 : arg1.IsWhole) {arg3 : Memref sig .tc .smem S8x16 .f32} (harg3 : arg3.IsWhole)
  {arg9 : Memref sig .tc .vmem S512x16x256 .fp8e4m3} (harg9 : arg9.IsWhole) {arg10 : Memref sig .tc .vmem S4096x512 .fp8e4m3} (harg10 : arg10.IsWhole) {arg11 : Memref sig .tc .vmem S4x4096 .f32} (harg11 : arg11.IsWhole) {arg12 : Memref sig .tc .vmem S64x4096 .bf16} (harg12 : arg12.IsWhole)
  {arg13 : Memref sig .tc .vmem S16x512x256 .bf16} (harg13 : arg13.IsWhole) {arg14 : Memref sig .tc .vmem S4096x512 .bf16} (harg14 : arg14.IsWhole) {arg15 : Memref sig .tc .vmem S4096x256 .bf16} (harg15 : arg15.IsWhole)
  (x0 : FVec Ideal S16x16x128 .bf16) (x1 : FVec Ideal S256x128 .f32) (x2 : FVec Ideal S8x16 .f32) (b9 : FVec Ideal S512x16x256 .fp8e4m3) (b10 : FVec Ideal S4096x512 .fp8e4m3) (b11 : FVec Ideal S4x4096 .f32) (b12 : FVec Ideal S64x4096 .bf16)

/-- The body's arrays as the value's inputs: the scales of the weights come as eight rows, one for each block of a
    head, and the scales of the latent keys and the rotated keys come transposed. -/
def inp : Spec.Inp where
  q := x0
  pe := x1
  cw := b9
  ws i := x2 (ix2 (⟨2 * (i 0).val + (i 2).val, by have h0 : (i 0).val < 4 := (i 0).isLt; have h2 : (i 2).val < 2 := (i 2).isLt; omega⟩ : Fin 8) (⟨(i 1).val, (i 1).isLt⟩ : Fin 16))
  pc := b10
  ps i := b11 (ix2 (⟨(i 1).val, (i 1).isLt⟩ : Fin 4) (⟨(i 0).val, (i 0).isLt⟩ : Fin 4096))
  kr i := b12 (ix2 (⟨(i 1).val, (i 1).isLt⟩ : Fin 64) (⟨(i 0).val, (i 0).isLt⟩ : Fin 4096))

theorem wSc_apply (n : ℕ) : wSc (F := Ideal) (harg3.unread x2) n = x2 (ix2 (⟨n % 8, Nat.mod_lt _ (by decide)⟩ : Fin 8) (⟨n / 8 % 16, Nat.mod_lt _ (by decide)⟩ : Fin 16)) := by
  have e : wSc (F := Ideal) (harg3.unread x2) n
      = arg3.view.read (Elt Ideal) (harg3.unread x2) ((Rect.unit (s := S8x16) ![n % 8, n / 8 % 16] S1x1.size (wSc_inb n)).emb (Shape.Idx.first (numel1_S1x1.symm ▸ Nat.one_pos))) := rfl
  rw [e, harg3.read_unread]
  refine congrArg x2 (funext fun a => Fin.ext ?_)
  match a with
  | ⟨0, _⟩ => rfl
  | ⟨1, _⟩ => rfl

theorem wVal_apply (h : Fin 16) (k : Fin 512) (d : Fin 256) :
    wVal (F := Ideal) (harg9.unread b9) (harg3.unread x2) (ix3 h k d) = Spec.W (inp x0 x1 x2 b9 b10 b11 b12) k h d := by
  have hh := h.isLt; have hk := k.isLt; have hd := d.isLt
  have hn : wNum (ix3 h k d) = h.val * 8 + k.val / 128 * 2 + d.val / 128 := rfl
  unfold wVal wBlk
  refine (pay21 _ _ (⟨k.val % 128, Nat.mod_lt _ (by decide)⟩ : Fin 128) (⟨d.val % 128, Nat.mod_lt _ (by decide)⟩ : Fin 128)).trans ?_
  rw [hn]
  refine congrArg₂ (· * ·) ?_ ?_
  · refine at_unread harg9 b9 _ _ (ix3 k h d) fun a => ?_
    match a with
    | ⟨0, _⟩ =>
      show 128 * ((h.val * 8 + k.val / 128 * 2 + d.val / 128) / 2 % 4) + 1 * (k.val % 128) = k.val
      omega
    | ⟨1, _⟩ =>
      show (h.val * 8 + k.val / 128 * 2 + d.val / 128) / 8 % 16 + 1 * 0 = h.val
      omega
    | ⟨2, _⟩ =>
      show 128 * ((h.val * 8 + k.val / 128 * 2 + d.val / 128) % 2) + 1 * (d.val % 128) = d.val
      omega
  · refine (wSc_apply harg3 x2 _).trans (congrArg x2 (funext fun a => Fin.ext ?_))
    match a with
    | ⟨0, _⟩ =>
      show (h.val * 8 + k.val / 128 * 2 + d.val / 128) % 8 = 2 * (k.val / 128) + d.val / 128
      omega
    | ⟨1, _⟩ =>
      show (h.val * 8 + k.val / 128 * 2 + d.val / 128) / 8 % 16 = h.val
      omega

theorem deqBlk0 (k : Fin k0_t1_loop.trips) (i : Fin 512) (j : Fin 128) (n : Fin 4096) (c : Fin 512) (hn : n.val = 512 * k.val + i.val) (hc : c.val = 0 + j.val) :
    deqBlk (F := Ideal) (harg10.unread b10) (harg11.unread b11) k 0 (ix2 i j) = Spec.C (inp x0 x1 x2 b9 b10 b11 b12) n c := by
  have hj := j.isLt
  have s0 : k0_off1 k 0 = 0 := by rw [k0_off1_eq]; rfl
  have s1 : k0_off1 k 1 = 512 * k.val := by rw [k0_off1_eq]; rfl
  have f0 : k0_off2 k 0 = 512 * k.val := by rw [k0_off2_eq]; rfl
  have f1 : k0_off2 k 1 = 0 := by rw [k0_off2_eq]; rfl
  refine (pay3 _ _ i j).trans (congrArg₂ (· * ·) ?_ ?_)
  · refine at_unread harg10 b10 _ _ (ix2 n c) fun a => ?_
    match a with
    | ⟨0, _⟩ =>
      show k0_off2 k 0 + 1 * i.val = n.val
      omega
    | ⟨1, _⟩ =>
      show k0_off2 k 1 + 1 * j.val = c.val
      omega
  · refine at_unread harg11 b11 _ _ (ix2 (⟨c.val / 128, by omega⟩ : Fin 4) n) fun a => ?_
    match a with
    | ⟨0, _⟩ =>
      show k0_off1 k 0 + 1 * 0 = c.val / 128
      omega
    | ⟨1, _⟩ =>
      show k0_off1 k 1 + 1 * i.val = n.val
      omega

theorem deqBlk1 (k : Fin k0_t1_loop.trips) (i : Fin 512) (j : Fin 128) (n : Fin 4096) (c : Fin 512) (hn : n.val = 512 * k.val + i.val) (hc : c.val = 128 + j.val) :
    deqBlk (F := Ideal) (harg10.unread b10) (harg11.unread b11) k 1 (ix2 i j) = Spec.C (inp x0 x1 x2 b9 b10 b11 b12) n c := by
  have hj := j.isLt
  have s0 : k0_off1 k 0 = 0 := by rw [k0_off1_eq]; rfl
  have s1 : k0_off1 k 1 = 512 * k.val := by rw [k0_off1_eq]; rfl
  have f0 : k0_off3 k 0 = 512 * k.val := by rw [k0_off3_eq]; rfl
  have f1 : k0_off3 k 1 = 128 := by rw [k0_off3_eq]; rfl
  refine (pay4 _ _ i j).trans (congrArg₂ (· * ·) ?_ ?_)
  · refine at_unread harg10 b10 _ _ (ix2 n c) fun a => ?_
    match a with
    | ⟨0, _⟩ =>
      show k0_off3 k 0 + 1 * i.val = n.val
      omega
    | ⟨1, _⟩ =>
      show k0_off3 k 1 + 1 * j.val = c.val
      omega
  · refine at_unread harg11 b11 _ _ (ix2 (⟨c.val / 128, by omega⟩ : Fin 4) n) fun a => ?_
    match a with
    | ⟨0, _⟩ =>
      show k0_off1 k 0 + 1 * 1 = c.val / 128
      omega
    | ⟨1, _⟩ =>
      show k0_off1 k 1 + 1 * i.val = n.val
      omega

theorem deqBlk2 (k : Fin k0_t1_loop.trips) (i : Fin 512) (j : Fin 128) (n : Fin 4096) (c : Fin 512) (hn : n.val = 512 * k.val + i.val) (hc : c.val = 256 + j.val) :
    deqBlk (F := Ideal) (harg10.unread b10) (harg11.unread b11) k 2 (ix2 i j) = Spec.C (inp x0 x1 x2 b9 b10 b11 b12) n c := by
  have hj := j.isLt
  have s0 : k0_off1 k 0 = 0 := by rw [k0_off1_eq]; rfl
  have s1 : k0_off1 k 1 = 512 * k.val := by rw [k0_off1_eq]; rfl
  have f0 : k0_off4 k 0 = 512 * k.val := by rw [k0_off4_eq]; rfl
  have f1 : k0_off4 k 1 = 256 := by rw [k0_off4_eq]; rfl
  refine (pay5 _ _ i j).trans (congrArg₂ (· * ·) ?_ ?_)
  · refine at_unread harg10 b10 _ _ (ix2 n c) fun a => ?_
    match a with
    | ⟨0, _⟩ =>
      show k0_off4 k 0 + 1 * i.val = n.val
      omega
    | ⟨1, _⟩ =>
      show k0_off4 k 1 + 1 * j.val = c.val
      omega
  · refine at_unread harg11 b11 _ _ (ix2 (⟨c.val / 128, by omega⟩ : Fin 4) n) fun a => ?_
    match a with
    | ⟨0, _⟩ =>
      show k0_off1 k 0 + 1 * 2 = c.val / 128
      omega
    | ⟨1, _⟩ =>
      show k0_off1 k 1 + 1 * i.val = n.val
      omega

theorem deqBlk3 (k : Fin k0_t1_loop.trips) (i : Fin 512) (j : Fin 128) (n : Fin 4096) (c : Fin 512) (hn : n.val = 512 * k.val + i.val) (hc : c.val = 384 + j.val) :
    deqBlk (F := Ideal) (harg10.unread b10) (harg11.unread b11) k 3 (ix2 i j) = Spec.C (inp x0 x1 x2 b9 b10 b11 b12) n c := by
  have hj := j.isLt
  have s0 : k0_off1 k 0 = 0 := by rw [k0_off1_eq]; rfl
  have s1 : k0_off1 k 1 = 512 * k.val := by rw [k0_off1_eq]; rfl
  have f0 : k0_off5 k 0 = 512 * k.val := by rw [k0_off5_eq]; rfl
  have f1 : k0_off5 k 1 = 384 := by rw [k0_off5_eq]; rfl
  refine (pay6 _ _ i j).trans (congrArg₂ (· * ·) ?_ ?_)
  · refine at_unread harg10 b10 _ _ (ix2 n c) fun a => ?_
    match a with
    | ⟨0, _⟩ =>
      show k0_off5 k 0 + 1 * i.val = n.val
      omega
    | ⟨1, _⟩ =>
      show k0_off5 k 1 + 1 * j.val = c.val
      omega
  · refine at_unread harg11 b11 _ _ (ix2 (⟨c.val / 128, by omega⟩ : Fin 4) n) fun a => ?_
    match a with
    | ⟨0, _⟩ =>
      show k0_off1 k 0 + 1 * 3 = c.val / 128
      omega
    | ⟨1, _⟩ =>
      show k0_off1 k 1 + 1 * i.val = n.val
      omega

theorem deqVal_apply (n : Fin 4096) (c : Fin 512) :
    deqVal (F := Ideal) (harg10.unread b10) (harg11.unread b11) (ix2 n c) = Spec.C (inp x0 x1 x2 b9 b10 b11 b12) n c := by
  have hn := n.isLt; have hc := c.isLt
  have e : (t1Of (n.val / 512)).val = n.val / 512 := Nat.mod_eq_of_lt (by omega)
  have en : n.val = 512 * (t1Of (n.val / 512)).val + n.val % 512 := by rw [e]; omega
  show deqBlk (F := Ideal) (harg10.unread b10) (harg11.unread b11) (t1Of (n.val / 512)) (c.val / 128) (ix2 (⟨n.val % 512, Nat.mod_lt _ (by decide)⟩ : Fin 512) (⟨c.val % 128, Nat.mod_lt _ (by decide)⟩ : Fin 128)) = _
  have hq : c.val / 128 = 0 ∨ c.val / 128 = 1 ∨ c.val / 128 = 2 ∨ c.val / 128 = 3 := by omega
  rcases hq with hq | hq | hq | hq <;> rw [hq]
  · exact deqBlk0 harg10 harg11 x0 x1 x2 b9 b10 b11 b12 _ _ _ n c en (by show c.val = 0 + c.val % 128; omega)
  · exact deqBlk1 harg10 harg11 x0 x1 x2 b9 b10 b11 b12 _ _ _ n c en (by show c.val = 128 + c.val % 128; omega)
  · exact deqBlk2 harg10 harg11 x0 x1 x2 b9 b10 b11 b12 _ _ _ n c en (by show c.val = 256 + c.val % 128; omega)
  · exact deqBlk3 harg10 harg11 x0 x1 x2 b9 b10 b11 b12 _ _ _ n c en (by show c.val = 384 + c.val % 128; omega)

/-- A head by its number. -/
theorem t2_val (h : Fin 16) : (t2Of h.val).val = h.val := Nat.mod_eq_of_lt h.isLt

theorem h1385_apply (h : Fin 16) (k : Fin 512) (d : Fin 256) :
    h1385 (F := Ideal) (harg13.unread (wVal (F := Ideal) (harg9.unread b9) (harg3.unread x2))) (t2Of h.val) (ix3 (0 : Fin 1) k d) = Spec.W (inp x0 x1 x2 b9 b10 b11 b12) k h d := by
  have e := t2_val h
  have f0 : k0_off6 (t2Of h.val) 0 = h.val := by rw [k0_off6_eq]; exact e
  have f1 : k0_off6 (t2Of h.val) 1 = 0 := by rw [k0_off6_eq]; rfl
  have f2 : k0_off6 (t2Of h.val) 2 = 0 := by rw [k0_off6_eq]; rfl
  rw [← wVal_apply harg3 harg9 x0 x1 x2 b9 b10 b11 b12 h k d]
  refine at_unread harg13 _ _ _ (ix3 h k d) fun a => ?_
  match a with
  | ⟨0, _⟩ =>
    show k0_off6 (t2Of h.val) 0 + 1 * 0 = h.val
    omega
  | ⟨1, _⟩ =>
    show k0_off6 (t2Of h.val) 1 + 1 * k.val = k.val
    omega
  | ⟨2, _⟩ =>
    show k0_off6 (t2Of h.val) 2 + 1 * d.val = d.val
    omega

theorem expVal_apply (h : Fin 16) (n : Fin 4096) (d : Fin 256) :
    expVal (F := Ideal) (h1385 (F := Ideal) (harg13.unread (wVal (F := Ideal) (harg9.unread b9) (harg3.unread x2))) (t2Of h.val)) (harg14.unread (deqVal (F := Ideal) (harg10.unread b10) (harg11.unread b11))) (ix2 n d) = Spec.KV (inp x0 x1 x2 b9 b10 b11 b12) h n d := by
  have hn := n.isLt
  have e : (t3Of (n.val / 512)).val = n.val / 512 := Nat.mod_eq_of_lt (by omega)
  have f0 : k0_off8 (t3Of (n.val / 512)) 0 = 512 * (t3Of (n.val / 512)).val := by rw [k0_off8_eq]; rfl
  have f1 : k0_off8 (t3Of (n.val / 512)) 1 = 0 := by rw [k0_off8_eq]; rfl
  rw [e] at f0
  unfold expVal expBlk
  refine (pay9 _ _ (⟨n.val % 512, Nat.mod_lt _ (by decide)⟩ : Fin 512) d).trans ?_
  refine Finset.sum_congr rfl fun k _ => ?_
  refine congrArg₂ (· * ·) ?_ (h1385_apply harg3 harg9 harg13 x0 x1 x2 b9 b10 b11 b12 h k d)
  rw [← deqVal_apply harg10 harg11 x0 x1 x2 b9 b10 b11 b12 n k]
  refine at_unread harg14 _ _ _ (ix2 n k) fun a => ?_
  match a with
  | ⟨0, _⟩ =>
    show k0_off8 (t3Of (n.val / 512)) 0 + 1 * (n.val % 512) = n.val
    omega
  | ⟨1, _⟩ =>
    show k0_off8 (t3Of (n.val / 512)) 1 + 1 * k.val = k.val
    omega

theorem hLo_apply (h : Fin 16) (n : Fin 4096) (d : Fin 128) :
    hLo (F := Ideal) arg15 harg15 (harg13.unread (wVal (F := Ideal) (harg9.unread b9) (harg3.unread x2))) (harg14.unread (deqVal (F := Ideal) (harg10.unread b10) (harg11.unread b11))) (t2Of h.val) (ix2 n d) = Spec.KV (inp x0 x1 x2 b9 b10 b11 b12) h n (⟨d.val, by omega⟩ : Fin 256) := by
  rw [← expVal_apply harg3 harg9 harg10 harg11 harg13 harg14 x0 x1 x2 b9 b10 b11 b12 h n _]
  refine at_unread harg15 _ _ _ (ix2 n (⟨d.val, by omega⟩ : Fin 256)) fun a => ?_
  match a with
  | ⟨0, _⟩ =>
    show 0 + 1 * n.val = n.val
    omega
  | ⟨1, _⟩ =>
    show 0 + 1 * d.val = d.val
    omega

theorem hHi_apply (h : Fin 16) (n : Fin 4096) (d : Fin 128) :
    hHi (F := Ideal) arg15 harg15 (harg13.unread (wVal (F := Ideal) (harg9.unread b9) (harg3.unread x2))) (harg14.unread (deqVal (F := Ideal) (harg10.unread b10) (harg11.unread b11))) (t2Of h.val) (ix2 n d) = Spec.KV (inp x0 x1 x2 b9 b10 b11 b12) h n (⟨128 + d.val, by omega⟩ : Fin 256) := by
  rw [← expVal_apply harg3 harg9 harg10 harg11 harg13 harg14 x0 x1 x2 b9 b10 b11 b12 h n _]
  refine at_unread harg15 _ _ _ (ix2 n (⟨128 + d.val, by omega⟩ : Fin 256)) fun a => ?_
  match a with
  | ⟨0, _⟩ =>
    show 0 + 1 * n.val = n.val
    omega
  | ⟨1, _⟩ =>
    show 128 + 1 * d.val = 128 + d.val
    omega

theorem h1388_apply (h r : Fin 16) (d : Fin 128) :
    h1388 (F := Ideal) (harg0.unread x0) (t2Of h.val) (ix3 (0 : Fin 1) r d) = x0 (ix3 h r d) := by
  have e := t2_val h
  have f0 : k0_off7 (t2Of h.val) 0 = h.val := by rw [k0_off7_eq]; exact e
  have f1 : k0_off7 (t2Of h.val) 1 = 0 := by rw [k0_off7_eq]; rfl
  have f2 : k0_off7 (t2Of h.val) 2 = 0 := by rw [k0_off7_eq]; rfl
  refine at_unread harg0 _ _ _ (ix3 h r d) fun a => ?_
  match a with
  | ⟨0, _⟩ =>
    show k0_off7 (t2Of h.val) 0 + 1 * 0 = h.val
    omega
  | ⟨1, _⟩ =>
    show k0_off7 (t2Of h.val) 1 + 1 * r.val = r.val
    omega
  | ⟨2, _⟩ =>
    show k0_off7 (t2Of h.val) 2 + 1 * d.val = d.val
    omega

theorem h1396_apply (h r : Fin 16) (d : Fin 128) :
    h1396 (F := Ideal) (harg1.unread x1) (t2Of h.val) (ix2 r d) = x1 (ix2 (⟨16 * h.val + r.val, by omega⟩ : Fin 256) d) := by
  have e := t2_val h
  have f0 : k0_off10 (t2Of h.val) 0 = 16 * (t2Of h.val).val := by rw [k0_off10_eq]; rfl
  have f1 : k0_off10 (t2Of h.val) 1 = 0 := by rw [k0_off10_eq]; rfl
  rw [e] at f0
  refine at_unread harg1 _ _ _ (ix2 (⟨16 * h.val + r.val, by omega⟩ : Fin 256) d) fun a => ?_
  match a with
  | ⟨0, _⟩ =>
    show k0_off10 (t2Of h.val) 0 + 1 * r.val = 16 * h.val + r.val
    omega
  | ⟨1, _⟩ =>
    show k0_off10 (t2Of h.val) 1 + 1 * d.val = d.val
    omega

theorem h1399_apply (d : Fin 64) (n : Fin 4096) :
    h1399 (F := Ideal) (harg12.unread b12) (ix2 d n) = b12 (ix2 d n) := by
  refine at_unread harg12 _ _ _ (ix2 d n) fun a => ?_
  match a with
  | ⟨0, _⟩ =>
    show 0 + 1 * d.val = d.val
    omega
  | ⟨1, _⟩ =>
    show 0 + 1 * n.val = n.val
    omega

theorem S_apply (h r : Fin 16) (n : Fin 4096) :
    k0_pay10 (F := Ideal) (h1388 (F := Ideal) (harg0.unread x0) (t2Of h.val)) (hLo (F := Ideal) arg15 harg15 (harg13.unread (wVal (F := Ideal) (harg9.unread b9) (harg3.unread x2))) (harg14.unread (deqVal (F := Ideal) (harg10.unread b10) (harg11.unread b11))) (t2Of h.val)) (h1396 (F := Ideal) (harg1.unread x1) (t2Of h.val)) (h1399 (F := Ideal) (harg12.unread b12)) (ix2 r n) = Spec.S (inp x0 x1 x2 b9 b10 b11 b12) h r n := by
  rw [pay10]
  unfold Spec.S
  refine congrArg (fun z => (_ * z) * _) (congrArg₂ (· + ·) (Finset.sum_congr rfl fun d _ => ?_) (Finset.sum_congr rfl fun d _ => ?_))
  · exact congrArg₂ (· * ·) (h1388_apply harg0 x0 h r d) (hLo_apply harg3 harg9 harg10 harg11 harg13 harg14 harg15 x0 x1 x2 b9 b10 b11 b12 h n d)
  · exact congrArg₂ (· * ·) (h1396_apply harg1 x1 h r _) (h1399_apply harg12 b12 d n)

theorem M_apply (h r : Fin 16) :
    k0_pay11 (F := Ideal) (h1388 (F := Ideal) (harg0.unread x0) (t2Of h.val)) (hLo (F := Ideal) arg15 harg15 (harg13.unread (wVal (F := Ideal) (harg9.unread b9) (harg3.unread x2))) (harg14.unread (deqVal (F := Ideal) (harg10.unread b10) (harg11.unread b11))) (t2Of h.val)) (h1396 (F := Ideal) (harg1.unread x1) (t2Of h.val)) (h1399 (F := Ideal) (harg12.unread b12)) (ix2 r (0 : Fin 1)) = Spec.M (inp x0 x1 x2 b9 b10 b11 b12) h r := by
  rw [pay11]
  unfold Spec.M
  have e : (fun n => k0_pay10 (F := Ideal) (h1388 (F := Ideal) (harg0.unread x0) (t2Of h.val)) (hLo (F := Ideal) arg15 harg15 (harg13.unread (wVal (F := Ideal) (harg9.unread b9) (harg3.unread x2))) (harg14.unread (deqVal (F := Ideal) (harg10.unread b10) (harg11.unread b11))) (t2Of h.val)) (h1396 (F := Ideal) (harg1.unread x1) (t2Of h.val)) (h1399 (F := Ideal) (harg12.unread b12)) (ix2 r n)) = fun n => Spec.S (inp x0 x1 x2 b9 b10 b11 b12) h r n :=
    funext fun n => S_apply harg0 harg1 harg3 harg9 harg10 harg11 harg12 harg13 harg14 harg15 x0 x1 x2 b9 b10 b11 b12 h r n
  rw [e]

theorem P_apply (h r : Fin 16) (n : Fin 4096) :
    k0_pay12 (F := Ideal) (h1388 (F := Ideal) (harg0.unread x0) (t2Of h.val)) (hLo (F := Ideal) arg15 harg15 (harg13.unread (wVal (F := Ideal) (harg9.unread b9) (harg3.unread x2))) (harg14.unread (deqVal (F := Ideal) (harg10.unread b10) (harg11.unread b11))) (t2Of h.val)) (h1396 (F := Ideal) (harg1.unread x1) (t2Of h.val)) (h1399 (F := Ideal) (harg12.unread b12)) (ix2 r n) = Spec.P (inp x0 x1 x2 b9 b10 b11 b12) h r n := by
  rw [pay12, S_apply harg0 harg1 harg3 harg9 harg10 harg11 harg12 harg13 harg14 harg15 x0 x1 x2 b9 b10 b11 b12 h r n,
    M_apply harg0 harg1 harg3 harg9 harg10 harg11 harg12 harg13 harg14 harg15 x0 x1 x2 b9 b10 b11 b12 h r]
  rfl

theorem D_apply (h r : Fin 16) :
    k0_pay13 (F := Ideal) (h1388 (F := Ideal) (harg0.unread x0) (t2Of h.val)) (hLo (F := Ideal) arg15 harg15 (harg13.unread (wVal (F := Ideal) (harg9.unread b9) (harg3.unread x2))) (harg14.unread (deqVal (F := Ideal) (harg10.unread b10) (harg11.unread b11))) (t2Of h.val)) (h1396 (F := Ideal) (harg1.unread x1) (t2Of h.val)) (h1399 (F := Ideal) (harg12.unread b12)) (ix2 r (0 : Fin 1)) = Spec.D (inp x0 x1 x2 b9 b10 b11 b12) h r := by
  rw [pay13]
  exact Finset.sum_congr rfl fun n _ => P_apply harg0 harg1 harg3 harg9 harg10 harg11 harg12 harg13 harg14 harg15 x0 x1 x2 b9 b10 b11 b12 h r n

/-- The kernel's first result. -/
theorem kO7_apply (r : Fin 10) (h : Fin 16) (d : Fin 128) :
    kO7 (F := Ideal) harg0 harg1 harg3 harg9 harg10 harg11 harg12 harg13 harg14 harg15 x0 x1 x2 b9 b10 b11 b12 (ix3 r h d)
      = Spec.O (inp x0 x1 x2 b9 b10 b11 b12) h (⟨r.val, by omega⟩ : Fin 16) d := by
  unfold kO7 out7
  show hO (F := Ideal) arg15 harg15 (harg0.unread x0) (harg1.unread x1) (harg12.unread b12) (harg13.unread (wVal (F := Ideal) (harg9.unread b9) (harg3.unread x2))) (harg14.unread (deqVal (F := Ideal) (harg10.unread b10) (harg11.unread b11))) (t2Of h.val) (ix3 r (0 : Fin 1) d) = _
  unfold hO
  rw [pay15, pay14, D_apply harg0 harg1 harg3 harg9 harg10 harg11 harg12 harg13 harg14 harg15 x0 x1 x2 b9 b10 b11 b12 h]
  unfold Spec.O
  refine congrArg (fun z => FloatOps.divf (F := Ideal) (φ := .f32) z _) (Finset.sum_congr rfl fun n _ => ?_)
  exact congrArg₂ (· * ·) (P_apply harg0 harg1 harg3 harg9 harg10 harg11 harg12 harg13 harg14 harg15 x0 x1 x2 b9 b10 b11 b12 h _ n)
    (hHi_apply harg3 harg9 harg10 harg11 harg13 harg14 harg15 x0 x1 x2 b9 b10 b11 b12 h n d)

theorem kL_apply (h r : Fin 16) (d : Fin 128) :
    kL (F := Ideal) harg0 harg1 harg3 harg9 harg10 harg11 harg12 harg13 harg14 harg15 x0 x1 x2 b9 b10 b11 b12 h.val (ix3 (0 : Fin 1) r d)
      = Spec.L (inp x0 x1 x2 b9 b10 b11 b12) h r := by
  unfold kL hL
  rw [pay16, D_apply harg0 harg1 harg3 harg9 harg10 harg11 harg12 harg13 harg14 harg15 x0 x1 x2 b9 b10 b11 b12 h,
    M_apply harg0 harg1 harg3 harg9 harg10 harg11 harg12 harg13 harg14 harg15 x0 x1 x2 b9 b10 b11 b12 h]
  rfl

/-- The kernel's second result. -/
theorem gatherL_apply (r : Fin 10) (h : Fin 16) :
    gatherL (F := Ideal) (kL (F := Ideal) harg0 harg1 harg3 harg9 harg10 harg11 harg12 harg13 harg14 harg15 x0 x1 x2 b9 b10 b11 b12) (ix2 r h)
      = Spec.L (inp x0 x1 x2 b9 b10 b11 b12) h (⟨r.val, by omega⟩ : Fin 16) - FloatOps.ofBits (F := Ideal) .f32 0x41051592#32 := by
  rw [gather, kL_apply harg0 harg1 harg3 harg9 harg10 harg11 harg12 harg13 harg14 harg15 x0 x1 x2 b9 b10 b11 b12 h]

end Cert.KernelIdeal.Val
-- ==== Proof.Value.KerEnd.lean ====
/- What the kernel's program leaves in its two results, from the arrays it is launched with. -/
module

public import proofs.«01_k».proof.Proof.KernelIdeal.Launch
public import proofs.«01_k».proof.Proof.Value.Ker

@[expose] public section

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.Pipeline

variable (m : (ℓ : Loc nD τ sig) → Buf (Elt Ideal) ℓ)

/-- The block index of each operand window at the one point. -/
theorem idx0 : win0_0.index t0_0 = ![0, 0, 0] := by decide +kernel
theorem idx1 : win0_1.index t0_0 = ![0, 0] := by decide +kernel
theorem idx2 : win0_2.index t0_0 = ![0, 0] := by decide +kernel

theorem iblk0 (c : Dev nD) : iblk m c 0 t0_0 = m ((c : Thread nD τ).loc main_arg0) := by
  rw [← V_main_arg0 m c]
  unfold iblk
  generalize V m c = v
  blk_ext! [idx0]

theorem iblk1 (c : Dev nD) : iblk m c 1 t0_0 = m ((c : Thread nD τ).loc main_arg1) := by
  rw [← V_main_arg1 m c]
  unfold iblk
  generalize V m c = v
  blk_ext! [idx1]

theorem iblk2 (c : Dev nD) : iblk m c 2 t0_0 = V m c main_v1 := by
  unfold iblk
  generalize V m c = v
  blk_ext! [idx2]

theorem V1 (c : Dev nD) : V m c main_v1 = shapeCast S8x16 (transpose S4x2x16 [0, 2, 1] (m ((c : Thread nD τ).loc main_arg3)) transposes_S4x16x2_S4x2x16_0_2_1) shapeCasts_S4x2x16_S8x16 := by
  simp only [V, hostOps0]
  after_results
  rfl
theorem V2 (c : Dev nD) : V m c main_v2 = transpose S4x4096 [1, 0] (m ((c : Thread nD τ).loc main_arg5)) transposes_S4096x4_S4x4096_1_0 := by
  simp only [V, hostOps0]
  after_results
theorem V3 (c : Dev nD) : V m c main_v3 = transpose S64x4096 [1, 0] (m ((c : Thread nD τ).loc main_arg6)) transposes_S4096x64_S64x4096_1_0 := by
  simp only [V, hostOps0]
  after_results

/-- The arrays the program is launched with, as the value's inputs. -/
def args (c : Dev nD) : Spec.Inp where
  q := m ((c : Thread nD τ).loc main_arg0)
  pe := m ((c : Thread nD τ).loc main_arg1)
  cw := m ((c : Thread nD τ).loc main_arg2)
  ws := m ((c : Thread nD τ).loc main_arg3)
  pc := m ((c : Thread nD τ).loc main_arg4)
  ps := m ((c : Thread nD τ).loc main_arg5)
  kr := m ((c : Thread nD τ).loc main_arg6)

theorem ws_eq (x : FVec Ideal S4x16x2 .f32) (i : S4x16x2.Idx) :
    shapeCast S8x16 (transpose S4x2x16 [0, 2, 1] x transposes_S4x16x2_S4x2x16_0_2_1) shapeCasts_S4x2x16_S8x16
      (ix2 (⟨2 * (i 0).val + (i 2).val, by have h0 : (i 0).val < 4 := (i 0).isLt; have h2 : (i 2).val < 2 := (i 2).isLt; omega⟩ : Fin 8) (⟨(i 1).val, (i 1).isLt⟩ : Fin 16)) = x i := by
  have h0 : (i 0).val < 4 := (i 0).isLt
  have h1 : (i 1).val < 16 := (i 1).isLt
  have h2 : (i 2).val < 2 := (i 2).isLt
  pointwise

theorem ps_eq (x : FVec Ideal S4096x4 .f32) (i : S4096x4.Idx) :
    transpose S4x4096 [1, 0] x transposes_S4096x4_S4x4096_1_0 (ix2 (⟨(i 1).val, (i 1).isLt⟩ : Fin 4) (⟨(i 0).val, (i 0).isLt⟩ : Fin 4096)) = x i := by
  pointwise

theorem kr_eq (x : FVec Ideal S4096x64 .bf16) (i : S4096x64.Idx) :
    transpose S64x4096 [1, 0] x transposes_S4096x64_S64x4096_1_0 (ix2 (⟨(i 1).val, (i 1).isLt⟩ : Fin 64) (⟨(i 0).val, (i 0).isLt⟩ : Fin 4096)) = x i := by
  pointwise

/-- The body's arrays are the program's. -/
theorem inp_eq (c : Dev nD) :
    inp (iblk m c 0 t0_0) (iblk m c 1 t0_0) (iblk m c 2 t0_0) (B9 (c := c) (V m c main_arg2)) (B10 (c := c) (V m c main_arg4)) (B11 (c := c) (V m c main_v2)) (B12 (c := c) (V m c main_v3))
      = args m c := by
  rw [iblk0, iblk1, iblk2, V1, V2, V3, V_main_arg2, V_main_arg4]
  unfold inp args
  congr 1
  · exact funext fun i => ws_eq _ i
  · exact funext fun i => ps_eq _ i
  · exact funext fun i => kr_eq _ i

/-- The first result, entry by entry. -/
theorem res3_eq (c : Dev nD) (r : Fin 10) (h : Fin 16) (d : Fin 128) :
    res3 (F := Ideal) m c t0_0 (ix3 r h d) = Spec.O (args m c) h (⟨r.val, by omega⟩ : Fin 16) d := by
  unfold res3
  rw [kO7_apply, inp_eq]

/-- The second result, entry by entry. -/
theorem res4_eq (c : Dev nD) (r : Fin 10) (h : Fin 16) :
    res4 (F := Ideal) m c t0_0 (ix2 r h)
      = Spec.L (args m c) h (⟨r.val, by omega⟩ : Fin 16) - FloatOps.ofBits (F := Ideal) .f32 0x41051592#32 := by
  unfold res4
  rw [gatherL_apply, inp_eq]

end Cert.KernelIdeal.Val
-- ==== Proof.Value.Ref.lean ====
/- The reference's two results, entry by entry. -/
module

public import proofs.«01_k».proof.Proof.Gen.ReferenceIdeal.Read
public import proofs.«01_k».proof.Proof.Value.Spec
public import Idealize.ShloMosaic.Lib.KernelVsHost

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe

variable (x0 : FVec Ideal S16x16x128 .bf16) (x1 : FVec Ideal S256x128 .f32) (x3 : FVec Ideal S4x16x2 .f32) (x5 : FVec Ideal S4096x4 .f32)
  (x6 : FVec Ideal S4096x64 .bf16) (r0 : FVec Ideal S512x16x256 .bf16) (r1 : FVec Ideal S4096x512 .bf16)

/-- The reference's arrays as the value's inputs. -/
def inp : Spec.Inp := ⟨x0, x1, r0, x3, r1, x5, x6⟩

theorem v12 (k : Fin 512) (h : Fin 16) (d : Fin 256) :
    val_main_v12 (F := Ideal) x3 r0 (ix3 k h d) = Spec.W (inp x0 x1 x3 x5 x6 r0 r1) k h d := by
  rw [val_main_v12_apply, val_main_v11_apply, val_main_v10_apply, val_main_v9_apply, val_main_v8_apply, val_main_v7_apply]
  refine congrArg (fun i => r0 (ix3 k h d) * x3 i) ?_
  have hk := k.isLt; have hh := h.isLt; have hd := d.isLt
  funext a
  match a with
  | ⟨0, _⟩ =>
    apply Fin.ext
    show ((((k.val * 16 + h.val) * 256 + d.val) / 4096 * 16 + ((k.val * 16 + h.val) * 256 + d.val) / 256 % 16) * 2 + ((k.val * 16 + h.val) * 256 + d.val) / 128 % 2) / 4096 = k.val / 128
    omega
  | ⟨1, _⟩ =>
    apply Fin.ext
    show ((((k.val * 16 + h.val) * 256 + d.val) / 4096 * 16 + ((k.val * 16 + h.val) * 256 + d.val) / 256 % 16) * 2 + ((k.val * 16 + h.val) * 256 + d.val) / 128 % 2) / 2 % 16 = h.val
    omega
  | ⟨2, _⟩ =>
    apply Fin.ext
    show ((((k.val * 16 + h.val) * 256 + d.val) / 4096 * 16 + ((k.val * 16 + h.val) * 256 + d.val) / 256 % 16) * 2 + ((k.val * 16 + h.val) * 256 + d.val) / 128 % 2) % 2 = d.val / 128
    omega

theorem v18 (n : Fin 4096) (k : Fin 512) : val_main_v18 (F := Ideal) x5 r1 (ix2 n k) = Spec.C (inp x0 x1 x3 x5 x6 r0 r1) n k := by
  rw [val_main_v18_apply, val_main_v17_apply, val_main_v16_apply, val_main_v15_apply]
  refine congrArg (fun i => r1 (ix2 n k) * x5 i) ?_
  have hk := k.isLt; have hn := n.isLt
  funext a
  match a with
  | ⟨0, _⟩ =>
    apply Fin.ext
    show (n.val * 512 + k.val) / 512 = n.val
    omega
  | ⟨1, _⟩ =>
    apply Fin.ext
    show (n.val * 512 + k.val) / 128 % 4 = k.val / 128
    omega

theorem v21 (h : Fin 16) (n : Fin 4096) (d : Fin 128) :
    val_main_v21 (F := Ideal) x3 x5 r0 r1 (ix3 h n d) = Spec.KV (inp x0 x1 x3 x5 x6 r0 r1) h n (⟨d.val, by omega⟩ : Fin 256) := by
  rw [val_main_v21_apply, val_main_v20_apply, val_main_v19_apply]
  show (∑ k : Fin 512, _) = ∑ k : Fin 512, _
  refine Finset.sum_congr rfl fun k _ => ?_
  rw [val_main_v13_apply]
  refine (congrArg₂ (· * ·) (congrArg (val_main_v12 (F := Ideal) x3 r0) ?_) (congrArg (val_main_v18 (F := Ideal) x5 r1) ?_)).trans
    ((congrArg₂ (· * ·) (v12 x0 x1 x3 x5 x6 r0 r1 k h (⟨d.val, by omega⟩ : Fin 256)) (v18 x0 x1 x3 x5 x6 r0 r1 n k)).trans (mul_comm _ _))
  · funext a
    match a with
    | ⟨0, _⟩ => rfl
    | ⟨1, _⟩ => rfl
    | ⟨2, _⟩ => rfl
  · funext a
    match a with
    | ⟨0, _⟩ => rfl
    | ⟨1, _⟩ => rfl

theorem v24 (h : Fin 16) (n : Fin 4096) (d : Fin 128) :
    val_main_v24 (F := Ideal) x3 x5 r0 r1 (ix3 h n d) = Spec.KV (inp x0 x1 x3 x5 x6 r0 r1) h n (⟨128 + d.val, by omega⟩ : Fin 256) := by
  rw [val_main_v24_apply, val_main_v23_apply, val_main_v22_apply]
  show (∑ k : Fin 512, _) = ∑ k : Fin 512, _
  refine Finset.sum_congr rfl fun k _ => ?_
  rw [val_main_v14_apply]
  refine (congrArg₂ (· * ·) (congrArg (val_main_v12 (F := Ideal) x3 r0) ?_) (congrArg (val_main_v18 (F := Ideal) x5 r1) ?_)).trans
    ((congrArg₂ (· * ·) (v12 x0 x1 x3 x5 x6 r0 r1 k h (⟨128 + d.val, by omega⟩ : Fin 256)) (v18 x0 x1 x3 x5 x6 r0 r1 n k)).trans (mul_comm _ _))
  · funext a
    match a with
    | ⟨0, _⟩ => rfl
    | ⟨1, _⟩ => rfl
    | ⟨2, _⟩ => rfl
  · funext a
    match a with
    | ⟨0, _⟩ => rfl
    | ⟨1, _⟩ => rfl

/-- The query row a result's row names. -/
abbrev row (r : Fin 10) : Fin 16 := ⟨r.val, by omega⟩

theorem v26 (r : Fin 10) (h : Fin 16) (n : Fin 4096) :
    val_main_v26 (F := Ideal) x0 x3 x5 r0 r1 (ix3 r h n)
      = ∑ d : Fin 128, x0 (ix3 h (row r) d) * Spec.KV (inp x0 x1 x3 x5 x6 r0 r1) h n (⟨d.val, by omega⟩ : Fin 256) := by
  rw [val_main_v26_apply, val_main_v25_apply]
  refine Finset.sum_congr rfl fun d _ => ?_
  rw [val_main_v2_apply, val_main_v1_apply]
  refine (mul_comm _ _).trans (congrArg₂ (· * ·) (congrArg x0 ?_) ((congrArg (val_main_v21 (F := Ideal) x3 x5 r0 r1) ?_).trans (v21 x0 x1 x3 x5 x6 r0 r1 h n d)))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

theorem v27 (r : Fin 10) (h : Fin 16) (n : Fin 4096) :
    val_main_v27 (F := Ideal) x1 x6 (ix3 r h n)
      = ∑ d : Fin 64, x1 (ix2 (⟨16 * h.val + (row r).val, by have := r.isLt; have := h.isLt; show 16 * h.val + r.val < 256; omega⟩ : Fin 256) (⟨d.val, by omega⟩ : Fin 128)) * x6 (ix2 n d) := by
  rw [val_main_v27_apply]
  refine Finset.sum_congr rfl fun d _ => ?_
  rw [val_main_v6_apply, val_main_v5_apply, val_main_v4_apply, val_main_v3_apply]
  refine congrArg₂ (· * ·) (congrArg x1 ?_) (congrArg x6 ?_)
  · have hd := d.isLt; have hr := r.isLt; have hh := h.isLt
    funext a
    match a with
    | ⟨0, _⟩ =>
      apply Fin.ext
      show ((h.val * 16 + r.val) * 128 + d.val) / 128 = 16 * h.val + r.val
      omega
    | ⟨1, _⟩ =>
      apply Fin.ext
      show ((h.val * 16 + r.val) * 128 + d.val) % 128 = d.val
      omega
  · funext a
    match a with
    | ⟨0, _⟩ => rfl
    | ⟨1, _⟩ => rfl

theorem v32 (r : Fin 10) (h : Fin 16) (n : Fin 4096) :
    val_main_v32 (F := Ideal) x0 x1 x3 x5 x6 r0 r1 (ix3 r h n) = Spec.S (inp x0 x1 x3 x5 x6 r0 r1) h (row r) n := by
  rw [val_main_v32_apply, val_main_v30_apply, val_main_v28_apply, v26 x0 x1 x3 x5 x6 r0 r1, v27, val_main_v31_apply, val_main_v29_apply]
  rfl

theorem v33 (r : Fin 10) (h : Fin 16) :
    val_main_v33 (F := Ideal) x0 x1 x3 x5 x6 r0 r1 (ix2 r h)
      = (Finset.univ : Finset (Fin 4096)).fold max (FloatOps.ofBits (F := Ideal) .f32 0xFF800000#32) (fun n => Spec.S (inp x0 x1 x3 x5 x6 r0 r1) h (row r) n) := by
  unfold val_main_v33 val_main_cst_1
  have e : ∀ n, val_main_v32 (F := Ideal) x0 x1 x3 x5 x6 r0 r1 (ix3 r h n) = Spec.S (inp x0 x1 x3 x5 x6 r0 r1) h (row r) n := v32 x0 x1 x3 x5 x6 r0 r1 r h
  revert e
  generalize val_main_v32 (F := Ideal) x0 x1 x3 x5 x6 r0 r1 = y
  intro e
  rw [hostReduce_maximumf_eq_multiReduction (h' := by decide) (hφ := by decide) (hacc := by rfl)]
  pointwise
  simp only [e]

theorem v34 (r : Fin 10) (h : Fin 16) :
    val_main_v34 (F := Ideal) x0 x1 x3 x5 x6 r0 r1 (ix2 r h) = Spec.M (inp x0 x1 x3 x5 x6 r0 r1) h (row r) := by
  rw [val_main_v34_apply, v33]
  rfl

theorem v39 (r : Fin 10) (h : Fin 16) (n : Fin 4096) :
    val_main_v39 (F := Ideal) x0 x1 x3 x5 x6 r0 r1 (ix3 r h n) = Spec.P (inp x0 x1 x3 x5 x6 r0 r1) h (row r) n := by
  rw [val_main_v39_apply, val_main_v38_apply, val_main_v35_apply, val_main_v37_apply, val_main_v36_apply, v32]
  have e : idx_main_v36 (idx_main_v37 (ix3 r h n)) = ix2 r h := by
    funext a
    match a with
    | ⟨0, _⟩ => rfl
    | ⟨1, _⟩ => rfl
  rw [e, v34, val_main_cst_2_apply, Spec.two_eq]
  exact Spec.pow_two _

theorem v40 (r : Fin 10) (h : Fin 16) :
    val_main_v40 (F := Ideal) x0 x1 x3 x5 x6 r0 r1 (ix2 r h) = Spec.D (inp x0 x1 x3 x5 x6 r0 r1) h (row r) := by
  rw [val_main_v40_apply, val_main_cst_3_apply]
  refine (congrArg (· + _) (show FloatOps.ofBits (F := Ideal) .f32 0x00000000#32 = 0 from Ideal.ofBits_zero_f32)).trans ((zero_add _).trans ?_)
  refine Finset.sum_congr rfl fun n _ => ?_
  rw [← v39 x0 x1 x3 x5 x6 r0 r1]
  refine congrArg _ ?_
  funext a
  match a with
  | ⟨0, _⟩ => rfl
  | ⟨1, _⟩ => rfl
  | ⟨2, _⟩ => rfl

theorem v43 (r : Fin 10) (h : Fin 16) (d : Fin 128) :
    val_main_v43 (F := Ideal) x0 x1 x3 x5 x6 r0 r1 (ix3 r h d)
      = ∑ n : Fin 4096, Spec.P (inp x0 x1 x3 x5 x6 r0 r1) h (row r) n * Spec.KV (inp x0 x1 x3 x5 x6 r0 r1) h n (⟨128 + d.val, by omega⟩ : Fin 256) := by
  rw [val_main_v43_apply, val_main_v42_apply]
  refine Finset.sum_congr rfl fun n _ => ?_
  rw [val_main_v41_apply]
  refine (mul_comm _ _).trans (congrArg₂ (· * ·)
    ((congrArg (val_main_v39 (F := Ideal) x0 x1 x3 x5 x6 r0 r1) ?_).trans (v39 x0 x1 x3 x5 x6 r0 r1 r h n))
    ((congrArg (val_main_v24 (F := Ideal) x3 x5 r0 r1) ?_).trans (v24 x0 x1 x3 x5 x6 r0 r1 h n d)))
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The reference's first result. -/
theorem v46 (r : Fin 10) (h : Fin 16) (d : Fin 128) :
    val_main_v46 (F := Ideal) x0 x1 x3 x5 x6 r0 r1 (ix3 r h d) = Spec.O (inp x0 x1 x3 x5 x6 r0 r1) h (row r) d := by
  rw [val_main_v46_apply, val_main_v45_apply, val_main_v44_apply, v43]
  have e : idx_main_v44 (idx_main_v45 (ix3 r h d)) = ix2 r h := by
    funext a
    match a with
    | ⟨0, _⟩ => rfl
    | ⟨1, _⟩ => rfl
  rw [e, v40]
  rfl

/-- The reference's second result. -/
theorem v54 (r : Fin 10) (h : Fin 16) :
    val_main_v54 (F := Ideal) x0 x1 x3 x5 x6 r0 r1 (ix2 r h)
      = Spec.L (inp x0 x1 x3 x5 x6 r0 r1) h (row r) - FloatOps.ofBits (F := Ideal) .f32 0x41051592#32 := by
  rw [val_main_v54_apply, val_main_v52_apply, val_main_v50_apply, val_main_v49_apply, val_main_v47_apply, v34, v40,
    val_main_v48_apply, val_main_v51_apply, val_main_v53_apply]
  rfl

end Cert.ReferenceIdeal.Val
-- ==== Proof.Value.RefEnd.lean ====
/- What the reference leaves in its two results, from the arrays it is launched with. -/
module

public import proofs.«01_k».proof.Proof.Value.Ref
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Read Cert.ReferenceIdeal.Value Idealize.ShloMosaic Idealize.ShloMosaic.TcCoe Idealize.ShloMosaic.Pipeline

variable (m : (ℓ : Loc nD τ sig) → Buf (Elt Ideal) ℓ)

/-- The block index of each operand window at the one point. -/
theorem idx0 : win0_0.index t0_0 = ![0, 0, 0] := by decide +kernel
theorem idx1 : win0_1.index t0_0 = ![0, 0] := by decide +kernel

theorem iblk0 (c : Dev nD) : iblk m c 0 t0_0 = m ((c : Thread nD τ).loc main_arg2) := by
  rw [← V_main_arg2 m c]
  unfold iblk
  generalize V m c = v
  blk_ext! [idx0]

theorem iblk1 (c : Dev nD) : iblk m c 1 t0_0 = m ((c : Thread nD τ).loc main_arg4) := by
  rw [← V_main_arg4 m c]
  unfold iblk
  generalize V m c = v
  blk_ext! [idx1]

/-- The weights' codes, widened, are the codes. -/
theorem final2 (c : Dev nD) : (Gen.dats m 0 c).arrAt 2 cfg0.N = (m ((c : Thread nD τ).loc main_arg2) : S512x16x256.Idx → EReal) := by
  refine (Gen.dats m 0 c).arrAt_eq_of_after_last 2 t0_0 (by decide +kernel) _ fun j => ?_
  blk_simp
  rw [after0_2]
  unfold out0_2
  frame_out
  rw [iblk0]
  rfl

/-- The latent keys' codes, widened, are the codes. -/
theorem final3 (c : Dev nD) : (Gen.dats m 0 c).arrAt 3 cfg0.N = (m ((c : Thread nD τ).loc main_arg4) : S4096x512.Idx → EReal) := by
  refine (Gen.dats m 0 c).arrAt_eq_of_after_last 3 t0_0 (by decide +kernel) _ fun j => ?_
  blk_simp
  rw [after0_3]
  unfold out0_3
  frame_out
  rw [iblk1]
  rfl

/-- The arrays the reference is launched with, as the value's inputs. -/
def args (c : Dev nD) : Spec.Inp where
  q := m ((c : Thread nD τ).loc main_arg0)
  pe := m ((c : Thread nD τ).loc main_arg1)
  cw := m ((c : Thread nD τ).loc main_arg2)
  ws := m ((c : Thread nD τ).loc main_arg3)
  pc := m ((c : Thread nD τ).loc main_arg4)
  ps := m ((c : Thread nD τ).loc main_arg5)
  kr := m ((c : Thread nD τ).loc main_arg6)

theorem inp_eq (c : Dev nD) :
    inp (exitV m c (Proc.devRef .tc main_arg0)) (exitV m c (Proc.devRef .tc main_arg1)) (exitV m c (Proc.devRef .tc main_arg3)) (exitV m c (Proc.devRef .tc main_arg5)) (exitV m c (Proc.devRef .tc main_arg6))
      (exitV m c (Proc.devRef .tc main_v0_0)) (exitV m c (Proc.devRef .tc main_v0_1)) = args m c := by
  rw [exit_main_arg0, exit_main_arg1, exit_main_arg3, exit_main_arg5, exit_main_arg6, exit_main_v0_0, exit_main_v0_1]
  unfold reg_main_v0_0 reg_main_v0_1
  rw [final2, final3]
  rfl

end Cert.ReferenceIdeal.Val
-- ==== Proof.lean ====
module

public import proofs.«01_k».proof.Defs
public import proofs.«01_k».proof.Proof.Kernel.Launch
public import proofs.«01_k».proof.Proof.Value.KerEnd
public import proofs.«01_k».proof.Proof.Value.RefEnd

@[expose] public section

set_option maxRecDepth 16384

noncomputable section

namespace Cert.Proof

open Idealize.ShloMosaic Idealize.ShloMosaic.TcCoe

/-- Equal arrays at launch are equal inputs of the value. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.args m' c = Cert.KernelIdeal.Val.args m c := by
  unfold Cert.ReferenceIdeal.Val.args Cert.KernelIdeal.Val.args
  rw [h0, h1, h2, h3, h4, h5, h6]

/-- Over the extended reals the kernel and the reference leave the same two results. -/
theorem algebraic : Cert.algebraic_KernelIdeal_ReferenceIdeal := by
  intro m g m' g' _ hargs
  refine ⟨fun c => Cert.KernelIdeal.Hand.res3 m c Cert.KernelIdeal.Gen.t0_0, fun c => Cert.KernelIdeal.Hand.res4 m c Cert.KernelIdeal.Gen.t0_0,
    Cert.KernelIdeal.Hand.value_run m g, ?_⟩
  refine (θ_run _ _ _).mono (fun r h c => ?_) (Cert.ReferenceIdeal.Value.run m' g')
  obtain ⟨h0, h1, h2, h3, h4, h5, h6⟩ := hargs c
  have ea := args_eq m m' c h0 h1 h2 h3 h4 h5 h6
  obtain ⟨e46, e54, hrest⟩ := h c
  refine ⟨e46.trans ?_, e54.trans ?_, hrest⟩
  · rw [Cert.ReferenceIdeal.Read.val_main_v46_eq (Cert.ReferenceIdeal.Value.exitV m' c)]
    funext i
    obtain ⟨a, b, d, rfl⟩ : ∃ (a : Fin 10) (b : Fin 16) (d : Fin 128), i = ix3 a b d := ⟨i 0, i 1, i 2, funext fun x => match x with
      | ⟨0, _⟩ => rfl
      | ⟨1, _⟩ => rfl
      | ⟨2, _⟩ => rfl⟩
    refine (Cert.ReferenceIdeal.Val.v46 _ _ _ _ _ _ _ a b d).trans ?_
    rw [Cert.ReferenceIdeal.Val.inp_eq m' c, ea]
    exact (Cert.KernelIdeal.Val.res3_eq m c a b d).symm
  · rw [Cert.ReferenceIdeal.Read.val_main_v54_eq (Cert.ReferenceIdeal.Value.exitV m' c)]
    funext i
    obtain ⟨a, b, rfl⟩ : ∃ (a : Fin 10) (b : Fin 16), i = ix2 a b := ⟨i 0, i 1, funext fun x => match x with
      | ⟨0, _⟩ => rfl
      | ⟨1, _⟩ => rfl⟩
    refine (Cert.ReferenceIdeal.Val.v54 _ _ _ _ _ _ _ a b).trans ?_
    rw [Cert.ReferenceIdeal.Val.inp_eq m' c, ea]
    exact (Cert.KernelIdeal.Val.res4_eq m c a b).symm

theorem claim : Cert.Claim :=
  ⟨Cert.Kernel.Gen.facts, Cert.KernelIdeal.Gen.facts, Cert.ReferenceIdeal.Gen.facts,
    fun m ρ _ => Cert.Kernel.Hand.frame_claim m ρ,
    fun m ρ _ => Cert.KernelIdeal.Hand.frame_claim m ρ,
    fun m ρ _ => Cert.ReferenceIdeal.Gen.frame m ρ,
    trivial, algebraic⟩

end Cert.Proof

end
